-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "exp2_zero_gap" .f32 0x43180000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x32x1024x512 : Shape := ⟨4, ![2, 32, 1024, 512]⟩
abbrev S32768x1024 : Shape := ⟨2, ![32768, 1024]⟩
abbrev S64x1x1024 : Shape := ⟨3, ![64, 1, 1024]⟩
abbrev S2x32x128 : Shape := ⟨3, ![2, 32, 128]⟩
abbrev S_ : Shape := ⟨0, ![]⟩

class Facts : Prop where
  bitsLt_bf16_f32 : FTy.bits .bf16 < FTy.bits .f32
  bcast_S_S2x32x1024x512 : S_.BroadcastsInDim S2x32x1024x512 (![] : Fin 0 → Fin S2x32x1024x512.rank)
  reducesTo_S2x32x1024x512_S_d0_1_2_3 : S2x32x1024x512.ReducesTo [0, 1, 2, 3] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S2x32x128 : S_.BroadcastsInDim S2x32x128 (![] : Fin 0 → Fin S2x32x128.rank)
  reducesTo_S2x32x128_S_d0_1_2 : S2x32x128.ReducesTo [0, 1, 2] S_

variable [Facts]

def fn_part1 {F : FTy → Type} [FloatOps F] (main_v16 : IVec S_ 1) (main_v17 : FVec F S2x32x128 .f32) : IVec S_ 1 :=
  let main_cst_4 : FVec F S_ .f32 := constant S_ .f32 0x7F800000#32
  let main_v18 : FVec F S2x32x128 .f32 := broadcastInDim S2x32x128 ![] bcast_S_S2x32x128 main_cst_4
  let main_v19 : IVec S2x32x128 1 := cmpf .olt main_v17 main_v18
  let main_c_5 : IVec S_ 1 := constantI S_ 1 1#1
  let main_v20 : IVec S_ 1 := (fun x v => Host.reduce IntOp.andi x v reducesTo_S2x32x128_S_d0_1_2 h_S_) main_v19 main_c_5
  let main_v21 : IVec S_ 1 := andi main_v16 main_v20
  main_v21

def fn {F : FTy → Type} [FloatOps F] (main_arg0 : FVec F S2x32x1024x512 .bf16) (main_arg1 : FVec F S32768x1024 .bf16) (main_arg2 : FVec F S32768x1024 .bf16) (main_arg3 : FVec F S2x32x1024x512 .bf16) (main_arg4 : FVec F S64x1x1024 .f32) (main_arg5 : FVec F S2x32x128 .f32) : IVec S_ 1 :=
  let main_v0 : FVec F S2x32x1024x512 .f32 := (extf .f32 · bitsLt_bf16_f32) main_arg0
  let main_v1 : FVec F S2x32x1024x512 .f32 := Host.absf main_v0
  let main_cst : FVec F S_ .f32 := constant S_ .f32 0x7F800000#32
  let main_v2 : FVec F S2x32x1024x512 .f32 := broadcastInDim S2x32x1024x512 ![] bcast_S_S2x32x1024x512 main_cst
  let main_v3 : IVec S2x32x1024x512 1 := cmpf .olt main_v1 main_v2
  let main_c : IVec S_ 1 := constantI S_ 1 1#1
  let main_v4 : IVec S_ 1 := (fun x v => Host.reduce IntOp.andi x v reducesTo_S2x32x1024x512_S_d0_1_2_3 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  let main_v11 : FVec F S32768x1024 .f32 := (extf .f32 · bitsLt_bf16_f32) main_arg2
  let main_v12 : FVec F S32768x1024 .f32 := Host.absf main_v11
  let main_cst_2 : FVec F S_ .f32 := constant S_ .f32 0x7F800000#32
  let main_v13 : FVec F S32768x1024 .f32 := broadcastInDim S32768x1024 ![] bcast_S_S32768x1024 main_cst_2
  let main_v14 : IVec S32768x1024 1 := cmpf .olt main_v12 main_v13
  let main_c_3 : IVec S_ 1 := constantI S_ 1 1#1
  let main_v15 : IVec S_ 1 := (fun x v => Host.reduce IntOp.andi x v reducesTo_S32768x1024_S_d0_1 h_S_) main_v14 main_c_3
  let main_v16 : IVec S_ 1 := andi main_v10 main_v15
  let main_v17 : FVec F S2x32x128 .f32 := Host.absf main_arg5
  fn_part1 (F := F) main_v16 main_v17
-- ==== Kernel.lean ====
abbrev S2x32x1024x512 : Shape := ⟨4, ![2, 32, 1024, 512]⟩
abbrev S32768x1024 : Shape := ⟨2, ![32768, 1024]⟩
abbrev S64x1x1024 : Shape := ⟨3, ![64, 1, 1024]⟩
abbrev S2x32x128 : Shape := ⟨3, ![2, 32, 128]⟩
abbrev S2x32x512x1024 : Shape := ⟨4, ![2, 32, 512, 1024]⟩
abbrev S2x32x1024 : Shape := ⟨3, ![2, 32, 1024]⟩
abbrev S2x32x16 : Shape := ⟨3, ![2, 32, 16]⟩
abbrev S2x16x32 : Shape := ⟨3, ![2, 16, 32]⟩
abbrev S1024 : Shape := ⟨1, ![1024]⟩
abbrev S2x16384x1024 : Shape := ⟨3, ![2, 16384, 1024]⟩
abbrev S1x1x128x512 : Shape := ⟨4, ![1, 1, 128, 512]⟩
abbrev S1x32x512x128 : Shape := ⟨4, ![1, 32, 512, 128]⟩
abbrev S1x32x128x512 : Shape := ⟨4, ![1, 32, 128, 512]⟩
abbrev S1x32x128 : Shape := ⟨3, ![1, 32, 128]⟩
abbrev S1x512x128 : Shape := ⟨3, ![1, 512, 128]⟩
abbrev S2x1x512 : Shape := ⟨3, ![2, 1, 512]⟩
abbrev S2x80x512 : Shape := ⟨3, ![2, 80, 512]⟩
abbrev S2x512x512 : Shape := ⟨3, ![2, 512, 512]⟩
abbrev S128x512 : Shape := ⟨2, ![128, 512]⟩
abbrev S64x512 : Shape := ⟨2, ![64, 512]⟩
abbrev S256x512 : Shape := ⟨2, ![256, 512]⟩
abbrev S16x512 : Shape := ⟨2, ![16, 512]⟩
abbrev S1 : Shape := ⟨1, ![1]⟩
abbrev S1x512 : Shape := ⟨2, ![1, 512]⟩
abbrev S1x1x512x128 : Shape := ⟨4, ![1, 1, 512, 128]⟩
abbrev S512x128 : Shape := ⟨2, ![512, 128]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S1x1x512 : Shape := ⟨3, ![1, 1, 512]⟩
abbrev S32x128 : Shape := ⟨2, ![32, 128]⟩
abbrev S32x1 : Shape := ⟨2, ![32, 1]⟩
abbrev S32x512 : Shape := ⟨2, ![32, 512]⟩
abbrev S32 : Shape := ⟨1, ![32]⟩
abbrev S1x1 : Shape := ⟨2, ![1, 1]⟩
abbrev S1x32x1 : Shape := ⟨3, ![1, 32, 1]⟩
abbrev S1x1x1 : Shape := ⟨3, ![1, 1, 1]⟩
abbrev S80x512 : Shape := ⟨2, ![80, 512]⟩
abbrev S1x80x512 : Shape := ⟨3, ![1, 80, 512]⟩

abbrev nBuf : Space → Nat
  | .hbm => 13
  | .vmem => 18
  | .smem => 1
  | _ => 0

abbrev bufTy : (tb : Table) → Fin (tcTables nBuf tb) → BufTy
  | .hbm, ⟨0, _⟩ => ⟨S2x32x1024x512, .bf16⟩
  | .hbm, ⟨1, _⟩ => ⟨S32768x1024, .bf16⟩
  | .hbm, ⟨2, _⟩ => ⟨S32768x1024, .bf16⟩
  | .hbm, ⟨3, _⟩ => ⟨S2x32x1024x512, .bf16⟩
  | .hbm, ⟨4, _⟩ => ⟨S64x1x1024, .f32⟩
  | .hbm, ⟨5, _⟩ => ⟨S2x32x128, .f32⟩
  | .hbm, ⟨6, _⟩ => ⟨S2x32x512x1024, .bf16⟩
  | .hbm, ⟨7, _⟩ => ⟨S2x32x512x1024, .bf16⟩
  | .hbm, ⟨8, _⟩ => ⟨S2x32x1024, .f32⟩
  | .hbm, ⟨9, _⟩ => ⟨S2x32x16, .f32⟩
  | .hbm, ⟨10, _⟩ => ⟨S2x16x32, .f32⟩
  | .hbm, ⟨11, _⟩ => ⟨S1024, .f32⟩
  | .hbm, ⟨12, _⟩ => ⟨S2x16384x1024, .bf16⟩
  | .local _ .vmem, ⟨0, _⟩ => ⟨S1x1x128x512, .bf16⟩
  | .local _ .vmem, ⟨1, _⟩ => ⟨S1x1x128x512, .bf16⟩
  | .local _ .vmem, ⟨2, _⟩ => ⟨S1x32x512x128, .bf16⟩
  | .local _ .vmem, ⟨3, _⟩ => ⟨S1x32x512x128, .bf16⟩
  | .local _ .vmem, ⟨4, _⟩ => ⟨S1x32x512x128, .bf16⟩
  | .local _ .vmem, ⟨5, _⟩ => ⟨S1x32x512x128, .bf16⟩
  | .local _ .vmem, ⟨6, _⟩ => ⟨S1x32x128x512, .bf16⟩
  | .local _ .vmem, ⟨7, _⟩ => ⟨S1x32x128x512, .bf16⟩
  | .local _ .vmem, ⟨8, _⟩ => ⟨S1x32x128, .f32⟩
  | .local _ .vmem, ⟨9, _⟩ => ⟨S1x32x128, .f32⟩
  | .local _ .vmem, ⟨10, _⟩ => ⟨S1x512x128, .bf16⟩
  | .local _ .vmem, ⟨11, _⟩ => ⟨S1x512x128, .bf16⟩
  | .local _ .vmem, ⟨12, _⟩ => ⟨S2x1x512, .f32⟩
  | .local _ .vmem, ⟨13, _⟩ => ⟨S2x80x512, .f32⟩
  | .local _ .vmem, ⟨14, _⟩ => ⟨S2x512x512, .f32⟩
  | .local _ .vmem, ⟨15, _⟩ => ⟨S2x512x512, .f32⟩
  | .local _ .vmem, ⟨16, _⟩ => ⟨S2x1x512, .f32⟩
  | .local _ .vmem, ⟨17, _⟩ => ⟨S2x1x512, .f32⟩
  | .local _ .smem, ⟨0, _⟩ => ⟨S1024, .f32⟩
  | _, _ => ⟨S2x32x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 32], ![false, false, false]⟩

def k0_off1 (i : grid0.Coords) (c0_i32_9 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let v37 : BitVec 32 := Scalar.addi v31 arg2
  let v38 : Index := Scalar.indexCast v37
  ![v38.toNat]
def k0_off2 (i : grid0.Coords) : Fin 4 → Nat :=
  let c0_21 : Index := 0#32
  let arg2 : BitVec 32 := BitVec.ofNat 32 (i 2).val
  let v53 : Index := Scalar.indexCast arg2
  let c0_22 : Index := 0#32
  let c0_23 : Index := 0#32
  ![0, v53.toNat, 0, 0]
def k0_off3 (i : grid0.Coords) : Fin 4 → Nat :=
  let c0_44 : Index := 0#32
  let arg2 : BitVec 32 := BitVec.ofNat 32 (i 2).val
  let c1_i32_42 : BitVec 32 := 1#32
  let v78 : BitVec 32 := Scalar.subi arg2 c1_i32_42
  let c0_i32_43 : BitVec 32 := 0#32
  let v79 : BitVec 32 := Scalar.maxsi v78 c0_i32_43
  let v80 : Index := Scalar.indexCast v79
  let c0_45 : Index := 0#32
  let c0_46 : Index := 0#32
  ![0, v80.toNat, 0, 0]
def k0_off4 (i : grid0.Coords) (c0_i32_9 : BitVec 32) (c0_i32_79 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let v133 : BitVec 32 := Scalar.addi v31 c0_i32_79
  let c1_i32_80 : BitVec 32 := 1#32
  let v134 : BitVec 32 := Scalar.addi v133 c1_i32_80
  let v135 : Index := Scalar.indexCast v134
  ![v135.toNat]
def k0_off5 (i : grid0.Coords) : Fin 4 → Nat :=
  let c0_275 : Index := 0#32
  let arg2 : BitVec 32 := BitVec.ofNat 32 (i 2).val
  let v740 : Index := Scalar.indexCast arg2
  let c0_276 : Index := 0#32
  let c0_277 : Index := 0#32
  ![0, v740.toNat, 0, 0]
@[reducible] def k0_t1_loop (i : grid0.Coords) (v396 : BitVec 32) (v682 : BitVec 32) : Scf.Loop 32 :=
  let c0_i32_303 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v786 : BitVec 32 := Scalar.subi v785 c0_i32_303
  let c1_i32_304 : BitVec 32 := 1#32
  let v788 : BitVec 32 := Scalar.divsi v786 c1_i32_304
  let v789 : BitVec 32 := Scalar.muli v788 c1_i32_304
  let v790 : BitVec 32 := Scalar.addi c0_i32_303 v789
  let c1_i32_305 : BitVec 32 := 1#32
  ⟨c0_i32_303, v790, c1_i32_305⟩

def k0_off6 (i : grid0.Coords) (v396 : BitVec 32) (v682 : BitVec 32) (k0_t1 : Fin (k0_t1_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let c1_i32_305 : BitVec 32 := 1#32
  let arg16 : BitVec 32 := Scf.iv c0_i32_303 c1_i32_305 k0_t1
  let v875 : BitVec 32 := Scalar.muli c8_i32_352 arg16
  let v876 : BitVec 32 := Scalar.subi v766 v875
  let v877 : BitVec 32 := Scalar.subi v876 c0_i32_353
  let v882 : BitVec 32 := Scalar.addi v31 v877
  let v883 : Index := Scalar.indexCast v882
  ![v883.toNat]
def k0_off7 (i : grid0.Coords) (v396 : BitVec 32) (v682 : BitVec 32) (k0_t1 : Fin (k0_t1_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let c1_i32_305 : BitVec 32 := 1#32
  let arg16 : BitVec 32 := Scf.iv c0_i32_303 c1_i32_305 k0_t1
  let v875 : BitVec 32 := Scalar.muli c8_i32_352 arg16
  let v876 : BitVec 32 := Scalar.subi v766 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off8 (i : grid0.Coords) (v396 : BitVec 32) (v682 : BitVec 32) (k0_t1 : Fin (k0_t1_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let c1_i32_305 : BitVec 32 := 1#32
  let arg16 : BitVec 32 := Scf.iv c0_i32_303 c1_i32_305 k0_t1
  let v875 : BitVec 32 := Scalar.muli c8_i32_352 arg16
  let v876 : BitVec 32 := Scalar.subi v766 v875
  let v951 : BitVec 32 := Scalar.subi v876 c0_i32_402
  let v952 : Index := Scalar.indexCast v951
  let c0_404 : Index := 0#32
  let c0_405 : Index := 0#32
  ![0, v952.toNat, 0, 0]
@[reducible] def k0_t2_loop (i : grid0.Coords) (v396 : BitVec 32) (v682 : BitVec 32) : Scf.Loop 32 :=
  let c0_i32_303 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v786 : BitVec 32 := Scalar.subi v785 c0_i32_303
  let c1_i32_304 : BitVec 32 := 1#32
  let v788 : BitVec 32 := Scalar.divsi v786 c1_i32_304
  let v789 : BitVec 32 := Scalar.muli v788 c1_i32_304
  let v790 : BitVec 32 := Scalar.addi c0_i32_303 v789
  let v787 : BitVec 32 := Scalar.addi c0_i32_303 v786
  let c1_i32_306 : BitVec 32 := 1#32
  ⟨v790, v787, c1_i32_306⟩
def k0_off9 (i : grid0.Coords) (v396 : BitVec 32) (v682 : BitVec 32) (k0_t2 : Fin (k0_t2_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v786 : BitVec 32 := Scalar.subi v785 c0_i32_303
  let c1_i32_304 : BitVec 32 := 1#32
  let v788 : BitVec 32 := Scalar.divsi v786 c1_i32_304
  let v789 : BitVec 32 := Scalar.muli v788 c1_i32_304
  let v790 : BitVec 32 := Scalar.addi c0_i32_303 v789
  let c1_i32_306 : BitVec 32 := 1#32
  let arg16 : BitVec 32 := Scf.iv v790 c1_i32_306 k0_t2
  let v875 : BitVec 32 := Scalar.muli c8_i32_352 arg16
  let v876 : BitVec 32 := Scalar.subi v766 v875
  let v877 : BitVec 32 := Scalar.subi v876 c0_i32_353
  let v882 : BitVec 32 := Scalar.addi v31 v877
  let v883 : Index := Scalar.indexCast v882
  ![v883.toNat]
def k0_off10 (i : grid0.Coords) (v396 : BitVec 32) (v682 : BitVec 32) (k0_t2 : Fin (k0_t2_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v786 : BitVec 32 := Scalar.subi v785 c0_i32_303
  let c1_i32_304 : BitVec 32 := 1#32
  let v788 : BitVec 32 := Scalar.divsi v786 c1_i32_304
  let v789 : BitVec 32 := Scalar.muli v788 c1_i32_304
  let v790 : BitVec 32 := Scalar.addi c0_i32_303 v789
  let c1_i32_306 : BitVec 32 := 1#32
  let arg16 : BitVec 32 := Scf.iv v790 c1_i32_306 k0_t2
  let v875 : BitVec 32 := Scalar.muli c8_i32_352 arg16
  let v876 : BitVec 32 := Scalar.subi v766 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off11 (i : grid0.Coords) (v396 : BitVec 32) (v682 : BitVec 32) (k0_t2 : Fin (k0_t2_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_352 : BitVec 32 := 8#32
  let c0_i32_303 : BitVec 32 := 0#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v786 : BitVec 32 := Scalar.subi v785 c0_i32_303
  let c1_i32_304 : BitVec 32 := 1#32
  let v788 : BitVec 32 := Scalar.divsi v786 c1_i32_304
  let v789 : BitVec 32 := Scalar.muli v788 c1_i32_304
  let v790 : BitVec 32 := Scalar.addi c0_i32_303 v789
  let c1_i32_306 : BitVec 32 := 1#32
  let arg16 : BitVec 32 := Scf.iv v790 c1_i32_306 k0_t2
  let v875 : BitVec 32 := Scalar.muli c8_i32_352 arg16
  let v876 : BitVec 32 := Scalar.subi v766 v875
  let v951 : BitVec 32 := Scalar.subi v876 c0_i32_402
  let v952 : Index := Scalar.indexCast v951
  let c0_404 : Index := 0#32
  let c0_405 : Index := 0#32
  ![0, v952.toNat, 0, 0]
@[reducible] def k0_t3_loop (i : grid0.Coords) (v396 : BitVec 32) (v682 : BitVec 32) : Scf.Loop 32 :=
  let c0_i32_317 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v812 : BitVec 32 := Scalar.subi v811 c0_i32_317
  let c1_i32_318 : BitVec 32 := 1#32
  let v814 : BitVec 32 := Scalar.divsi v812 c1_i32_318
  let v815 : BitVec 32 := Scalar.muli v814 c1_i32_318
  let v816 : BitVec 32 := Scalar.addi c0_i32_317 v815
  let c1_i32_319 : BitVec 32 := 1#32
  ⟨c0_i32_317, v816, c1_i32_319⟩
def k0_off12 (i : grid0.Coords) (v396 : BitVec 32) (v682 : BitVec 32) (k0_t3 : Fin (k0_t3_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c1_i32_319 : BitVec 32 := 1#32
  let arg16 : BitVec 32 := Scf.iv c0_i32_317 c1_i32_319 k0_t3
  let v875 : BitVec 32 := Scalar.muli c4_i32_352 arg16
  let v876 : BitVec 32 := Scalar.subi v792 v875
  let v877 : BitVec 32 := Scalar.subi v876 c0_i32_353
  let v882 : BitVec 32 := Scalar.addi v31 v877
  let v883 : Index := Scalar.indexCast v882
  ![v883.toNat]
def k0_off13 (i : grid0.Coords) (v396 : BitVec 32) (v682 : BitVec 32) (k0_t3 : Fin (k0_t3_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c1_i32_319 : BitVec 32 := 1#32
  let arg16 : BitVec 32 := Scf.iv c0_i32_317 c1_i32_319 k0_t3
  let v875 : BitVec 32 := Scalar.muli c4_i32_352 arg16
  let v876 : BitVec 32 := Scalar.subi v792 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off14 (i : grid0.Coords) (v396 : BitVec 32) (v682 : BitVec 32) (k0_t3 : Fin (k0_t3_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c1_i32_319 : BitVec 32 := 1#32
  let arg16 : BitVec 32 := Scf.iv c0_i32_317 c1_i32_319 k0_t3
  let v875 : BitVec 32 := Scalar.muli c4_i32_352 arg16
  let v876 : BitVec 32 := Scalar.subi v792 v875
  let v951 : BitVec 32 := Scalar.subi v876 c0_i32_402
  let v952 : Index := Scalar.indexCast v951
  let c0_404 : Index := 0#32
  let c0_405 : Index := 0#32
  ![0, v952.toNat, 0, 0]
@[reducible] def k0_t4_loop (i : grid0.Coords) (v396 : BitVec 32) (v682 : BitVec 32) : Scf.Loop 32 :=
  let c0_i32_317 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v812 : BitVec 32 := Scalar.subi v811 c0_i32_317
  let c1_i32_318 : BitVec 32 := 1#32
  let v814 : BitVec 32 := Scalar.divsi v812 c1_i32_318
  let v815 : BitVec 32 := Scalar.muli v814 c1_i32_318
  let v816 : BitVec 32 := Scalar.addi c0_i32_317 v815
  let v813 : BitVec 32 := Scalar.addi c0_i32_317 v812
  let c1_i32_320 : BitVec 32 := 1#32
  ⟨v816, v813, c1_i32_320⟩
def k0_off15 (i : grid0.Coords) (v396 : BitVec 32) (v682 : BitVec 32) (k0_t4 : Fin (k0_t4_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v812 : BitVec 32 := Scalar.subi v811 c0_i32_317
  let c1_i32_318 : BitVec 32 := 1#32
  let v814 : BitVec 32 := Scalar.divsi v812 c1_i32_318
  let v815 : BitVec 32 := Scalar.muli v814 c1_i32_318
  let v816 : BitVec 32 := Scalar.addi c0_i32_317 v815
  let c1_i32_320 : BitVec 32 := 1#32
  let arg16 : BitVec 32 := Scf.iv v816 c1_i32_320 k0_t4
  let v875 : BitVec 32 := Scalar.muli c4_i32_352 arg16
  let v876 : BitVec 32 := Scalar.subi v792 v875
  let v877 : BitVec 32 := Scalar.subi v876 c0_i32_353
  let v882 : BitVec 32 := Scalar.addi v31 v877
  let v883 : Index := Scalar.indexCast v882
  ![v883.toNat]
def k0_off16 (i : grid0.Coords) (v396 : BitVec 32) (v682 : BitVec 32) (k0_t4 : Fin (k0_t4_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v812 : BitVec 32 := Scalar.subi v811 c0_i32_317
  let c1_i32_318 : BitVec 32 := 1#32
  let v814 : BitVec 32 := Scalar.divsi v812 c1_i32_318
  let v815 : BitVec 32 := Scalar.muli v814 c1_i32_318
  let v816 : BitVec 32 := Scalar.addi c0_i32_317 v815
  let c1_i32_320 : BitVec 32 := 1#32
  let arg16 : BitVec 32 := Scf.iv v816 c1_i32_320 k0_t4
  let v875 : BitVec 32 := Scalar.muli c4_i32_352 arg16
  let v876 : BitVec 32 := Scalar.subi v792 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off17 (i : grid0.Coords) (v396 : BitVec 32) (v682 : BitVec 32) (k0_t4 : Fin (k0_t4_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_352 : BitVec 32 := 4#32
  let c0_i32_317 : BitVec 32 := 0#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v812 : BitVec 32 := Scalar.subi v811 c0_i32_317
  let c1_i32_318 : BitVec 32 := 1#32
  let v814 : BitVec 32 := Scalar.divsi v812 c1_i32_318
  let v815 : BitVec 32 := Scalar.muli v814 c1_i32_318
  let v816 : BitVec 32 := Scalar.addi c0_i32_317 v815
  let c1_i32_320 : BitVec 32 := 1#32
  let arg16 : BitVec 32 := Scf.iv v816 c1_i32_320 k0_t4
  let v875 : BitVec 32 := Scalar.muli c4_i32_352 arg16
  let v876 : BitVec 32 := Scalar.subi v792 v875
  let v951 : BitVec 32 := Scalar.subi v876 c0_i32_402
  let v952 : Index := Scalar.indexCast v951
  let c0_404 : Index := 0#32
  let c0_405 : Index := 0#32
  ![0, v952.toNat, 0, 0]
@[reducible] def k0_t5_loop (i : grid0.Coords) (v396 : BitVec 32) (v682 : BitVec 32) : Scf.Loop 32 :=
  let c0_i32_331 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c4_i32_322 : BitVec 32 := 4#32
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v838 : BitVec 32 := Scalar.subi v837 c0_i32_331
  let c1_i32_332 : BitVec 32 := 1#32
  let v840 : BitVec 32 := Scalar.divsi v838 c1_i32_332
  let v841 : BitVec 32 := Scalar.muli v840 c1_i32_332
  let v842 : BitVec 32 := Scalar.addi c0_i32_331 v841
  let c1_i32_333 : BitVec 32 := 1#32
  ⟨c0_i32_331, v842, c1_i32_333⟩
def k0_off18 (i : grid0.Coords) (v396 : BitVec 32) (v682 : BitVec 32) (k0_t5 : Fin (k0_t5_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c1_i32_333 : BitVec 32 := 1#32
  let arg16 : BitVec 32 := Scf.iv c0_i32_331 c1_i32_333 k0_t5
  let v875 : BitVec 32 := Scalar.muli c2_i32_352 arg16
  let v876 : BitVec 32 := Scalar.subi v818 v875
  let v877 : BitVec 32 := Scalar.subi v876 c0_i32_353
  let v882 : BitVec 32 := Scalar.addi v31 v877
  let v883 : Index := Scalar.indexCast v882
  ![v883.toNat]
def k0_off19 (i : grid0.Coords) (v396 : BitVec 32) (v682 : BitVec 32) (k0_t5 : Fin (k0_t5_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c1_i32_333 : BitVec 32 := 1#32
  let arg16 : BitVec 32 := Scf.iv c0_i32_331 c1_i32_333 k0_t5
  let v875 : BitVec 32 := Scalar.muli c2_i32_352 arg16
  let v876 : BitVec 32 := Scalar.subi v818 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off20 (i : grid0.Coords) (v396 : BitVec 32) (v682 : BitVec 32) (k0_t5 : Fin (k0_t5_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c1_i32_333 : BitVec 32 := 1#32
  let arg16 : BitVec 32 := Scf.iv c0_i32_331 c1_i32_333 k0_t5
  let v875 : BitVec 32 := Scalar.muli c2_i32_352 arg16
  let v876 : BitVec 32 := Scalar.subi v818 v875
  let v951 : BitVec 32 := Scalar.subi v876 c0_i32_402
  let v952 : Index := Scalar.indexCast v951
  let c0_404 : Index := 0#32
  let c0_405 : Index := 0#32
  ![0, v952.toNat, 0, 0]
@[reducible] def k0_t6_loop (i : grid0.Coords) (v396 : BitVec 32) (v682 : BitVec 32) : Scf.Loop 32 :=
  let c0_i32_331 : BitVec 32 := 0#32
  let arg2 : BitVec 32 := BitVec.ofNat 32 (i 2).val
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c4_i32_322 : BitVec 32 := 4#32
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v838 : BitVec 32 := Scalar.subi v837 c0_i32_331
  let c1_i32_332 : BitVec 32 := 1#32
  let v840 : BitVec 32 := Scalar.divsi v838 c1_i32_332
  let v841 : BitVec 32 := Scalar.muli v840 c1_i32_332
  let v842 : BitVec 32 := Scalar.addi c0_i32_331 v841
  let v839 : BitVec 32 := Scalar.addi c0_i32_331 v838
  let c1_i32_334 : BitVec 32 := 1#32
  ⟨v842, v839, c1_i32_334⟩
def k0_off21 (i : grid0.Coords) (v396 : BitVec 32) (v682 : BitVec 32) (k0_t6 : Fin (k0_t6_loop i v396 v682).trips) (c0_i32_9 : BitVec 32) (c0_i32_353 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v838 : BitVec 32 := Scalar.subi v837 c0_i32_331
  let c1_i32_332 : BitVec 32 := 1#32
  let v840 : BitVec 32 := Scalar.divsi v838 c1_i32_332
  let v841 : BitVec 32 := Scalar.muli v840 c1_i32_332
  let v842 : BitVec 32 := Scalar.addi c0_i32_331 v841
  let c1_i32_334 : BitVec 32 := 1#32
  let arg16 : BitVec 32 := Scf.iv v842 c1_i32_334 k0_t6
  let v875 : BitVec 32 := Scalar.muli c2_i32_352 arg16
  let v876 : BitVec 32 := Scalar.subi v818 v875
  let v877 : BitVec 32 := Scalar.subi v876 c0_i32_353
  let v882 : BitVec 32 := Scalar.addi v31 v877
  let v883 : Index := Scalar.indexCast v882
  ![v883.toNat]
def k0_off22 (i : grid0.Coords) (v396 : BitVec 32) (v682 : BitVec 32) (k0_t6 : Fin (k0_t6_loop i v396 v682).trips) (c0_i32_378 : BitVec 32) : Fin 4 → Nat :=
  let c0_380 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v838 : BitVec 32 := Scalar.subi v837 c0_i32_331
  let c1_i32_332 : BitVec 32 := 1#32
  let v840 : BitVec 32 := Scalar.divsi v838 c1_i32_332
  let v841 : BitVec 32 := Scalar.muli v840 c1_i32_332
  let v842 : BitVec 32 := Scalar.addi c0_i32_331 v841
  let c1_i32_334 : BitVec 32 := 1#32
  let arg16 : BitVec 32 := Scf.iv v842 c1_i32_334 k0_t6
  let v875 : BitVec 32 := Scalar.muli c2_i32_352 arg16
  let v876 : BitVec 32 := Scalar.subi v818 v875
  let v924 : BitVec 32 := Scalar.subi v876 c0_i32_378
  let c1_i32_379 : BitVec 32 := 1#32
  let v925 : BitVec 32 := Scalar.subi v924 c1_i32_379
  let v926 : Index := Scalar.indexCast v925
  let c0_381 : Index := 0#32
  let c0_382 : Index := 0#32
  ![0, v926.toNat, 0, 0]
def k0_off23 (i : grid0.Coords) (v396 : BitVec 32) (v682 : BitVec 32) (k0_t6 : Fin (k0_t6_loop i v396 v682).trips) (c0_i32_402 : BitVec 32) : Fin 4 → Nat :=
  let c0_403 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_352 : BitVec 32 := 2#32
  let c0_i32_331 : BitVec 32 := 0#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v838 : BitVec 32 := Scalar.subi v837 c0_i32_331
  let c1_i32_332 : BitVec 32 := 1#32
  let v840 : BitVec 32 := Scalar.divsi v838 c1_i32_332
  let v841 : BitVec 32 := Scalar.muli v840 c1_i32_332
  let v842 : BitVec 32 := Scalar.addi c0_i32_331 v841
  let c1_i32_334 : BitVec 32 := 1#32
  let arg16 : BitVec 32 := Scf.iv v842 c1_i32_334 k0_t6
  let v875 : BitVec 32 := Scalar.muli c2_i32_352 arg16
  let v876 : BitVec 32 := Scalar.subi v818 v875
  let v951 : BitVec 32 := Scalar.subi v876 c0_i32_402
  let v952 : Index := Scalar.indexCast v951
  let c0_404 : Index := 0#32
  let c0_405 : Index := 0#32
  ![0, v952.toNat, 0, 0]
def k0_off24 (i : grid0.Coords) (v396 : BitVec 32) (v682 : BitVec 32) (c0_i32_9 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_335 : BitVec 32 := 2#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v843 : BitVec 32 := Scalar.muli c2_i32_335 v837
  let v844 : BitVec 32 := Scalar.subi v818 v843
  let c0_i32_352 : BitVec 32 := 0#32
  let v875 : BitVec 32 := Scalar.subi v844 c0_i32_352
  let v880 : BitVec 32 := Scalar.addi v31 v875
  let v881 : Index := Scalar.indexCast v880
  ![v881.toNat]
def k0_cond1 (i : grid0.Coords) (v396 : BitVec 32) (v682 : BitVec 32) : BitVec 1 :=
  let arg2 : BitVec 32 := BitVec.ofNat 32 (i 2).val
  let v683 : BitVec 32 := Scalar.minsi v396 v682
  let v765 : BitVec 32 := Scalar.subi arg2 v683
  let c1_i32_337 : BitVec 32 := 1#32
  let v847 : BitVec 1 := Scalar.cmpi .sge v765 c1_i32_337
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c4_i32_322 : BitVec 32 := 4#32
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v819 : BitVec 32 := Scalar.muli c4_i32_322 v811
  let v820 : BitVec 32 := Scalar.subi v794 v819
  let c2_i32_336 : BitVec 32 := 2#32
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v845 : BitVec 32 := Scalar.muli c2_i32_336 v837
  let v846 : BitVec 32 := Scalar.subi v820 v845
  let c1_i32_338 : BitVec 32 := 1#32
  let v848 : BitVec 1 := Scalar.cmpi .eq v846 c1_i32_338
  let v849 : BitVec 1 := Scalar.andi v847 v848
  let v850 : BitVec 32 := Scalar.extui v849
  let c0_i32_339 : BitVec 32 := 0#32
  let v851 : BitVec 1 := Scalar.cmpi .ne v850 c0_i32_339
  v851

def k0_off25 (i : grid0.Coords) (v396 : BitVec 32) (v682 : BitVec 32) : Fin 4 → Nat :=
  let c0_379 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_335 : BitVec 32 := 2#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v843 : BitVec 32 := Scalar.muli c2_i32_335 v837
  let v844 : BitVec 32 := Scalar.subi v818 v843
  let c0_i32_377 : BitVec 32 := 0#32
  let v922 : BitVec 32 := Scalar.subi v844 c0_i32_377
  let c1_i32_378 : BitVec 32 := 1#32
  let v923 : BitVec 32 := Scalar.subi v922 c1_i32_378
  let v924 : Index := Scalar.indexCast v923
  let c0_380 : Index := 0#32
  let c0_381 : Index := 0#32
  ![0, v924.toNat, 0, 0]
def k0_off26 (i : grid0.Coords) (v396 : BitVec 32) (v682 : BitVec 32) : Fin 4 → Nat :=
  let c0_402 : Index := 0#32
  let arg2 : BitVec 32 := BitVec.ofNat 32 (i 2).val
  let c1_i32_292 : BitVec 32 := 1#32
  let v766 : BitVec 32 := Scalar.subi arg2 c1_i32_292
  let c8_i32_307 : BitVec 32 := 8#32
  let v683 : BitVec 32 := Scalar.minsi v396 v682
  let v765 : BitVec 32 := Scalar.subi arg2 v683
  let c1_i32_293 : BitVec 32 := 1#32
  let v767 : BitVec 32 := Scalar.subi v765 c1_i32_293
  let c0_i32_294 : BitVec 32 := 0#32
  let v768 : BitVec 32 := Scalar.maxsi v767 c0_i32_294
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v791 : BitVec 32 := Scalar.muli c8_i32_307 v785
  let v792 : BitVec 32 := Scalar.subi v766 v791
  let c4_i32_321 : BitVec 32 := 4#32
  let c8_i32_308 : BitVec 32 := 8#32
  let v793 : BitVec 32 := Scalar.muli c8_i32_308 v785
  let v794 : BitVec 32 := Scalar.subi v768 v793
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v817 : BitVec 32 := Scalar.muli c4_i32_321 v811
  let v818 : BitVec 32 := Scalar.subi v792 v817
  let c2_i32_335 : BitVec 32 := 2#32
  let c4_i32_322 : BitVec 32 := 4#32
  let v819 : BitVec 32 := Scalar.muli c4_i32_322 v811
  let v820 : BitVec 32 := Scalar.subi v794 v819
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v843 : BitVec 32 := Scalar.muli c2_i32_335 v837
  let v844 : BitVec 32 := Scalar.subi v818 v843
  let c0_i32_401 : BitVec 32 := 0#32
  let v949 : BitVec 32 := Scalar.subi v844 c0_i32_401
  let v950 : Index := Scalar.indexCast v949
  let c0_403 : Index := 0#32
  let c0_404 : Index := 0#32
  ![0, v950.toNat, 0, 0]
def k0_off27 (i : grid0.Coords) (v396 : BitVec 32) (v682 : BitVec 32) (c0_i32_9 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let v683 : BitVec 32 := Scalar.minsi v396 v682
  let v979 : BitVec 32 := Scalar.addi v31 v683
  let v980 : Index := Scalar.indexCast v979
  ![v980.toNat]
def k0_off28 (v396 : BitVec 32) (v682 : BitVec 32) : Fin 4 → Nat :=
  let c0_443 : Index := 0#32
  let v683 : BitVec 32 := Scalar.minsi v396 v682
  let v1021 : Index := Scalar.indexCast v683
  let c0_444 : Index := 0#32
  let c0_445 : Index := 0#32
  ![0, v1021.toNat, 0, 0]
def k0_off29 (i : grid0.Coords) (v396 : BitVec 32) (v682 : BitVec 32) (c0_i32_9 : BitVec 32) : Fin 1 → Nat :=
  let arg0 : BitVec 32 := BitVec.ofNat 32 (i 0).val
  let c16_i32 : BitVec 32 := 16#32
  let v27 : BitVec 32 := Scalar.muli arg0 c16_i32
  let c2_i32 : BitVec 32 := 2#32
  let arg1 : BitVec 32 := BitVec.ofNat 32 (i 1).val
  let v28 : BitVec 32 := Scalar.muli c2_i32 arg1
  let v29 : BitVec 32 := Scalar.addi v27 v28
  let v30 : BitVec 32 := Scalar.addi v29 c0_i32_9
  let c32_i32 : BitVec 32 := 32#32
  let v31 : BitVec 32 := Scalar.muli v30 c32_i32
  let v683 : BitVec 32 := Scalar.minsi v396 v682
  let v879 : BitVec 32 := Scalar.addi v31 v683
  let v880 : Index := Scalar.indexCast v879
  ![v880.toNat]
def k0_cond2 (i : grid0.Coords) (v396 : BitVec 32) (v682 : BitVec 32) : BitVec 1 :=
  let arg2 : BitVec 32 := BitVec.ofNat 32 (i 2).val
  let v683 : BitVec 32 := Scalar.minsi v396 v682
  let v765 : BitVec 32 := Scalar.subi arg2 v683
  let c1_i32_340 : BitVec 32 := 1#32
  let v852 : BitVec 1 := Scalar.cmpi .sge v765 c1_i32_340
  let c1_i32_293 : BitVec 32 := 1#32
  let v767 : BitVec 32 := Scalar.subi v765 c1_i32_293
  let c0_i32_294 : BitVec 32 := 0#32
  let v768 : BitVec 32 := Scalar.maxsi v767 c0_i32_294
  let c8_i32_308 : BitVec 32 := 8#32
  let c0_i32_296 : BitVec 32 := 0#32
  let v770 : BitVec 1 := Scalar.cmpi .sgt v768 c0_i32_296
  let v771 : BitVec 32 := Scalar.extui v770
  let c0_i32_297 : BitVec 32 := 0#32
  let v772 : BitVec 1 := Scalar.cmpi .slt v768 c0_i32_297
  let v773 : BitVec 32 := Scalar.extui v772
  let v774 : BitVec 32 := Scalar.subi v771 v773
  let c8_i32_295 : BitVec 32 := 8#32
  let c0_i32_298 : BitVec 32 := 0#32
  let v775 : BitVec 1 := Scalar.cmpi .sgt c8_i32_295 c0_i32_298
  let v776 : BitVec 32 := Scalar.extui v775
  let c0_i32_299 : BitVec 32 := 0#32
  let v777 : BitVec 1 := Scalar.cmpi .slt c8_i32_295 c0_i32_299
  let v778 : BitVec 32 := Scalar.extui v777
  let v779 : BitVec 32 := Scalar.subi v776 v778
  let v780 : BitVec 1 := Scalar.cmpi .ne v774 v779
  let v781 : BitVec 32 := Scalar.remsi v768 c8_i32_295
  let c0_i32_300 : BitVec 32 := 0#32
  let v782 : BitVec 1 := Scalar.cmpi .ne v781 c0_i32_300
  let v783 : BitVec 1 := Scalar.andi v780 v782
  let v769 : BitVec 32 := Scalar.divsi v768 c8_i32_295
  let c1_i32_301 : BitVec 32 := 1#32
  let v784 : BitVec 32 := Scalar.subi v769 c1_i32_301
  let v785 : BitVec 32 := Scalar.select v783 v784 v769
  let v793 : BitVec 32 := Scalar.muli c8_i32_308 v785
  let v794 : BitVec 32 := Scalar.subi v768 v793
  let c4_i32_322 : BitVec 32 := 4#32
  let c0_i32_310 : BitVec 32 := 0#32
  let v796 : BitVec 1 := Scalar.cmpi .sgt v794 c0_i32_310
  let v797 : BitVec 32 := Scalar.extui v796
  let c0_i32_311 : BitVec 32 := 0#32
  let v798 : BitVec 1 := Scalar.cmpi .slt v794 c0_i32_311
  let v799 : BitVec 32 := Scalar.extui v798
  let v800 : BitVec 32 := Scalar.subi v797 v799
  let c4_i32_309 : BitVec 32 := 4#32
  let c0_i32_312 : BitVec 32 := 0#32
  let v801 : BitVec 1 := Scalar.cmpi .sgt c4_i32_309 c0_i32_312
  let v802 : BitVec 32 := Scalar.extui v801
  let c0_i32_313 : BitVec 32 := 0#32
  let v803 : BitVec 1 := Scalar.cmpi .slt c4_i32_309 c0_i32_313
  let v804 : BitVec 32 := Scalar.extui v803
  let v805 : BitVec 32 := Scalar.subi v802 v804
  let v806 : BitVec 1 := Scalar.cmpi .ne v800 v805
  let v807 : BitVec 32 := Scalar.remsi v794 c4_i32_309
  let c0_i32_314 : BitVec 32 := 0#32
  let v808 : BitVec 1 := Scalar.cmpi .ne v807 c0_i32_314
  let v809 : BitVec 1 := Scalar.andi v806 v808
  let v795 : BitVec 32 := Scalar.divsi v794 c4_i32_309
  let c1_i32_315 : BitVec 32 := 1#32
  let v810 : BitVec 32 := Scalar.subi v795 c1_i32_315
  let v811 : BitVec 32 := Scalar.select v809 v810 v795
  let v819 : BitVec 32 := Scalar.muli c4_i32_322 v811
  let v820 : BitVec 32 := Scalar.subi v794 v819
  let c2_i32_336 : BitVec 32 := 2#32
  let c0_i32_324 : BitVec 32 := 0#32
  let v822 : BitVec 1 := Scalar.cmpi .sgt v820 c0_i32_324
  let v823 : BitVec 32 := Scalar.extui v822
  let c0_i32_325 : BitVec 32 := 0#32
  let v824 : BitVec 1 := Scalar.cmpi .slt v820 c0_i32_325
  let v825 : BitVec 32 := Scalar.extui v824
  let v826 : BitVec 32 := Scalar.subi v823 v825
  let c2_i32_323 : BitVec 32 := 2#32
  let c0_i32_326 : BitVec 32 := 0#32
  let v827 : BitVec 1 := Scalar.cmpi .sgt c2_i32_323 c0_i32_326
  let v828 : BitVec 32 := Scalar.extui v827
  let c0_i32_327 : BitVec 32 := 0#32
  let v829 : BitVec 1 := Scalar.cmpi .slt c2_i32_323 c0_i32_327
  let v830 : BitVec 32 := Scalar.extui v829
  let v831 : BitVec 32 := Scalar.subi v828 v830
  let v832 : BitVec 1 := Scalar.cmpi .ne v826 v831
  let v833 : BitVec 32 := Scalar.remsi v820 c2_i32_323
  let c0_i32_328 : BitVec 32 := 0#32
  let v834 : BitVec 1 := Scalar.cmpi .ne v833 c0_i32_328
  let v835 : BitVec 1 := Scalar.andi v832 v834
  let v821 : BitVec 32 := Scalar.divsi v820 c2_i32_323
  let c1_i32_329 : BitVec 32 := 1#32
  let v836 : BitVec 32 := Scalar.subi v821 c1_i32_329
  let v837 : BitVec 32 := Scalar.select v835 v836 v821
  let v845 : BitVec 32 := Scalar.muli c2_i32_336 v837
  let v846 : BitVec 32 := Scalar.subi v820 v845
  let c0_i32_341 : BitVec 32 := 0#32
  let v853 : BitVec 1 := Scalar.cmpi .eq v846 c0_i32_341
  let v854 : BitVec 1 := Scalar.andi v852 v853
  let v855 : BitVec 32 := Scalar.extui v854
  let c0_i32_342 : BitVec 32 := 0#32
  let v856 : BitVec 1 := Scalar.cmpi .ne v855 c0_i32_342
  v856

def k0_off30 (v396 : BitVec 32) (v682 : BitVec 32) : Fin 4 → Nat :=
  let c0_376 : Index := 0#32
  let v683 : BitVec 32 := Scalar.minsi v396 v682
  let v921 : Index := Scalar.indexCast v683
  let c0_377 : Index := 0#32
  let c0_378 : Index := 0#32
  ![0, v921.toNat, 0, 0]

def k0_chk1 (i : grid0.Coords) (v396 : BitVec 32) (v682 : BitVec 32) : Prop :=
  ((k0_t1_loop i v396 v682).OK) ∧
  (∀ k0_t1 : Fin (k0_t1_loop i v396 v682).trips, ∀ (r₁ : Fin 2) (r₂ : Fin 8), ∀ a, (k0_off6 i v396 v682 k0_t1 (BitVec.ofNat 32 r₁.val) (BitVec.ofNat 32 r₂.val)) a + S1.size a ≤ S1024.size a) ∧
  (∀ k0_t1 : Fin (k0_t1_loop i v396 v682).trips, ∀ (r : Fin 8), ∀ a, (k0_off7 i v396 v682 k0_t1 (BitVec.ofNat 32 r.val)) a + S1x1x512x128.size a ≤ S1x32x512x128.size a) ∧
  (∀ k0_t1 : Fin (k0_t1_loop i v396 v682).trips, ∀ (r : Fin 8), ∀ a, (k0_off8 i v396 v682 k0_t1 (BitVec.ofNat 32 r.val)) a + S1x1x128x512.size a ≤ S1x32x128x512.size a) ∧
  ((k0_t2_loop i v396 v682).OK) ∧
  (∀ k0_t2 : Fin (k0_t2_loop i v396 v682).trips, ∀ (r₁ : Fin 2) (r₂ : Fin 8), ∀ a, (k0_off9 i v396 v682 k0_t2 (BitVec.ofNat 32 r₁.val) (BitVec.ofNat 32 r₂.val)) a + S1.size a ≤ S1024.size a) ∧
  (∀ k0_t2 : Fin (k0_t2_loop i v396 v682).trips, ∀ (r : Fin 8), ∀ a, (k0_off10 i v396 v682 k0_t2 (BitVec.ofNat 32 r.val)) a + S1x1x512x128.size a ≤ S1x32x512x128.size a) ∧
  (∀ k0_t2 : Fin (k0_t2_loop i v396 v682).trips, ∀ (r : Fin 8), ∀ a, (k0_off11 i v396 v682 k0_t2 (BitVec.ofNat 32 r.val)) a + S1x1x128x512.size a ≤ S1x32x128x512.size a) ∧
  ((k0_t3_loop i v396 v682).OK) ∧
  (∀ k0_t3 : Fin (k0_t3_loop i v396 v682).trips, ∀ (r₁ : Fin 2) (r₂ : Fin 4), ∀ a, (k0_off12 i v396 v682 k0_t3 (BitVec.ofNat 32 r₁.val) (BitVec.ofNat 32 r₂.val)) a + S1.size a ≤ S1024.size a) ∧
  (∀ k0_t3 : Fin (k0_t3_loop i v396 v682).trips, ∀ (r : Fin 4), ∀ a, (k0_off13 i v396 v682 k0_t3 (BitVec.ofNat 32 r.val)) a + S1x1x512x128.size a ≤ S1x32x512x128.size a) ∧
  (∀ k0_t3 : Fin (k0_t3_loop i v396 v682).trips, ∀ (r : Fin 4), ∀ a, (k0_off14 i v396 v682 k0_t3 (BitVec.ofNat 32 r.val)) a + S1x1x128x512.size a ≤ S1x32x128x512.size a) ∧
  ((k0_t4_loop i v396 v682).OK) ∧
  (∀ k0_t4 : Fin (k0_t4_loop i v396 v682).trips, ∀ (r₁ : Fin 2) (r₂ : Fin 4), ∀ a, (k0_off15 i v396 v682 k0_t4 (BitVec.ofNat 32 r₁.val) (BitVec.ofNat 32 r₂.val)) a + S1.size a ≤ S1024.size a) ∧
  (∀ k0_t4 : Fin (k0_t4_loop i v396 v682).trips, ∀ (r : Fin 4), ∀ a, (k0_off16 i v396 v682 k0_t4 (BitVec.ofNat 32 r.val)) a + S1x1x512x128.size a ≤ S1x32x512x128.size a) ∧
  (∀ k0_t4 : Fin (k0_t4_loop i v396 v682).trips, ∀ (r : Fin 4), ∀ a, (k0_off17 i v396 v682 k0_t4 (BitVec.ofNat 32 r.val)) a + S1x1x128x512.size a ≤ S1x32x128x512.size a) ∧
  ((k0_t5_loop i v396 v682).OK) ∧
  (∀ k0_t5 : Fin (k0_t5_loop i v396 v682).trips, ∀ (r₁ : Fin 2) (r₂ : Fin 2), ∀ a, (k0_off18 i v396 v682 k0_t5 (BitVec.ofNat 32 r₁.val) (BitVec.ofNat 32 r₂.val)) a + S1.size a ≤ S1024.size a) ∧
  (∀ k0_t5 : Fin (k0_t5_loop i v396 v682).trips, ∀ (r : Fin 2), ∀ a, (k0_off19 i v396 v682 k0_t5 (BitVec.ofNat 32 r.val)) a + S1x1x512x128.size a ≤ S1x32x512x128.size a) ∧
  (∀ k0_t5 : Fin (k0_t5_loop i v396 v682).trips, ∀ (r : Fin 2), ∀ a, (k0_off20 i v396 v682 k0_t5 (BitVec.ofNat 32 r.val)) a + S1x1x128x512.size a ≤ S1x32x128x512.size a) ∧
  ((k0_t6_loop i v396 v682).OK) ∧
  (∀ k0_t6 : Fin (k0_t6_loop i v396 v682).trips, ∀ (r₁ : Fin 2) (r₂ : Fin 2), ∀ a, (k0_off21 i v396 v682 k0_t6 (BitVec.ofNat 32 r₁.val) (BitVec.ofNat 32 r₂.val)) a + S1.size a ≤ S1024.size a) ∧
  (∀ k0_t6 : Fin (k0_t6_loop i v396 v682).trips, ∀ (r : Fin 2), ∀ a, (k0_off22 i v396 v682 k0_t6 (BitVec.ofNat 32 r.val)) a + S1x1x512x128.size a ≤ S1x32x512x128.size a) ∧
  (∀ k0_t6 : Fin (k0_t6_loop i v396 v682).trips, ∀ (r : Fin 2), ∀ a, (k0_off23 i v396 v682 k0_t6 (BitVec.ofNat 32 r.val)) a + S1x1x128x512.size a ≤ S1x32x128x512.size a) ∧
  (∀ (k0_h1 : k0_cond1 i v396 v682 = 1#1), ∀ (r : Fin 2), ∀ a, (k0_off24 i v396 v682 (BitVec.ofNat 32 r.val)) a + S1.size a ≤ S1024.size a) ∧
  (∀ (k0_h1 : k0_cond1 i v396 v682 = 1#1), ∀ a, (k0_off25 i v396 v682) a + S1x1x512x128.size a ≤ S1x32x512x128.size a) ∧
  (∀ (k0_h1 : k0_cond1 i v396 v682 = 1#1), ∀ a, (k0_off26 i v396 v682) a + S1x1x128x512.size a ≤ S1x32x128x512.size a) ∧
  (∀ (k0_h1 : k0_cond1 i v396 v682 = 1#1), ∀ (r : Fin 2), ∀ a, (k0_off27 i v396 v682 (BitVec.ofNat 32 r.val)) a + S1.size a ≤ S1024.size a) ∧
  (∀ (k0_h1 : k0_cond1 i v396 v682 = 1#1), ∀ a, (k0_off28 v396 v682) a + S1x1x128x512.size a ≤ S1x32x128x512.size a) ∧
  (∀ (k0_h2 : k0_cond2 i v396 v682 = 1#1), ∀ (r : Fin 2), ∀ a, (k0_off29 i v396 v682 (BitVec.ofNat 32 r.val)) a + S1.size a ≤ S1024.size a) ∧
  (∀ (k0_h2 : k0_cond2 i v396 v682 = 1#1), ∀ a, (k0_off30 v396 v682) a + S1x1x128x512.size a ≤ S1x32x128x512.size a)
theorem k0_t1_ok : ∀ (i : grid0.Coords) (v396 : BitVec 32) (v682 : BitVec 32) (k0_hw1 : k0_chk1 i v396 v682), (k0_t1_loop i v396 v682).OK := fun i v396 v682 k0_hw1 => k0_hw1.1
theorem k0_off6_inb : ∀ (i : grid0.Coords) (v396 : BitVec 32) (v682 : BitVec 32) (k0_hw1 : k0_chk1 i v396 v682) (k0_t1 : Fin (k0_t1_loop i v396 v682).trips), ∀ (r₁ : Fin 2) (r₂ : Fin 8), ∀ a, (k0_off6 i v396 v682 k0_t1 (BitVec.ofNat 32 r₁.val) (BitVec.ofNat 32 r₂.val)) a + S1.size a ≤ S1024.size a := fun i v396 v682 k0_hw1 k0_t1 r₁ r₂ => k0_hw1.2.1 k0_t1 r₁ r₂
theorem k0_off7_inb : ∀ (i : grid0.Coords) (v396 : BitVec 32) (v682 : BitVec 32) (k0_hw1 : k0_chk1 i v396 v682) (k0_t1 : Fin (k0_t1_loop i v396 v682).trips), ∀ (r : Fin 8), ∀ a, (k0_off7 i v396 v682 k0_t1 (BitVec.ofNat 32 r.val)) a + S1x1x512x128.size a ≤ S1x32x512x128.size a := fun i v396 v682 k0_hw1 k0_t1 r => k0_hw1.2.2.1 k0_t1 r
theorem k0_off8_inb : ∀ (i : grid0.Coords) (v396 : BitVec 32) (v682 : BitVec 32) (k0_hw1 : k0_chk1 i v396 v682) (k0_t1 : Fin (k0_t1_loop i v396 v682).trips), ∀ (r : Fin 8), ∀ a, (k0_off8 i v396 v682 k0_t1 (BitVec.ofNat 32 r.val)) a + S1x1x128x512.size a ≤ S1x32x128x512.size a := fun i v396 v682 k0_hw1 k0_t1 r => k0_hw1.2.2.2.1 k0_t1 r
theorem k0_t2_ok : ∀ (i : grid0.Coords) (v396 : BitVec 32) (v682 : BitVec 32) (k0_hw1 : k0_chk1 i v396 v682), (k0_t2_loop i v396 v682).OK := fun i v396 v682 k0_hw1 => k0_hw1.2.2.2.2.1
theorem k0_off9_inb : ∀ (i : grid0.Coords) (v396 : BitVec 32) (v682 : BitVec 32) (k0_hw1 : k0_chk1 i v396 v682) (k0_t2 : Fin (k0_t2_loop i v396 v682).trips), ∀ (r₁ : Fin 2) (r₂ : Fin 8), ∀ a, (k0_off9 i v396 v682 k0_t2 (BitVec.ofNat 32 r₁.val) (BitVec.ofNat 32 r₂.val)) a + S1.size a ≤ S1024.size a := fun i v396 v682 k0_hw1 k0_t2 r₁ r₂ => k0_hw1.2.2.2.2.2.1 k0_t2 r₁ r₂
theorem k0_off10_inb : ∀ (i : grid0.Coords) (v396 : BitVec 32) (v682 : BitVec 32) (k0_hw1 : k0_chk1 i v396 v682) (k0_t2 : Fin (k0_t2_loop i v396 v682).trips), ∀ (r : Fin 8), ∀ a, (k0_off10 i v396 v682 k0_t2 (BitVec.ofNat 32 r.val)) a + S1x1x512x128.size a ≤ S1x32x512x128.size a := fun i v396 v682 k0_hw1 k0_t2 r => k0_hw1.2.2.2.2.2.2.1 k0_t2 r
theorem k0_off11_inb : ∀ (i : grid0.Coords) (v396 : BitVec 32) (v682 : BitVec 32) (k0_hw1 : k0_chk1 i v396 v682) (k0_t2 : Fin (k0_t2_loop i v396 v682).trips), ∀ (r : Fin 8), ∀ a, (k0_off11 i v396 v682 k0_t2 (BitVec.ofNat 32 r.val)) a + S1x1x128x512.size a ≤ S1x32x128x512.size a := fun i v396 v682 k0_hw1 k0_t2 r => k0_hw1.2.2.2.2.2.2.2.1 k0_t2 r
theorem k0_t3_ok : ∀ (i : grid0.Coords) (v396 : BitVec 32) (v682 : BitVec 32) (k0_hw1 : k0_chk1 i v396 v682), (k0_t3_loop i v396 v682).OK := fun i v396 v682 k0_hw1 => k0_hw1.2.2.2.2.2.2.2.2.1
theorem k0_off12_inb : ∀ (i : grid0.Coords) (v396 : BitVec 32) (v682 : BitVec 32) (k0_hw1 : k0_chk1 i v396 v682) (k0_t3 : Fin (k0_t3_loop i v396 v682).trips), ∀ (r₁ : Fin 2) (r₂ : Fin 4), ∀ a, (k0_off12 i v396 v682 k0_t3 (BitVec.ofNat 32 r₁.val) (BitVec.ofNat 32 r₂.val)) a + S1.size a ≤ S1024.size a := fun i v396 v682 k0_hw1 k0_t3 r₁ r₂ => k0_hw1.2.2.2.2.2.2.2.2.2.1 k0_t3 r₁ r₂
theorem k0_off13_inb : ∀ (i : grid0.Coords) (v396 : BitVec 32) (v682 : BitVec 32) (k0_hw1 : k0_chk1 i v396 v682) (k0_t3 : Fin (k0_t3_loop i v396 v682).trips), ∀ (r : Fin 4), ∀ a, (k0_off13 i v396 v682 k0_t3 (BitVec.ofNat 32 r.val)) a + S1x1x512x128.size a ≤ S1x32x512x128.size a := fun i v396 v682 k0_hw1 k0_t3 r => k0_hw1.2.2.2.2.2.2.2.2.2.2.1 k0_t3 r
theorem k0_off14_inb : ∀ (i : grid0.Coords) (v396 : BitVec 32) (v682 : BitVec 32) (k0_hw1 : k0_chk1 i v396 v682) (k0_t3 : Fin (k0_t3_loop i v396 v682).trips), ∀ (r : Fin 4), ∀ a, (k0_off14 i v396 v682 k0_t3 (BitVec.ofNat 32 r.val)) a + S1x1x128x512.size a ≤ S1x32x128x512.size a := fun i v396 v682 k0_hw1 k0_t3 r => k0_hw1.2.2.2.2.2.2.2.2.2.2.2.1 k0_t3 r
theorem k0_t4_ok : ∀ (i : grid0.Coords) (v396 : BitVec 32) (v682 : BitVec 32) (k0_hw1 : k0_chk1 i v396 v682), (k0_t4_loop i v396 v682).OK := fun i v396 v682 k0_hw1 => k0_hw1.2.2.2.2.2.2.2.2.2.2.2.2.1
theorem k0_off15_inb : ∀ (i : grid0.Coords) (v396 : BitVec 32) (v682 : BitVec 32) (k0_hw1 : k0_chk1 i v396 v682) (k0_t4 : Fin (k0_t4_loop i v396 v682).trips), ∀ (r₁ : Fin 2) (r₂ : Fin 4), ∀ a, (k0_off15 i v396 v682 k0_t4 (BitVec.ofNat 32 r₁.val) (BitVec.ofNat 32 r₂.val)) a + S1.size a ≤ S1024.size a := fun i v396 v682 k0_hw1 k0_t4 r₁ r₂ => k0_hw1.2.2.2.2.2.2.2.2.2.2.2.2.2.1 k0_t4 r₁ r₂
theorem k0_off16_inb : ∀ (i : grid0.Coords) (v396 : BitVec 32) (v682 : BitVec 32) (k0_hw1 : k0_chk1 i v396 v682) (k0_t4 : Fin (k0_t4_loop i v396 v682).trips), ∀ (r : Fin 4), ∀ a, (k0_off16 i v396 v682 k0_t4 (BitVec.ofNat 32 r.val)) a + S1x1x512x128.size a ≤ S1x32x512x128.size a := fun i v396 v682 k0_hw1 k0_t4 r => k0_hw1.2.2.2.2.2.2.2.2.2.2.2.2.2.2.1 k0_t4 r
theorem k0_off17_inb : ∀ (i : grid0.Coords) (v396 : BitVec 32) (v682 : BitVec 32) (k0_hw1 : k0_chk1 i v396 v682) (k0_t4 : Fin (k0_t4_loop i v396 v682).trips), ∀ (r : Fin 4), ∀ a, (k0_off17 i v396 v682 k0_t4 (BitVec.ofNat 32 r.val)) a + S1x1x128x512.size a ≤ S1x32x128x512.size a := fun i v396 v682 k0_hw1 k0_t4 r => k0_hw1.2.2.2.2.2.2.2.2.2.2.2.2.2.2.2.1 k0_t4 r
theorem k0_t5_ok : ∀ (i : grid0.Coords) (v396 : BitVec 32) (v682 : BitVec 32) (k0_hw1 : k0_chk1 i v396 v682), (k0_t5_loop i v396 v682).OK := fun i v396 v682 k0_hw1 => k0_hw1.2.2.2.2.2.2.2.2.2.2.2.2.2.2.2.2.1
theorem k0_off18_inb : ∀ (i : grid0.Coords) (v396 : BitVec 32) (v682 : BitVec 32) (k0_hw1 : k0_chk1 i v396 v682) (k0_t5 : Fin (k0_t5_loop i v396 v682).trips), ∀ (r₁ : Fin 2) (r₂ : Fin 2), ∀ a, (k0_off18 i v396 v682 k0_t5 (BitVec.ofNat 32 r₁.val) (BitVec.ofNat 32 r₂.val)) a + S1.size a ≤ S1024.size a := fun i v396 v682 k0_hw1 k0_t5 r₁ r₂ => k0_hw1.2.2.2.2.2.2.2.2.2.2.2.2.2.2.2.2.2.1 k0_t5 r₁ r₂
theorem k0_off19_inb : ∀ (i : grid0.Coords) (v396 : BitVec 32) (v682 : BitVec 32) (k0_hw1 : k0_chk1 i v396 v682) (k0_t5 : Fin (k0_t5_loop i v396 v682).trips), ∀ (r : Fin 2), ∀ a, (k0_off19 i v396 v682 k0_t5 (BitVec.ofNat 32 r.val)) a + S1x1x512x128.size a ≤ S1x32x512x128.size a := fun i v396 v682 k0_hw1 k0_t5 r => k0_hw1.2.2.2.2.2.2.2.2.2.2.2.2.2.2.2.2.2.2.1 k0_t5 r
theorem k0_off20_inb : ∀ (i : grid0.Coords) (v396 : BitVec 32) (v682 : BitVec 32) (k0_hw1 : k0_chk1 i v396 v682) (k0_t5 : Fin (k0_t5_loop i v396 v682).trips), ∀ (r : Fin 2), ∀ a, (k0_off20 i v396 v682 k0_t5 (BitVec.ofNat 32 r.val)) a + S1x1x128x512.size a ≤ S1x32x128x512.size a := fun i v396 v682 k0_hw1 k0_t5 r => k0_hw1.2.2.2.2.2.2.2.2.2.2.2.2.2.2.2.2.2.2.2.1 k0_t5 r
theorem k0_t6_ok : ∀ (i : grid0.Coords) (v396 : BitVec 32) (v682 : BitVec 32) (k0_hw1 : k0_chk1 i v396 v682), (k0_t6_loop i v396 v682).OK := fun i v396 v682 k0_hw1 => k0_hw1.2.2.2.2.2.2.2.2.2.2.2.2.2.2.2.2.2.2.2.2.1
theorem k0_off21_inb : ∀ (i : grid0.Coords) (v396 : BitVec 32) (v682 : BitVec 32) (k0_hw1 : k0_chk1 i v396 v682) (k0_t6 : Fin (k0_t6_loop i v396 v682).trips), ∀ (r₁ : Fin 2) (r₂ : Fin 2), ∀ a, (k0_off21 i v396 v682 k0_t6 (BitVec.ofNat 32 r₁.val) (BitVec.ofNat 32 r₂.val)) a + S1.size a ≤ S1024.size a := fun i v396 v682 k0_hw1 k0_t6 r₁ r₂ => k0_hw1.2.2.2.2.2.2.2.2.2.2.2.2.2.2.2.2.2.2.2.2.2.1 k0_t6 r₁ r₂
theorem k0_off22_inb : ∀ (i : grid0.Coords) (v396 : BitVec 32) (v682 : BitVec 32) (k0_hw1 : k0_chk1 i v396 v682) (k0_t6 : Fin (k0_t6_loop i v396 v682).trips), ∀ (r : Fin 2), ∀ a, (k0_off22 i v396 v682 k0_t6 (BitVec.ofNat 32 r.val)) a + S1x1x512x128.size a ≤ S1x32x512x128.size a := fun i v396 v682 k0_hw1 k0_t6 r => k0_hw1.2.2.2.2.2.2.2.2.2.2.2.2.2.2.2.2.2.2.2.2.2.2.1 k0_t6 r
theorem k0_off23_inb : ∀ (i : grid0.Coords) (v396 : BitVec 32) (v682 : BitVec 32) (k0_hw1 : k0_chk1 i v396 v682) (k0_t6 : Fin (k0_t6_loop i v396 v682).trips), ∀ (r : Fin 2), ∀ a, (k0_off23 i v396 v682 k0_t6 (BitVec.ofNat 32 r.val)) a + S1x1x128x512.size a ≤ S1x32x128x512.size a := fun i v396 v682 k0_hw1 k0_t6 r => k0_hw1.2.2.2.2.2.2.2.2.2.2.2.2.2.2.2.2.2.2.2.2.2.2.2.1 k0_t6 r
theorem k0_off24_inb : ∀ (i : grid0.Coords) (v396 : BitVec 32) (v682 : BitVec 32) (k0_hw1 : k0_chk1 i v396 v682), ∀ (k0_h1 : k0_cond1 i v396 v682 = 1#1), ∀ (r : Fin 2), ∀ a, (k0_off24 i v396 v682 (BitVec.ofNat 32 r.val)) a + S1.size a ≤ S1024.size a := fun i v396 v682 k0_hw1 k0_h1 r => k0_hw1.2.2.2.2.2.2.2.2.2.2.2.2.2.2.2.2.2.2.2.2.2.2.2.2.1 k0_h1 r
theorem k0_off25_inb : ∀ (i : grid0.Coords) (v396 : BitVec 32) (v682 : BitVec 32) (k0_hw1 : k0_chk1 i v396 v682), ∀ (k0_h1 : k0_cond1 i v396 v682 = 1#1), ∀ a, (k0_off25 i v396 v682) a + S1x1x512x128.size a ≤ S1x32x512x128.size a := fun i v396 v682 k0_hw1 k0_h1 => k0_hw1.2.2.2.2.2.2.2.2.2.2.2.2.2.2.2.2.2.2.2.2.2.2.2.2.2.1 k0_h1
theorem k0_off26_inb : ∀ (i : grid0.Coords) (v396 : BitVec 32) (v682 : BitVec 32) (k0_hw1 : k0_chk1 i v396 v682), ∀ (k0_h1 : k0_cond1 i v396 v682 = 1#1), ∀ a, (k0_off26 i v396 v682) a + S1x1x128x512.size a ≤ S1x32x128x512.size a := fun i v396 v682 k0_hw1 k0_h1 => k0_hw1.2.2.2.2.2.2.2.2.2.2.2.2.2.2.2.2.2.2.2.2.2.2.2.2.2.2.1 k0_h1
theorem k0_off27_inb : ∀ (i : grid0.Coords) (v396 : BitVec 32) (v682 : BitVec 32) (k0_hw1 : k0_chk1 i v396 v682), ∀ (k0_h1 : k0_cond1 i v396 v682 = 1#1), ∀ (r : Fin 2), ∀ a, (k0_off27 i v396 v682 (BitVec.ofNat 32 r.val)) a + S1.size a ≤ S1024.size a := fun i v396 v682 k0_hw1 k0_h1 r => k0_hw1.2.2.2.2.2.2.2.2.2.2.2.2.2.2.2.2.2.2.2.2.2.2.2.2.2.2.2.1 k0_h1 r
theorem k0_off28_inb : ∀ (i : grid0.Coords) (v396 : BitVec 32) (v682 : BitVec 32) (k0_hw1 : k0_chk1 i v396 v682), ∀ (k0_h1 : k0_cond1 i v396 v682 = 1#1), ∀ a, (k0_off28 v396 v682) a + S1x1x128x512.size a ≤ S1x32x128x512.size a := fun i v396 v682 k0_hw1 k0_h1 => k0_hw1.2.2.2.2.2.2.2.2.2.2.2.2.2.2.2.2.2.2.2.2.2.2.2.2.2.2.2.2.1 k0_h1
theorem k0_off29_inb : ∀ (i : grid0.Coords) (v396 : BitVec 32) (v682 : BitVec 32) (k0_hw1 : k0_chk1 i v396 v682), ∀ (k0_h2 : k0_cond2 i v396 v682 = 1#1), ∀ (r : Fin 2), ∀ a, (k0_off29 i v396 v682 (BitVec.ofNat 32 r.val)) a + S1.size a ≤ S1024.size a := fun i v396 v682 k0_hw1 k0_h2 r => k0_hw1.2.2.2.2.2.2.2.2.2.2.2.2.2.2.2.2.2.2.2.2.2.2.2.2.2.2.2.2.2.1 k0_h2 r
theorem k0_off30_inb : ∀ (i : grid0.Coords) (v396 : BitVec 32) (v682 : BitVec 32) (k0_hw1 : k0_chk1 i v396 v682), ∀ (k0_h2 : k0_cond2 i v396 v682 = 1#1), ∀ a, (k0_off30 v396 v682) a + S1x1x128x512.size a ≤ S1x32x128x512.size a := fun i v396 v682 k0_hw1 k0_h2 => k0_hw1.2.2.2.2.2.2.2.2.2.2.2.2.2.2.2.2.2.2.2.2.2.2.2.2.2.2.2.2.2.2 k0_h2

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x32x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "exp2_zero_gap" => some ⊤
  | _ => none
-- ==== ReferenceIdeal.lean ====
abbrev S2x32x1024x512 : Shape := ⟨4, ![2, 32, 1024, 512]⟩
abbrev S32768x1024 : Shape := ⟨2, ![32768, 1024]⟩
abbrev S64x1x1024 : Shape := ⟨3, ![64, 1, 1024]⟩
abbrev S2x32x128 : Shape := ⟨3, ![2, 32, 128]⟩
abbrev S_ : Shape := ⟨0, ![]⟩
abbrev S2x32x512x1024 : Shape := ⟨4, ![2, 32, 512, 1024]⟩
abbrev S2x16384x16x64 : Shape := ⟨4, ![2, 16384, 16, 64]⟩
abbrev S2x16x16384x64 : Shape := ⟨4, ![2, 16, 16384, 64]⟩
abbrev S2x16384x8x128 : Shape := ⟨4, ![2, 16384, 8, 128]⟩
abbrev S2x16384x8x6 : Shape := ⟨4, ![2, 16384, 8, 6]⟩
abbrev S2x16384x16x3 : Shape := ⟨4, ![2, 16384, 16, 3]⟩
abbrev S2x16384x16 : Shape := ⟨3, ![2, 16384, 16]⟩
abbrev S2x32x16 : Shape := ⟨3, ![2, 32, 16]⟩
abbrev S2x32x1x16 : Shape := ⟨4, ![2, 32, 1, 16]⟩
abbrev S2x32x512x16 : Shape := ⟨4, ![2, 32, 512, 16]⟩
abbrev S2x16x16384 : Shape := ⟨3, ![2, 16, 16384]⟩
abbrev S2x16x16384x16384 : Shape := ⟨4, ![2, 16, 16384, 16384]⟩
abbrev S2x16x16384x1 : Shape := ⟨4, ![2, 16, 16384, 1]⟩
abbrev S2x16x1x16384 : Shape := ⟨4, ![2, 16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x16384x1024 : Shape := ⟨3, ![2, 16384, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x32x1024x512, .bf16⟩
  | .hbm, ⟨1, _⟩ => ⟨S32768x1024, .bf16⟩
  | .hbm, ⟨2, _⟩ => ⟨S32768x1024, .bf16⟩
  | .hbm, ⟨3, _⟩ => ⟨S2x32x1024x512, .bf16⟩
  | .hbm, ⟨4, _⟩ => ⟨S64x1x1024, .f32⟩
  | .hbm, ⟨5, _⟩ => ⟨S2x32x128, .f32⟩
  | .hbm, ⟨6, _⟩ => ⟨S_, .f32⟩
  | .hbm, ⟨7, _⟩ => ⟨S_, .f32⟩
  | .hbm, ⟨8, _⟩ => ⟨S2x32x512x1024, .bf16⟩
  | .hbm, ⟨9, _⟩ => ⟨S2x16384x16x64, .bf16⟩
  | .hbm, ⟨10, _⟩ => ⟨S2x16x16384x64, .bf16⟩
  | .hbm, ⟨11, _⟩ => ⟨S2x16384x16x64, .bf16⟩
  | .hbm, ⟨12, _⟩ => ⟨S2x16x16384x64, .bf16⟩
  | .hbm, ⟨13, _⟩ => ⟨S2x32x512x1024, .bf16⟩
  | .hbm, ⟨14, _⟩ => ⟨S2x16384x16x64, .bf16⟩
  | .hbm, ⟨15, _⟩ => ⟨S2x16x16384x64, .bf16⟩
  | .hbm, ⟨16, _⟩ => ⟨S32768x1024, .f32⟩
  | .hbm, ⟨17, _⟩ => ⟨S2x16384x8x128, .f32⟩
  | .hbm, ⟨18, _⟩ => ⟨S2x16384x8x6, .f32⟩
  | .hbm, ⟨19, _⟩ => ⟨S2x16384x16x3, .f32⟩
  | .hbm, ⟨20, _⟩ => ⟨S_, .f32⟩
  | .hbm, ⟨21, _⟩ => ⟨S2x16384x16, .f32⟩
  | .hbm, ⟨22, _⟩ => ⟨S2x32x16, .f32⟩
  | .hbm, ⟨23, _⟩ => ⟨S2x32x1x16, .f32⟩
  | .hbm, ⟨24, _⟩ => ⟨S2x32x512x16, .f32⟩
  | .hbm, ⟨25, _⟩ => ⟨S2x16384x16, .f32⟩
  | .hbm, ⟨26, _⟩ => ⟨S2x16384x16, .f32⟩
  | .hbm, ⟨27, _⟩ => ⟨S2x16x16384, .f32⟩
  | .hbm, ⟨28, _⟩ => ⟨S2x16x16384, .f32⟩
  | .hbm, ⟨29, _⟩ => ⟨S2x16x16384, .f32⟩
  | .hbm, ⟨30, _⟩ => ⟨S2x16x16384x16384, .f32⟩
  | .hbm, ⟨31, _⟩ => ⟨S2x16x16384x16384, .f32⟩
  | .hbm, ⟨32, _⟩ => ⟨S2x16x16384x16384, .f32⟩
  | .hbm, ⟨33, _⟩ => ⟨S2x16x16384x1, .f32⟩
  | .hbm, ⟨34, _⟩ => ⟨S2x16x16384x16384, .f32⟩
  | .hbm, ⟨35, _⟩ => ⟨S2x16x16384x16384, .f32⟩
  | .hbm, ⟨36, _⟩ => ⟨S2x16x1x16384, .f32⟩
  | .hbm, ⟨37, _⟩ => ⟨S2x16x16384x16384, .f32⟩
  | .hbm, ⟨38, _⟩ => ⟨S2x16x16384x16384, .f32⟩
  | .hbm, ⟨39, _⟩ => ⟨S16384, .i32⟩
  | .hbm, ⟨40, _⟩ => ⟨S1x16384, .i32⟩
  | .hbm, ⟨41, _⟩ => ⟨S16384x1, .i32⟩
  | .hbm, ⟨42, _⟩ => ⟨S16384x16384, .i32⟩
  | .hbm, ⟨43, _⟩ => ⟨S16384x16384, .i32⟩
  | .hbm, ⟨44, _⟩ => ⟨S16384x16384, .i1⟩
  | .hbm, ⟨45, _⟩ => ⟨S_, .f32⟩
  | .hbm, ⟨46, _⟩ => ⟨S_, .f32⟩
  | .hbm, ⟨47, _⟩ => ⟨S2x16x16384x16384, .i1⟩
  | .hbm, ⟨48, _⟩ => ⟨S2x16x16384x16384, .f32⟩
  | .hbm, ⟨49, _⟩ => ⟨S2x16x16384x16384, .f32⟩
  | .hbm, ⟨50, _⟩ => ⟨S_, .f32⟩
  | .hbm, ⟨51, _⟩ => ⟨S2x16x16384, .f32⟩
  | .hbm, ⟨52, _⟩ => ⟨S_, .f32⟩
  | .hbm, ⟨53, _⟩ => ⟨S2x16x16384, .f32⟩
  | .hbm, ⟨54, _⟩ => ⟨S2x16x16384, .f32⟩
  | .hbm, ⟨55, _⟩ => ⟨S2x16x16384x1, .f32⟩
  | .hbm, ⟨56, _⟩ => ⟨S2x16x16384x16384, .f32⟩
  | .hbm, ⟨57, _⟩ => ⟨S2x16x16384x16384, .f32⟩
  | .hbm, ⟨58, _⟩ => ⟨S2x16x16384x16384, .f32⟩
  | .hbm, ⟨59, _⟩ => ⟨S_, .f32⟩
  | .hbm, ⟨60, _⟩ => ⟨S2x16x16384, .f32⟩
  | .hbm, ⟨61, _⟩ => ⟨S2x16x16384x1, .f32⟩
  | .hbm, ⟨62, _⟩ => ⟨S2x16x16384x16384, .f32⟩
  | .hbm, ⟨63, _⟩ => ⟨S2x16x16384x16384, .f32⟩
  | .hbm, ⟨64, _⟩ => ⟨S2x16x16384x16384, .bf16⟩
  | .hbm, ⟨65, _⟩ => ⟨S2x16x16384x64, .f32⟩
  | .hbm, ⟨66, _⟩ => ⟨S2x16384x16x64, .f32⟩
  | .hbm, ⟨67, _⟩ => ⟨S2x16384x1024, .f32⟩
  | .hbm, ⟨68, _⟩ => ⟨S2x16384x1024, .bf16⟩
  | _, _ => ⟨S2x32x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Kernel2.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2048 : Shape := ⟨2, ![1024, 2048]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x2048, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2048 : Shape := ⟨2, ![1024, 2048]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S32768x2048 : Shape := ⟨2, ![32768, 2048]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32768x2048, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Proof.Step.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

/-- The user algebra: the pipeline library's. -/
local notation "𝕄" => MT nD τ sig Unit (Elt F) ℕ (UR sig nD τ) ℕ

/-! ## One block, as the kernel runs it: the softmax update of the block in one score buffer, the next block's
scores into the other, and the product with the values -/

/-- Where a block's update reads: the score buffer and its column maxima. -/
structure Bufs where
  s : Memref sig .tc .vmem S2x512x512 .f32
  bm : Memref sig .tc .vmem S2x1x512 .f32

/-- The running maximum and the accumulator. -/
structure Accs where
  m : Memref sig .tc .vmem S2x1x512 .f32
  acc : Memref sig .tc .vmem S2x80x512 .f32

/-- The values the loops read: the two augmented queries, the ones rows and the two query columns. -/
structure Vals (F : FTy → Type) where
  v14 : FVec F S256x512 .bf16
  v25 : FVec F S256x512 .bf16
  v26 : FVec F S16x512 .bf16
  v40 : FVec F S1x512 .f32
  v44 : FVec F S1x512 .f32

/-- What the softmax update hands on. -/
structure Soft (F : FTy → Type) where
  a0 : FVec F S1x512 .f32
  p0 : FVec F S512x512 .bf16
  a1 : FVec F S1x512 .f32
  p1 : FVec F S512x512 .bf16

/-- A place of the offsets' row, of a block of keys, of a block of values. -/
abbrev Off1 := {o : Fin 1 → Nat // ∀ a, o a + S1.size a ≤ S1024.size a}
abbrev OffK := {o : Fin 4 → Nat // ∀ a, o a + S1x1x512x128.size a ≤ S1x32x512x128.size a}
abbrev OffV := {o : Fin 4 → Nat // ∀ a, o a + S1x1x128x512.size a ≤ S1x32x128x512.size a}

/-- One block: the update from `B`, the next block's scores into `D`, the product. -/
def stepP (X : Vals F) (arg3 : Memref sig .tc .smem S1024 .f32) (arg5 arg6 : Memref sig .tc .vmem S1x32x512x128 .bf16) (arg7 : Memref sig .tc .vmem S1x32x128x512 .bf16)
    (A : Accs) (B D : Bufs) (o0 o1 : Off1) (oK : OffK) (oV : OffV) :
    Prog (TpuEff nD τ sig (Elt F) Λ₀ .tc) PUnit := do
  let s0 : Vec F S1x512x512 .f32 ← Prog.lift (.load B.s (Rect.unit (s := S2x512x512) ![0, 0, 0] S1x512x512.size inb_S2x512x512_S1x512x512_0_0_0).toLoadRect (View.loadsAt_vmem h_S1x512x512))
  let b0 : Vec F S1x1x512 .f32 ← Prog.lift (.load B.bm (Rect.unit (s := S2x1x512) ![0, 0, 0] S1x1x512.size inb_S2x1x512_S1x1x512_0_0_0).toLoadRect (View.loadsAt_vmem h_S1x1x512))
  let f0 : Elt F .f32 ← smemLoad arg3 (Rect.unit (s := S1024) o0.1 S1.size o0.2) numel1_S1 rfl
  let m0 : Vec F S1x1x512 .f32 ← Prog.lift (.load A.m (Rect.unit (s := S2x1x512) ![0, 0, 0] S1x1x512.size inb_S2x1x512_S1x1x512_0_0_0).toLoadRect (View.loadsAt_vmem h_S1x1x512))
  let _m0 : Vec F S1x1x512 .f32 ← Prog.lift (.load A.m (Rect.unit (s := S2x1x512) ![0, 0, 0] S1x1x512.size inb_S2x1x512_S1x1x512_0_0_0).toLoadRect (View.loadsAt_vmem h_S1x1x512))
  Prog.lift (.store A.m (Rect.unit (s := S2x1x512) ![0, 0, 0] S1x1x512.size inb_S2x1x512_S1x1x512_0_0_0) (k0_pay583 X.v40 b0 f0 m0) Finset.univ (View.stores_vmem_bits_univ h_S1x1x512 rfl) (.inl rfl))
  let s1 : Vec F S1x512x512 .f32 ← Prog.lift (.load B.s (Rect.unit (s := S2x512x512) ![1, 0, 0] S1x512x512.size inb_S2x512x512_S1x512x512_1_0_0).toLoadRect (View.loadsAt_vmem h_S1x512x512))
  let b1 : Vec F S1x1x512 .f32 ← Prog.lift (.load B.bm (Rect.unit (s := S2x1x512) ![1, 0, 0] S1x1x512.size inb_S2x1x512_S1x1x512_1_0_0).toLoadRect (View.loadsAt_vmem h_S1x1x512))
  let f1 : Elt F .f32 ← smemLoad arg3 (Rect.unit (s := S1024) o1.1 S1.size o1.2) numel1_S1 rfl
  let m1 : Vec F S1x1x512 .f32 ← Prog.lift (.load A.m (Rect.unit (s := S2x1x512) ![1, 0, 0] S1x1x512.size inb_S2x1x512_S1x1x512_1_0_0).toLoadRect (View.loadsAt_vmem h_S1x1x512))
  let _m1 : Vec F S1x1x512 .f32 ← Prog.lift (.load A.m (Rect.unit (s := S2x1x512) ![1, 0, 0] S1x1x512.size inb_S2x1x512_S1x1x512_1_0_0).toLoadRect (View.loadsAt_vmem h_S1x1x512))
  Prog.lift (.store A.m (Rect.unit (s := S2x1x512) ![1, 0, 0] S1x1x512.size inb_S2x1x512_S1x1x512_1_0_0) (k0_pay591 (k0_pay585 b1) (k0_pay586 X.v44 f1) m1) Finset.univ (View.stores_vmem_bits_univ h_S1x1x512 rfl) (.inl rfl))
  let k : Vec F S1x1x512x128 .bf16 ← Prog.lift (.load arg5 (Rect.unit (s := S1x32x512x128) oK.1 S1x1x512x128.size oK.2).toLoadRect (View.loadsAt_vmem h_S1x1x512x128))
  let kc : Vec F S1x1x512x128 .bf16 ← Prog.lift (.load arg6 (Rect.unit (s := S1x32x512x128) oK.1 S1x1x512x128.size oK.2).toLoadRect (View.loadsAt_vmem h_S1x1x512x128))
  let _x0 : Vec F S1x512x512 .f32 ← Prog.lift (.load D.s (Rect.unit (s := S2x512x512) ![0, 0, 0] S1x512x512.size inb_S2x512x512_S1x512x512_0_0_0).toLoadRect (View.loadsAt_vmem h_S1x512x512))
  Prog.lift (.store D.s (Rect.unit (s := S2x512x512) ![0, 0, 0] S1x512x512.size inb_S2x512x512_S1x512x512_0_0_0) (k0_pay594 X.v14 k kc) Finset.univ (View.stores_vmem_bits_univ h_S1x512x512 rfl) (.inl rfl))
  let _x1 : Vec F S1x1x512 .f32 ← Prog.lift (.load D.bm (Rect.unit (s := S2x1x512) ![0, 0, 0] S1x1x512.size inb_S2x1x512_S1x1x512_0_0_0).toLoadRect (View.loadsAt_vmem h_S1x1x512))
  Prog.lift (.store D.bm (Rect.unit (s := S2x1x512) ![0, 0, 0] S1x1x512.size inb_S2x1x512_S1x1x512_0_0_0) (k0_pay595 X.v14 k kc) Finset.univ (View.stores_vmem_bits_univ h_S1x1x512 rfl) (.inl rfl))
  let _x2 : Vec F S1x512x512 .f32 ← Prog.lift (.load D.s (Rect.unit (s := S2x512x512) ![1, 0, 0] S1x512x512.size inb_S2x512x512_S1x512x512_1_0_0).toLoadRect (View.loadsAt_vmem h_S1x512x512))
  Prog.lift (.store D.s (Rect.unit (s := S2x512x512) ![1, 0, 0] S1x512x512.size inb_S2x512x512_S1x512x512_1_0_0) (k0_pay597 (k0_pay596 X.v25 k kc)) Finset.univ (View.stores_vmem_bits_univ h_S1x512x512 rfl) (.inl rfl))
  let _x3 : Vec F S1x1x512 .f32 ← Prog.lift (.load D.bm (Rect.unit (s := S2x1x512) ![1, 0, 0] S1x1x512.size inb_S2x1x512_S1x1x512_1_0_0).toLoadRect (View.loadsAt_vmem h_S1x1x512))
  Prog.lift (.store D.bm (Rect.unit (s := S2x1x512) ![1, 0, 0] S1x1x512.size inb_S2x1x512_S1x1x512_1_0_0) (k0_pay598 (k0_pay596 X.v25 k kc)) Finset.univ (View.stores_vmem_bits_univ h_S1x1x512 rfl) (.inl rfl))
  let v : Vec F S1x1x128x512 .bf16 ← Prog.lift (.load arg7 (Rect.unit (s := S1x32x128x512) oV.1 S1x1x128x512.size oV.2).toLoadRect (View.loadsAt_vmem h_S1x1x128x512))
  let c0 : Vec F S1x80x512 .f32 ← Prog.lift (.load A.acc (Rect.unit (s := S2x80x512) ![0, 0, 0] S1x80x512.size inb_S2x80x512_S1x80x512_0_0_0).toLoadRect (View.loadsAt_vmem h_S1x80x512))
  let _c0 : Vec F S1x80x512 .f32 ← Prog.lift (.load A.acc (Rect.unit (s := S2x80x512) ![0, 0, 0] S1x80x512.size inb_S2x80x512_S1x80x512_0_0_0).toLoadRect (View.loadsAt_vmem h_S1x80x512))
  Prog.lift (.store A.acc (Rect.unit (s := S2x80x512) ![0, 0, 0] S1x80x512.size inb_S2x80x512_S1x80x512_0_0_0) (k0_pay600 X.v26 (k0_pay581 X.v40 b0 f0 m0) (k0_pay582 X.v40 s0 b0 f0 m0) v c0) Finset.univ (View.stores_vmem_bits_univ h_S1x80x512 rfl) (.inl rfl))
  let c1 : Vec F S1x80x512 .f32 ← Prog.lift (.load A.acc (Rect.unit (s := S2x80x512) ![1, 0, 0] S1x80x512.size inb_S2x80x512_S1x80x512_1_0_0).toLoadRect (View.loadsAt_vmem h_S1x80x512))
  let _c1 : Vec F S1x80x512 .f32 ← Prog.lift (.load A.acc (Rect.unit (s := S2x80x512) ![1, 0, 0] S1x80x512.size inb_S2x80x512_S1x80x512_1_0_0).toLoadRect (View.loadsAt_vmem h_S1x80x512))
  Prog.lift (.store A.acc (Rect.unit (s := S2x80x512) ![1, 0, 0] S1x80x512.size inb_S2x80x512_S1x80x512_1_0_0) (k0_pay601 X.v26 (k0_pay589 (k0_pay585 b1) (k0_pay586 X.v44 f1) m1) (k0_pay590 (k0_pay584 s1) (k0_pay585 b1) (k0_pay586 X.v44 f1) m1) v c1) Finset.univ (View.stores_vmem_bits_univ h_S1x80x512 rfl) (.inl rfl))

/-- The last block: the update from `B` and the product. -/
def lastP (X : Vals F) (arg3 : Memref sig .tc .smem S1024 .f32) (arg7 : Memref sig .tc .vmem S1x32x128x512 .bf16)
    (A : Accs) (B : Bufs) (o0 o1 : Off1) (oV : OffV) :
    Prog (TpuEff nD τ sig (Elt F) Λ₀ .tc) PUnit := do
  let s0 : Vec F S1x512x512 .f32 ← Prog.lift (.load B.s (Rect.unit (s := S2x512x512) ![0, 0, 0] S1x512x512.size inb_S2x512x512_S1x512x512_0_0_0).toLoadRect (View.loadsAt_vmem h_S1x512x512))
  let b0 : Vec F S1x1x512 .f32 ← Prog.lift (.load B.bm (Rect.unit (s := S2x1x512) ![0, 0, 0] S1x1x512.size inb_S2x1x512_S1x1x512_0_0_0).toLoadRect (View.loadsAt_vmem h_S1x1x512))
  let f0 : Elt F .f32 ← smemLoad arg3 (Rect.unit (s := S1024) o0.1 S1.size o0.2) numel1_S1 rfl
  let m0 : Vec F S1x1x512 .f32 ← Prog.lift (.load A.m (Rect.unit (s := S2x1x512) ![0, 0, 0] S1x1x512.size inb_S2x1x512_S1x1x512_0_0_0).toLoadRect (View.loadsAt_vmem h_S1x1x512))
  let _m0 : Vec F S1x1x512 .f32 ← Prog.lift (.load A.m (Rect.unit (s := S2x1x512) ![0, 0, 0] S1x1x512.size inb_S2x1x512_S1x1x512_0_0_0).toLoadRect (View.loadsAt_vmem h_S1x1x512))
  Prog.lift (.store A.m (Rect.unit (s := S2x1x512) ![0, 0, 0] S1x1x512.size inb_S2x1x512_S1x1x512_0_0_0) (k0_pay583 X.v40 b0 f0 m0) Finset.univ (View.stores_vmem_bits_univ h_S1x1x512 rfl) (.inl rfl))
  let s1 : Vec F S1x512x512 .f32 ← Prog.lift (.load B.s (Rect.unit (s := S2x512x512) ![1, 0, 0] S1x512x512.size inb_S2x512x512_S1x512x512_1_0_0).toLoadRect (View.loadsAt_vmem h_S1x512x512))
  let b1 : Vec F S1x1x512 .f32 ← Prog.lift (.load B.bm (Rect.unit (s := S2x1x512) ![1, 0, 0] S1x1x512.size inb_S2x1x512_S1x1x512_1_0_0).toLoadRect (View.loadsAt_vmem h_S1x1x512))
  let f1 : Elt F .f32 ← smemLoad arg3 (Rect.unit (s := S1024) o1.1 S1.size o1.2) numel1_S1 rfl
  let m1 : Vec F S1x1x512 .f32 ← Prog.lift (.load A.m (Rect.unit (s := S2x1x512) ![1, 0, 0] S1x1x512.size inb_S2x1x512_S1x1x512_1_0_0).toLoadRect (View.loadsAt_vmem h_S1x1x512))
  let _m1 : Vec F S1x1x512 .f32 ← Prog.lift (.load A.m (Rect.unit (s := S2x1x512) ![1, 0, 0] S1x1x512.size inb_S2x1x512_S1x1x512_1_0_0).toLoadRect (View.loadsAt_vmem h_S1x1x512))
  Prog.lift (.store A.m (Rect.unit (s := S2x1x512) ![1, 0, 0] S1x1x512.size inb_S2x1x512_S1x1x512_1_0_0) (k0_pay591 (k0_pay585 b1) (k0_pay586 X.v44 f1) m1) Finset.univ (View.stores_vmem_bits_univ h_S1x1x512 rfl) (.inl rfl))
  let v : Vec F S1x1x128x512 .bf16 ← Prog.lift (.load arg7 (Rect.unit (s := S1x32x128x512) oV.1 S1x1x128x512.size oV.2).toLoadRect (View.loadsAt_vmem h_S1x1x128x512))
  let c0 : Vec F S1x80x512 .f32 ← Prog.lift (.load A.acc (Rect.unit (s := S2x80x512) ![0, 0, 0] S1x80x512.size inb_S2x80x512_S1x80x512_0_0_0).toLoadRect (View.loadsAt_vmem h_S1x80x512))
  let _c0 : Vec F S1x80x512 .f32 ← Prog.lift (.load A.acc (Rect.unit (s := S2x80x512) ![0, 0, 0] S1x80x512.size inb_S2x80x512_S1x80x512_0_0_0).toLoadRect (View.loadsAt_vmem h_S1x80x512))
  Prog.lift (.store A.acc (Rect.unit (s := S2x80x512) ![0, 0, 0] S1x80x512.size inb_S2x80x512_S1x80x512_0_0_0) (k0_pay600 X.v26 (k0_pay581 X.v40 b0 f0 m0) (k0_pay582 X.v40 s0 b0 f0 m0) v c0) Finset.univ (View.stores_vmem_bits_univ h_S1x80x512 rfl) (.inl rfl))
  let c1 : Vec F S1x80x512 .f32 ← Prog.lift (.load A.acc (Rect.unit (s := S2x80x512) ![1, 0, 0] S1x80x512.size inb_S2x80x512_S1x80x512_1_0_0).toLoadRect (View.loadsAt_vmem h_S1x80x512))
  let _c1 : Vec F S1x80x512 .f32 ← Prog.lift (.load A.acc (Rect.unit (s := S2x80x512) ![1, 0, 0] S1x80x512.size inb_S2x80x512_S1x80x512_1_0_0).toLoadRect (View.loadsAt_vmem h_S1x80x512))
  Prog.lift (.store A.acc (Rect.unit (s := S2x80x512) ![1, 0, 0] S1x80x512.size inb_S2x80x512_S1x80x512_1_0_0) (k0_pay601 X.v26 (k0_pay589 (k0_pay585 b1) (k0_pay586 X.v44 f1) m1) (k0_pay590 (k0_pay584 s1) (k0_pay585 b1) (k0_pay586 X.v44 f1) m1) v c1) Finset.univ (View.stores_vmem_bits_univ h_S1x80x512 rfl) (.inl rfl))

/-! ## What a block's run does to the buffers -/

/-- Two halves of a buffer held by what a load of each reads. -/
def twoRow (c : Dev nD) (M : Memref sig .tc .vmem S2x1x512 .f32) (x0 x1 : Vec F S1x1x512 .f32) : sProp 𝕄 :=
  iprop(∃ f, ⌜M.view.readAt (Elt F) (Rect.unit (s := S2x1x512) ![0, 0, 0] S1x1x512.size inb_S2x1x512_S1x1x512_0_0_0).toLoadRect f = x0 ∧ M.view.readAt (Elt F) (Rect.unit (s := S2x1x512) ![1, 0, 0] S1x1x512.size inb_S2x1x512_S1x1x512_1_0_0).toLoadRect f = x1⌝
    ∗ (M.view.loc (c : Thread nD τ) ↦[M.view.set]{fullShare} f))
def twoAcc (c : Dev nD) (M : Memref sig .tc .vmem S2x80x512 .f32) (x0 x1 : Vec F S1x80x512 .f32) : sProp 𝕄 :=
  iprop(∃ f, ⌜M.view.readAt (Elt F) (Rect.unit (s := S2x80x512) ![0, 0, 0] S1x80x512.size inb_S2x80x512_S1x80x512_0_0_0).toLoadRect f = x0 ∧ M.view.readAt (Elt F) (Rect.unit (s := S2x80x512) ![1, 0, 0] S1x80x512.size inb_S2x80x512_S1x80x512_1_0_0).toLoadRect f = x1⌝
    ∗ (M.view.loc (c : Thread nD τ) ↦[M.view.set]{fullShare} f))
def twoBig (c : Dev nD) (M : Memref sig .tc .vmem S2x512x512 .f32) (x0 x1 : Vec F S1x512x512 .f32) : sProp 𝕄 :=
  iprop(∃ f, ⌜M.view.readAt (Elt F) (Rect.unit (s := S2x512x512) ![0, 0, 0] S1x512x512.size inb_S2x512x512_S1x512x512_0_0_0).toLoadRect f = x0 ∧ M.view.readAt (Elt F) (Rect.unit (s := S2x512x512) ![1, 0, 0] S1x512x512.size inb_S2x512x512_S1x512x512_1_0_0).toLoadRect f = x1⌝
    ∗ (M.view.loc (c : Thread nD τ) ↦[M.view.set]{fullShare} f))

/-- What the four buffers the update writes and reads hold. -/
structure MA (F : FTy → Type) where
  m0 : Vec F S1x1x512 .f32
  m1 : Vec F S1x1x512 .f32
  c0 : Vec F S1x80x512 .f32
  c1 : Vec F S1x80x512 .f32
structure Sc (F : FTy → Type) where
  s0 : Vec F S1x512x512 .f32
  s1 : Vec F S1x512x512 .f32
  b0 : Vec F S1x1x512 .f32
  b1 : Vec F S1x1x512 .f32

/-- The running maximum and the accumulator after a block's update: from its scores, its two offsets and its values. -/
def updMA (X : Vals F) (s : MA F) (t : Sc F) (f0 f1 : Elt F .f32) (v : Vec F S1x1x128x512 .bf16) : MA F where
  m0 := k0_pay583 X.v40 t.b0 f0 s.m0
  m1 := k0_pay591 (k0_pay585 t.b1) (k0_pay586 X.v44 f1) s.m1
  c0 := k0_pay600 X.v26 (k0_pay581 X.v40 t.b0 f0 s.m0) (k0_pay582 X.v40 t.s0 t.b0 f0 s.m0) v s.c0
  c1 := k0_pay601 X.v26 (k0_pay589 (k0_pay585 t.b1) (k0_pay586 X.v44 f1) s.m1) (k0_pay590 (k0_pay584 t.s1) (k0_pay585 t.b1) (k0_pay586 X.v44 f1) s.m1) v s.c1

/-- A block's scores and their column maxima: from its keys and its decay columns. -/
def scoreOf (X : Vals F) (k kc : Vec F S1x1x512x128 .bf16) : Sc F where
  s0 := k0_pay594 X.v14 k kc
  b0 := k0_pay595 X.v14 k kc
  s1 := k0_pay597 (k0_pay596 X.v25 k kc)
  b1 := k0_pay598 (k0_pay596 X.v25 k kc)

def hasMA (c : Dev nD) (A : Accs) (s : MA F) : sProp 𝕄 := iprop(twoRow c A.m s.m0 s.m1 ∗ twoAcc c A.acc s.c0 s.c1)
def hasSc (c : Dev nD) (B : Bufs) (t : Sc F) : sProp 𝕄 := iprop(twoBig c B.s t.s0 t.s1 ∗ twoRow c B.bm t.b0 t.b1)

end Cert.KernelIdeal.Hand
-- ==== Proof.StepWp.lean ====
module

public import proofs.«01_k».proof.Proof.Step
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of the half last stored reads what was stored; -/
theorem rd_hit {s : Shape} {e : EltTy} {sp : Space} (v : View sig .tc sp s e) (f : v.ty.Contents (Elt F)) (r : Rect s) (w : r.shape.Idx → Elt F e)
    (L : List (View.Piece (Elt F) s e)) : v.readAt (Elt F) r.toLoadRect (v.writes (Elt F) f (⟨r, w⟩ :: L)) = w :=
  funext fun x => View.read_writes_cons_emb v f r w L x

/-- a load of the other half reads what was there before. -/
theorem rd_miss {a b : ℕ} {e : EltTy} {sp : Space} (v : View sig .tc sp ⟨3, ![2, a, b]⟩ e) (f : v.ty.Contents (Elt F)) (o o' : ℕ) (ho : o ≠ o')
    (inb : ∀ k, (![o, 0, 0] : Fin 3 → ℕ) k + (![1, a, b] : Fin 3 → ℕ) k ≤ (![2, a, b] : Fin 3 → ℕ) k)
    (inb' : ∀ k, (![o', 0, 0] : Fin 3 → ℕ) k + (![1, a, b] : Fin 3 → ℕ) k ≤ (![2, a, b] : Fin 3 → ℕ) k)
    (w : (Rect.unit (s := ⟨3, ![2, a, b]⟩) ![o', 0, 0] ![1, a, b] inb').shape.Idx → Elt F e)
    (L : List (View.Piece (Elt F) ⟨3, ![2, a, b]⟩ e)) :
    v.readAt (Elt F) (Rect.unit (s := ⟨3, ![2, a, b]⟩) ![o, 0, 0] ![1, a, b] inb).toLoadRect (v.writes (Elt F) f (⟨Rect.unit (s := ⟨3, ![2, a, b]⟩) ![o', 0, 0] ![1, a, b] inb', w⟩ :: L))
      = v.readAt (Elt F) (Rect.unit (s := ⟨3, ![2, a, b]⟩) ![o, 0, 0] ![1, a, b] inb).toLoadRect (v.writes (Elt F) f L) := by
  funext x
  refine View.read_writes_cons_unit_of_not_mem v f inb' w L _ rfl 0 ?_
  have hx : (x 0).val < 1 := (x 0).isLt
  have : (((Rect.unit (s := ⟨3, ![2, a, b]⟩) ![o, 0, 0] ![1, a, b] inb).toLoadRect.idx x) 0).val = o + 1 * (x 0).val := rfl
  show _ < o' ∨ o' + 1 ≤ _
  omega

/-- Two halves stored, the second last: what a load of each reads. -/
theorem rd_both {a b : ℕ} {e : EltTy} {sp : Space} (v : View sig .tc sp ⟨3, ![2, a, b]⟩ e) (f : v.ty.Contents (Elt F))
    (inb : ∀ k, (![0, 0, 0] : Fin 3 → ℕ) k + (![1, a, b] : Fin 3 → ℕ) k ≤ (![2, a, b] : Fin 3 → ℕ) k)
    (inb' : ∀ k, (![1, 0, 0] : Fin 3 → ℕ) k + (![1, a, b] : Fin 3 → ℕ) k ≤ (![2, a, b] : Fin 3 → ℕ) k)
    (w0 : (Rect.unit (s := ⟨3, ![2, a, b]⟩) ![0, 0, 0] ![1, a, b] inb).shape.Idx → Elt F e)
    (w1 : (Rect.unit (s := ⟨3, ![2, a, b]⟩) ![1, 0, 0] ![1, a, b] inb').shape.Idx → Elt F e) (L : List (View.Piece (Elt F) ⟨3, ![2, a, b]⟩ e)) :
    v.readAt (Elt F) (Rect.unit (s := ⟨3, ![2, a, b]⟩) ![0, 0, 0] ![1, a, b] inb).toLoadRect (v.writes (Elt F) f (⟨Rect.unit (s := ⟨3, ![2, a, b]⟩) ![1, 0, 0] ![1, a, b] inb', w1⟩ :: ⟨Rect.unit (s := ⟨3, ![2, a, b]⟩) ![0, 0, 0] ![1, a, b] inb, w0⟩ :: L)) = w0
    ∧ v.readAt (Elt F) (Rect.unit (s := ⟨3, ![2, a, b]⟩) ![1, 0, 0] ![1, a, b] inb').toLoadRect (v.writes (Elt F) f (⟨Rect.unit (s := ⟨3, ![2, a, b]⟩) ![1, 0, 0] ![1, a, b] inb', w1⟩ :: ⟨Rect.unit (s := ⟨3, ![2, a, b]⟩) ![0, 0, 0] ![1, a, b] inb, w0⟩ :: L)) = w1 :=
  ⟨(rd_miss v f 0 1 (by decide) inb inb' w1 _).trans (rd_hit v f _ w0 _), rd_hit v f _ w1 _⟩

/-- What the update reads of its inputs: an offset's word, a block of values, a block of keys. -/
def offOf (O : Vec F S1024 .f32) (o : Off1) : Elt F .f32 := O ((Rect.unit (s := S1024) o.1 S1.size o.2).emb (Shape.Idx.first (numel1_S1.symm ▸ Nat.one_pos)))
def valOf (V : Vec F S1x32x128x512 .bf16) (o : OffV) : Vec F S1x1x128x512 .bf16 := View.ld V (Rect.unit (s := S1x32x128x512) o.1 S1x1x128x512.size o.2)
def keyOf (K : Vec F S1x32x512x128 .bf16) (o : OffK) : Vec F S1x1x512x128 .bf16 := View.ld K (Rect.unit (s := S1x32x512x128) o.1 S1x1x512x128.size o.2)

set_option backward.proofsInPublic true in
/-- The last block's run. -/
theorem last_wp (c : Dev nD) (X : Vals F) (arg3 : Memref sig .tc .smem S1024 .f32) (arg7 : Memref sig .tc .vmem S1x32x128x512 .bf16)
    (A : Accs) (B : Bufs) (o0 o1 : Off1) (oV : OffV) (s : MA F) (t : Sc F)
    (O : Vec F S1024 .f32) (V : Vec F S1x32x128x512 .bf16) :
    iprop(hasMA c A s ∗ hasSc c B t ∗ owns (c : Thread nD τ) arg3 fullShare O ∗ owns (c : Thread nD τ) arg7 fullShare V)
    ⊢ wp frame (wpE (defs₀ (F := F)) Variants.none (c : Thread nD τ) none) Set.univ
        (lastP X arg3 arg7 A B o0 o1 oV)
        (fun _ => iprop(hasMA c A (updMA X s t (offOf O o0) (offOf O o1) (valOf V oV)) ∗ hasSc c B t ∗ owns (c : Thread nD τ) arg3 fullShare O ∗ owns (c : Thread nD τ) arg7 fullShare V)) := by
  unfold hasMA hasSc twoRow twoAcc twoBig owns
  iintro ⟨⟨⟨%fm, %hm, HM⟩, ⟨%fa, %ha, HA⟩⟩, ⟨⟨%fs, %hs, HS⟩, ⟨%fb, %hb, HB⟩⟩, ⟨%f3, %h3, H3⟩, ⟨%f7, %h7, H7⟩⟩
  subst h3 h7
  obtain ⟨hm0, hm1⟩ := hm
  obtain ⟨ha0, ha1⟩ := ha
  obtain ⟨hs0, hs1⟩ := hs
  obtain ⟨hb0, hb1⟩ := hb
  sl_unfold [lastP]
  sl_exec
  sl_step
  have e0 : last_wp.sl.r c arg3 o0 f3 = offOf (View.read (Elt F) arg3.view f3) o0 := by unfold last_wp.sl.r offOf; rfl
  have e1 : last_wp.sl.r_1 c arg3 o1 f3 = offOf (View.read (Elt F) arg3.view f3) o1 := by unfold last_wp.sl.r_1 offOf; rfl
  rw [e0, e1]
  isplitl [HM HA]
  · isplitl [HM]
    · iexists _; isplitr; swap; · iexact HM
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
    · iexists _; isplitr; swap; · iexact HA
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
  isplitl [HS HB]
  · isplitl [HS]
    · iexists _; isplitr; swap; · iexact HS
      ipureintro; exact ⟨hs0, hs1⟩
    · iexists _; isplitr; swap; · iexact HB
      ipureintro; exact ⟨hb0, hb1⟩
  isplitl [H3]
  · iexists _; isplitr; swap; · iexact H3
    ipureintro; rfl
  iexists _; isplitr; swap; · iexact H7
  ipureintro; rfl

set_option backward.proofsInPublic true in
/-- One block's run. -/
theorem step_wp (c : Dev nD) (X : Vals F) (arg3 : Memref sig .tc .smem S1024 .f32) (arg5 arg6 : Memref sig .tc .vmem S1x32x512x128 .bf16) (arg7 : Memref sig .tc .vmem S1x32x128x512 .bf16)
    (A : Accs) (B D : Bufs) (o0 o1 : Off1) (oK : OffK) (oV : OffV) (s : MA F) (t u : Sc F)
    (O : Vec F S1024 .f32) (K KC : Vec F S1x32x512x128 .bf16) (V : Vec F S1x32x128x512 .bf16) :
    iprop(hasMA c A s ∗ hasSc c B t ∗ hasSc c D u ∗ owns (c : Thread nD τ) arg3 fullShare O ∗ owns (c : Thread nD τ) arg5 fullShare K ∗ owns (c : Thread nD τ) arg6 fullShare KC ∗ owns (c : Thread nD τ) arg7 fullShare V)
    ⊢ wp frame (wpE (defs₀ (F := F)) Variants.none (c : Thread nD τ) none) Set.univ
        (stepP X arg3 arg5 arg6 arg7 A B D o0 o1 oK oV)
        (fun _ => iprop(hasMA c A (updMA X s t (offOf O o0) (offOf O o1) (valOf V oV)) ∗ hasSc c B t ∗ hasSc c D (scoreOf X (keyOf K oK) (keyOf KC oK)) ∗ owns (c : Thread nD τ) arg3 fullShare O ∗ owns (c : Thread nD τ) arg5 fullShare K ∗ owns (c : Thread nD τ) arg6 fullShare KC ∗ owns (c : Thread nD τ) arg7 fullShare V)) := by
  unfold hasMA hasSc twoRow twoAcc twoBig owns
  iintro ⟨⟨⟨%fm, %hm, HM⟩, ⟨%fa, %ha, HA⟩⟩, ⟨⟨%fs, %hs, HS⟩, ⟨%fb, %hb, HB⟩⟩, ⟨⟨%fd, -, HD⟩, ⟨%fe, -, HE⟩⟩, ⟨%f3, %h3, H3⟩, ⟨%f5, %h5, H5⟩, ⟨%f6, %h6, H6⟩, ⟨%f7, %h7, H7⟩⟩
  subst h3 h7 h5 h6
  obtain ⟨hm0, hm1⟩ := hm
  obtain ⟨ha0, ha1⟩ := ha
  obtain ⟨hs0, hs1⟩ := hs
  obtain ⟨hb0, hb1⟩ := hb
  sl_unfold [stepP]
  sl_exec
  sl_step
  have e0 : step_wp.sl.r c arg3 o0 f3 = offOf (View.read (Elt F) arg3.view f3) o0 := by unfold step_wp.sl.r offOf; rfl
  have e1 : step_wp.sl.r_1 c arg3 o1 f3 = offOf (View.read (Elt F) arg3.view f3) o1 := by unfold step_wp.sl.r_1 offOf; rfl
  rw [e0, e1]
  isplitl [HM HA]
  · isplitl [HM]
    · iexists _; isplitr; swap; · iexact HM
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
    · iexists _; isplitr; swap; · iexact HA
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
  isplitl [HS HB]
  · isplitl [HS]
    · iexists _; isplitr; swap; · iexact HS
      ipureintro; exact ⟨hs0, hs1⟩
    · iexists _; isplitr; swap; · iexact HB
      ipureintro; exact ⟨hb0, hb1⟩
  isplitl [HD HE]
  · isplitl [HD]
    · iexists _; isplitr; swap; · iexact HD
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
    · iexists _; isplitr; swap; · iexact HE
      ipureintro
      refine ⟨(rd_both _ _ _ _ _ _ _).1.trans ?_, (rd_both _ _ _ _ _ _ _).2.trans ?_⟩
      · dsimp only [scoreOf, updMA, keyOf, valOf] <;> rfl
      · dsimp only [scoreOf, updMA, keyOf, valOf] <;> rfl
  isplitl [H3]
  · iexists _; isplitr; swap; · iexact H3
    ipureintro; rfl
  isplitl [H5]
  · iexists _; isplitr; swap; · iexact H5
    ipureintro; rfl
  isplitl [H6]
  · iexists _; isplitr; swap; · iexact H6
    ipureintro; rfl
  iexists _; isplitr; swap; · iexact H7
  ipureintro; rfl

end Cert.KernelIdeal.Hand
-- ==== Proof.Words.lean ====
module

public import proofs.«01_k».proof.Proof.Step

@[expose] public section

set_option maxRecDepth 65536

namespace Cert.KernelIdeal.Hand

open Cert.KernelIdeal Cert.KernelIdeal.Gen
open Idealize.ShloMosaic

/-- A point of the grid whose last coordinate alone matters. -/
def ic (a : Fin 32) : grid0.Coords := fun k => match k with | 0 => (0 : Fin 2) | 1 => (0 : Fin 8) | 2 => a

theorem minsi_self (w : BitVec 32) : Scalar.minsi w w = w := by
  unfold Scalar.minsi IntOp.minsi; split <;> rfl

/-! ## How many trips each loop makes -/

theorem trips_closed : ∀ a w : Fin 32, w ≤ a →
    ((k0_t1_loop (ic a) (BitVec.ofNat 32 w.val) (BitVec.ofNat 32 w.val)).OK ∧ (k0_t1_loop (ic a) (BitVec.ofNat 32 w.val) (BitVec.ofNat 32 w.val)).trips = (a.val - w.val - 1) / 8) ∧
    ((k0_t2_loop (ic a) (BitVec.ofNat 32 w.val) (BitVec.ofNat 32 w.val)).OK ∧ (k0_t2_loop (ic a) (BitVec.ofNat 32 w.val) (BitVec.ofNat 32 w.val)).trips = 0) ∧
    ((k0_t3_loop (ic a) (BitVec.ofNat 32 w.val) (BitVec.ofNat 32 w.val)).OK ∧ (k0_t3_loop (ic a) (BitVec.ofNat 32 w.val) (BitVec.ofNat 32 w.val)).trips = (a.val - w.val - 1) % 8 / 4) ∧
    ((k0_t4_loop (ic a) (BitVec.ofNat 32 w.val) (BitVec.ofNat 32 w.val)).OK ∧ (k0_t4_loop (ic a) (BitVec.ofNat 32 w.val) (BitVec.ofNat 32 w.val)).trips = 0) ∧
    ((k0_t5_loop (ic a) (BitVec.ofNat 32 w.val) (BitVec.ofNat 32 w.val)).OK ∧ (k0_t5_loop (ic a) (BitVec.ofNat 32 w.val) (BitVec.ofNat 32 w.val)).trips = (a.val - w.val - 1) % 4 / 2) ∧
    ((k0_t6_loop (ic a) (BitVec.ofNat 32 w.val) (BitVec.ofNat 32 w.val)).OK ∧ (k0_t6_loop (ic a) (BitVec.ofNat 32 w.val) (BitVec.ofNat 32 w.val)).trips = 0) ∧
    (k0_cond1 (ic a) (BitVec.ofNat 32 w.val) (BitVec.ofNat 32 w.val) = 1#1 ↔ w < a ∧ (a.val - w.val - 1) % 2 = 1) ∧
    (k0_cond2 (ic a) (BitVec.ofNat 32 w.val) (BitVec.ofNat 32 w.val) = 1#1 ↔ w < a ∧ (a.val - w.val - 1) % 2 = 0) := by
  decide +kernel

section
variable (i : grid0.Coords) (v396 v682 : BitVec 32) (w : BitVec 32) (h : Scalar.minsi v396 v682 = w)
include h
theorem t1_red : k0_t1_loop i v396 v682 = k0_t1_loop (ic (i 2)) w w := by unfold k0_t1_loop; simp only [h, minsi_self]; rfl
theorem t2_red : k0_t2_loop i v396 v682 = k0_t2_loop (ic (i 2)) w w := by unfold k0_t2_loop; simp only [h, minsi_self]; rfl
theorem t3_red : k0_t3_loop i v396 v682 = k0_t3_loop (ic (i 2)) w w := by unfold k0_t3_loop; simp only [h, minsi_self]; rfl
theorem t4_red : k0_t4_loop i v396 v682 = k0_t4_loop (ic (i 2)) w w := by unfold k0_t4_loop; simp only [h, minsi_self]; rfl
theorem t5_red : k0_t5_loop i v396 v682 = k0_t5_loop (ic (i 2)) w w := by unfold k0_t5_loop; simp only [h, minsi_self]; rfl
theorem t6_red : k0_t6_loop i v396 v682 = k0_t6_loop (ic (i 2)) w w := by unfold k0_t6_loop; simp only [h, minsi_self]; rfl
theorem cond1_red : k0_cond1 i v396 v682 = k0_cond1 (ic (i 2)) w w := by unfold k0_cond1; simp only [h, minsi_self]; rfl
theorem cond2_red : k0_cond2 i v396 v682 = k0_cond2 (ic (i 2)) w w := by unfold k0_cond2; simp only [h, minsi_self]; rfl
end

end Cert.KernelIdeal.Hand
-- ==== Proof.Places.lean ====
module

public import proofs.«01_k».proof.Proof.Words

@[expose] public section

set_option maxRecDepth 65536

namespace Cert.KernelIdeal.Hand

open Cert.KernelIdeal Cert.KernelIdeal.Gen
open Idealize.ShloMosaic

/-! ## Where each block's run reads -/

/-- The row of a head's offsets, as the kernel computes it. -/
def baseW (i : grid0.Coords) (r : BitVec 32) : BitVec 32 :=
  Scalar.muli (Scalar.addi (Scalar.addi (Scalar.muli (BitVec.ofNat 32 (i 0).val) 16#32) (Scalar.muli 2#32 (BitVec.ofNat 32 (i 1).val))) r) 32#32

theorem baseW_lit : ∀ (b : Fin 2) (p : Fin 8) (r : Fin 2),
    (Scalar.muli (Scalar.addi (Scalar.addi (Scalar.muli (BitVec.ofNat 32 b.val) 16#32) (Scalar.muli 2#32 (BitVec.ofNat 32 p.val))) (BitVec.ofNat 32 r.val)) 32#32).toNat
      = (16 * b.val + 2 * p.val + r.val) * 32 := by decide +kernel

theorem baseW_toNat (i : grid0.Coords) (r : Fin 2) : (baseW i (BitVec.ofNat 32 r.val)).toNat = (16 * (i 0).val + 2 * (i 1).val + r.val) * 32 :=
  baseW_lit (i 0) (i 1) r

/-- An offset's place: its row's start and its block. -/
theorem base_add (i : grid0.Coords) (r : Fin 2) (x : BitVec 32) (j : ℕ) (hx : x.toNat = j) (hj : j < 32) :
    (baseW i (BitVec.ofNat 32 r.val) + x).toNat = (16 * (i 0).val + 2 * (i 1).val + r.val) * 32 + j := by
  have h0 : (i 0).val < 2 := (i 0).isLt
  have h1 : (i 1).val < 8 := (i 1).isLt
  have h2 := r.isLt
  rw [BitVec.toNat_add, baseW_toNat, hx, Nat.mod_eq_of_lt]
  omega

/-- The offset of block `j` of head `r` of the pair, and the blocks of keys and of values. -/
def pO (i : grid0.Coords) (r : Fin 2) (j : ℕ) : Off1 := ⟨![(16 * (i 0).val + 2 * (i 1).val + r.val) * 32 + j % 32], by
  have h0 : (i 0).val < 2 := (i 0).isLt
  have h1 : (i 1).val < 8 := (i 1).isLt
  have h2 := r.isLt
  have h3 : j % 32 < 32 := Nat.mod_lt _ (by decide)
  intro a
  match a with
  | 0 => show (16 * (i 0).val + 2 * (i 1).val + r.val) * 32 + j % 32 + 1 ≤ 1024; omega⟩

def pK (j : ℕ) : OffK := ⟨![0, j % 32, 0, 0], by
  have h3 : j % 32 < 32 := Nat.mod_lt _ (by decide)
  intro a
  match a with
  | 0 => exact Nat.le_refl 1
  | 1 => show j % 32 + 1 ≤ 32; omega
  | 2 => exact Nat.le_refl 512
  | 3 => exact Nat.le_refl 128⟩

def pV (j : ℕ) : OffV := ⟨![0, j % 32, 0, 0], by
  have h3 : j % 32 < 32 := Nat.mod_lt _ (by decide)
  intro a
  match a with
  | 0 => exact Nat.le_refl 1
  | 1 => show j % 32 + 1 ≤ 32; omega
  | 2 => exact Nat.le_refl 128
  | 3 => exact Nat.le_refl 512⟩

theorem pO_eq (i : grid0.Coords) (r : Fin 2) (x : BitVec 32) (j : ℕ) (hx : x.toNat = j) (hj : j < 32) :
    ![(baseW i (BitVec.ofNat 32 r.val) + x).toNat] = (pO i r j).1 := by
  rw [base_add i r x j hx hj]
  show _ = ![(16 * (i 0).val + 2 * (i 1).val + r.val) * 32 + j % 32]
  rw [Nat.mod_eq_of_lt hj]

theorem pK_eq (x j : ℕ) (hx : x = j) (hj : j < 32) : ![0, x, 0, 0] = (pK j).1 := by
  subst hx; show _ = ![0, x % 32, 0, 0]; rw [Nat.mod_eq_of_lt hj]
theorem pV_eq (x j : ℕ) (hx : x = j) (hj : j < 32) : ![0, x, 0, 0] = (pV j).1 := by
  subst hx; show _ = ![0, x % 32, 0, 0]; rw [Nat.mod_eq_of_lt hj]

theorem off8_lit : ∀ a w : Fin 32, w ≤ a → ∀ (k : Fin (k0_t1_loop (ic a) (BitVec.ofNat 32 w.val) (BitVec.ofNat 32 w.val)).trips) (r : Fin 8),
    k0_off8 (ic a) (BitVec.ofNat 32 w.val) (BitVec.ofNat 32 w.val) k (BitVec.ofNat 32 r.val) 1 = a.val - 1 - (0 + 8 * k.val + r.val) ∧
    k0_off7 (ic a) (BitVec.ofNat 32 w.val) (BitVec.ofNat 32 w.val) k (BitVec.ofNat 32 r.val) 1 = a.val - 1 - (0 + 8 * k.val + r.val) - 1 ∧
    w.val + 2 + (0 + 8 * k.val + r.val) ≤ a.val := by decide +kernel

theorem off14_lit : ∀ a w : Fin 32, w ≤ a → ∀ (k : Fin (k0_t3_loop (ic a) (BitVec.ofNat 32 w.val) (BitVec.ofNat 32 w.val)).trips) (r : Fin 4),
    k0_off14 (ic a) (BitVec.ofNat 32 w.val) (BitVec.ofNat 32 w.val) k (BitVec.ofNat 32 r.val) 1 = a.val - 1 - (8 * ((a.val - w.val - 1) / 8) + 4 * k.val + r.val) ∧
    k0_off13 (ic a) (BitVec.ofNat 32 w.val) (BitVec.ofNat 32 w.val) k (BitVec.ofNat 32 r.val) 1 = a.val - 1 - (8 * ((a.val - w.val - 1) / 8) + 4 * k.val + r.val) - 1 ∧
    w.val + 2 + (8 * ((a.val - w.val - 1) / 8) + 4 * k.val + r.val) ≤ a.val := by decide +kernel

theorem off20_lit : ∀ a w : Fin 32, w ≤ a → ∀ (k : Fin (k0_t5_loop (ic a) (BitVec.ofNat 32 w.val) (BitVec.ofNat 32 w.val)).trips) (r : Fin 2),
    k0_off20 (ic a) (BitVec.ofNat 32 w.val) (BitVec.ofNat 32 w.val) k (BitVec.ofNat 32 r.val) 1 = a.val - 1 - (4 * ((a.val - w.val - 1) / 4) + 2 * k.val + r.val) ∧
    k0_off19 (ic a) (BitVec.ofNat 32 w.val) (BitVec.ofNat 32 w.val) k (BitVec.ofNat 32 r.val) 1 = a.val - 1 - (4 * ((a.val - w.val - 1) / 4) + 2 * k.val + r.val) - 1 ∧
    w.val + 2 + (4 * ((a.val - w.val - 1) / 4) + 2 * k.val + r.val) ≤ a.val := by decide +kernel

theorem offs_lit : ∀ a w : Fin 32, w ≤ a →
    (k0_cond1 (ic a) (BitVec.ofNat 32 w.val) (BitVec.ofNat 32 w.val) = 1#1 → k0_off26 (ic a) (BitVec.ofNat 32 w.val) (BitVec.ofNat 32 w.val) 1 = w.val + 1 ∧ k0_off25 (ic a) (BitVec.ofNat 32 w.val) (BitVec.ofNat 32 w.val) 1 = w.val) ∧
    k0_off28 (BitVec.ofNat 32 w.val) (BitVec.ofNat 32 w.val) 1 = w.val ∧ k0_off30 (BitVec.ofNat 32 w.val) (BitVec.ofNat 32 w.val) 1 = w.val ∧ k0_off2 (ic a) 1 = a.val ∧ k0_off5 (ic a) 1 = a.val ∧ k0_off3 (ic a) 1 = a.val - 1 := by decide +kernel

section
variable (i : grid0.Coords) (v396 v682 : BitVec 32) (w : Fin 32) (hw : w ≤ (i 2 : Fin 32)) (h : Scalar.minsi v396 v682 = BitVec.ofNat 32 w.val)
include h hw

theorem off6_cl (k : Fin (k0_t1_loop i v396 v682).trips) (r : Fin 8) :
    (∀ q : Fin 2, k0_off6 i v396 v682 k (BitVec.ofNat 32 q.val) (BitVec.ofNat 32 r.val) = (pO i q ((i 2).val - 1 - (0 + 8 * k.val + r.val))).1) ∧
    k0_off7 i v396 v682 k (BitVec.ofNat 32 r.val) = (pK (((i 2).val - 1 - (0 + 8 * k.val + r.val)) - 1)).1 ∧
    k0_off8 i v396 v682 k (BitVec.ofNat 32 r.val) = (pV ((i 2).val - 1 - (0 + 8 * k.val + r.val))).1 ∧
    w.val + 2 + (0 + 8 * k.val + r.val) ≤ (i 2).val := by
  have ht := t1_red i v396 v682 _ h
  obtain ⟨k, hk⟩ := k
  obtain ⟨e2, e1, hb⟩ := off8_lit (i 2) w hw ⟨k, by rw [← ht]; exact hk⟩ r
  have ha : (i 2).val < 32 := (i 2).isLt
  have r2 : k0_off8 i v396 v682 ⟨k, hk⟩ (BitVec.ofNat 32 r.val) = k0_off8 (ic (i 2)) (BitVec.ofNat 32 w.val) (BitVec.ofNat 32 w.val) ⟨k, by rw [← ht]; exact hk⟩ (BitVec.ofNat 32 r.val) := by
    unfold k0_off8; simp only [h, minsi_self]; rfl
  have r1 : k0_off7 i v396 v682 ⟨k, hk⟩ (BitVec.ofNat 32 r.val) = k0_off7 (ic (i 2)) (BitVec.ofNat 32 w.val) (BitVec.ofNat 32 w.val) ⟨k, by rw [← ht]; exact hk⟩ (BitVec.ofNat 32 r.val) := by
    unfold k0_off7; simp only [h, minsi_self]; rfl
  rw [← r2] at e2
  rw [← r1] at e1
  refine ⟨fun q => ?_, ?_, ?_, hb⟩
  · exact pO_eq i q _ _ e2 (by dsimp only; omega)
  · exact pK_eq _ _ e1 (by dsimp only; omega)
  · exact pV_eq _ _ e2 (by dsimp only; omega)

theorem off12_cl (k : Fin (k0_t3_loop i v396 v682).trips) (r : Fin 4) :
    (∀ q : Fin 2, k0_off12 i v396 v682 k (BitVec.ofNat 32 q.val) (BitVec.ofNat 32 r.val) = (pO i q ((i 2).val - 1 - (8 * (((i 2).val - w.val - 1) / 8) + 4 * k.val + r.val))).1) ∧
    k0_off13 i v396 v682 k (BitVec.ofNat 32 r.val) = (pK (((i 2).val - 1 - (8 * (((i 2).val - w.val - 1) / 8) + 4 * k.val + r.val)) - 1)).1 ∧
    k0_off14 i v396 v682 k (BitVec.ofNat 32 r.val) = (pV ((i 2).val - 1 - (8 * (((i 2).val - w.val - 1) / 8) + 4 * k.val + r.val))).1 ∧
    w.val + 2 + (8 * (((i 2).val - w.val - 1) / 8) + 4 * k.val + r.val) ≤ (i 2).val := by
  have ht := t3_red i v396 v682 _ h
  obtain ⟨k, hk⟩ := k
  obtain ⟨e2, e1, hb⟩ := off14_lit (i 2) w hw ⟨k, by rw [← ht]; exact hk⟩ r
  have ha : (i 2).val < 32 := (i 2).isLt
  have r2 : k0_off14 i v396 v682 ⟨k, hk⟩ (BitVec.ofNat 32 r.val) = k0_off14 (ic (i 2)) (BitVec.ofNat 32 w.val) (BitVec.ofNat 32 w.val) ⟨k, by rw [← ht]; exact hk⟩ (BitVec.ofNat 32 r.val) := by
    unfold k0_off14; simp only [h, minsi_self]; rfl
  have r1 : k0_off13 i v396 v682 ⟨k, hk⟩ (BitVec.ofNat 32 r.val) = k0_off13 (ic (i 2)) (BitVec.ofNat 32 w.val) (BitVec.ofNat 32 w.val) ⟨k, by rw [← ht]; exact hk⟩ (BitVec.ofNat 32 r.val) := by
    unfold k0_off13; simp only [h, minsi_self]; rfl
  rw [← r2] at e2
  rw [← r1] at e1
  refine ⟨fun q => ?_, ?_, ?_, hb⟩
  · exact pO_eq i q _ _ e2 (by dsimp only; omega)
  · exact pK_eq _ _ e1 (by dsimp only; omega)
  · exact pV_eq _ _ e2 (by dsimp only; omega)

theorem off18_cl (k : Fin (k0_t5_loop i v396 v682).trips) (r : Fin 2) :
    (∀ q : Fin 2, k0_off18 i v396 v682 k (BitVec.ofNat 32 q.val) (BitVec.ofNat 32 r.val) = (pO i q ((i 2).val - 1 - (4 * (((i 2).val - w.val - 1) / 4) + 2 * k.val + r.val))).1) ∧
    k0_off19 i v396 v682 k (BitVec.ofNat 32 r.val) = (pK (((i 2).val - 1 - (4 * (((i 2).val - w.val - 1) / 4) + 2 * k.val + r.val)) - 1)).1 ∧
    k0_off20 i v396 v682 k (BitVec.ofNat 32 r.val) = (pV ((i 2).val - 1 - (4 * (((i 2).val - w.val - 1) / 4) + 2 * k.val + r.val))).1 ∧
    w.val + 2 + (4 * (((i 2).val - w.val - 1) / 4) + 2 * k.val + r.val) ≤ (i 2).val := by
  have ht := t5_red i v396 v682 _ h
  obtain ⟨k, hk⟩ := k
  obtain ⟨e2, e1, hb⟩ := off20_lit (i 2) w hw ⟨k, by rw [← ht]; exact hk⟩ r
  have ha : (i 2).val < 32 := (i 2).isLt
  have r2 : k0_off20 i v396 v682 ⟨k, hk⟩ (BitVec.ofNat 32 r.val) = k0_off20 (ic (i 2)) (BitVec.ofNat 32 w.val) (BitVec.ofNat 32 w.val) ⟨k, by rw [← ht]; exact hk⟩ (BitVec.ofNat 32 r.val) := by
    unfold k0_off20; simp only [h, minsi_self]; rfl
  have r1 : k0_off19 i v396 v682 ⟨k, hk⟩ (BitVec.ofNat 32 r.val) = k0_off19 (ic (i 2)) (BitVec.ofNat 32 w.val) (BitVec.ofNat 32 w.val) ⟨k, by rw [← ht]; exact hk⟩ (BitVec.ofNat 32 r.val) := by
    unfold k0_off19; simp only [h, minsi_self]; rfl
  rw [← r2] at e2
  rw [← r1] at e1
  refine ⟨fun q => ?_, ?_, ?_, hb⟩
  · exact pO_eq i q _ _ e2 (by dsimp only; omega)
  · exact pK_eq _ _ e1 (by dsimp only; omega)
  · exact pV_eq _ _ e2 (by dsimp only; omega)

theorem off24_cl (hc : k0_cond1 i v396 v682 = 1#1) :
    (∀ q : Fin 2, k0_off24 i v396 v682 (BitVec.ofNat 32 q.val) = (pO i q (w.val + 1)).1) ∧ k0_off25 i v396 v682 = (pK w.val).1 ∧ k0_off26 i v396 v682 = (pV (w.val + 1)).1 := by
  have r2 : k0_off26 i v396 v682 = k0_off26 (ic (i 2)) (BitVec.ofNat 32 w.val) (BitVec.ofNat 32 w.val) := by unfold k0_off26; simp only [h, minsi_self]; rfl
  have r1 : k0_off25 i v396 v682 = k0_off25 (ic (i 2)) (BitVec.ofNat 32 w.val) (BitVec.ofNat 32 w.val) := by unfold k0_off25; simp only [h, minsi_self]; rfl
  rw [cond1_red i v396 v682 _ h] at hc
  obtain ⟨e2, e1⟩ := (offs_lit (i 2) w hw).1 hc
  have hl := ((trips_closed (i 2) w hw).2.2.2.2.2.2.1.1 hc).1
  have ha : (i 2).val < 32 := (i 2).isLt
  have hl' : w.val < (i 2).val := hl
  rw [← r2] at e2
  rw [← r1] at e1
  exact ⟨fun q => pO_eq i q _ _ e2 (by omega), pK_eq _ _ e1 (by omega), pV_eq _ _ e2 (by omega)⟩

omit hw in
theorem off27_cl :
    (∀ q : Fin 2, k0_off27 i v396 v682 (BitVec.ofNat 32 q.val) = (pO i q w.val).1) ∧ k0_off28 v396 v682 = (pV w.val).1 ∧
    (∀ q : Fin 2, k0_off29 i v396 v682 (BitVec.ofNat 32 q.val) = (pO i q w.val).1) ∧ k0_off30 v396 v682 = (pV w.val).1 := by
  have e : (Scalar.minsi v396 v682).toNat = w.val := by rw [h, BitVec.toNat_ofNat, Nat.mod_eq_of_lt (by omega)]
  exact ⟨fun q => pO_eq i q _ _ e (by omega), pV_eq _ _ e (by omega), fun q => pO_eq i q _ _ e (by omega), pV_eq _ _ e (by omega)⟩

/-- Every place the loops read is in its array, and every loop has a meaning. -/
theorem chk1_of : k0_chk1 i v396 v682 := by
  obtain ⟨⟨ok1, -⟩, ⟨ok2, n2⟩, ⟨ok3, -⟩, ⟨ok4, n4⟩, ⟨ok5, -⟩, ⟨ok6, n6⟩, -⟩ := trips_closed (i 2) w hw
  rw [← t1_red i v396 v682 _ h] at ok1
  rw [← t2_red i v396 v682 _ h] at ok2 n2
  rw [← t3_red i v396 v682 _ h] at ok3
  rw [← t4_red i v396 v682 _ h] at ok4 n4
  rw [← t5_red i v396 v682 _ h] at ok5
  rw [← t6_red i v396 v682 _ h] at ok6 n6
  have o27 := off27_cl i v396 v682 w h
  refine ⟨ok1, ?_, ?_, ?_, ok2, ?_, ?_, ?_, ok3, ?_, ?_, ?_, ok4, ?_, ?_, ?_, ok5, ?_, ?_, ?_, ok6, ?_, ?_, ?_, ?_, ?_, ?_, ?_, ?_, ?_, ?_⟩
  · intro k q r; rw [(off6_cl i v396 v682 w hw h k r).1 q]; exact (pO i q _).2
  · intro k r; rw [(off6_cl i v396 v682 w hw h k r).2.1]; exact (pK _).2
  · intro k r; rw [(off6_cl i v396 v682 w hw h k r).2.2.1]; exact (pV _).2
  · intro k; exact absurd (Nat.lt_of_lt_of_eq k.isLt n2) (Nat.not_lt_zero _)
  · intro k; exact absurd (Nat.lt_of_lt_of_eq k.isLt n2) (Nat.not_lt_zero _)
  · intro k; exact absurd (Nat.lt_of_lt_of_eq k.isLt n2) (Nat.not_lt_zero _)
  · intro k q r; rw [(off12_cl i v396 v682 w hw h k r).1 q]; exact (pO i q _).2
  · intro k r; rw [(off12_cl i v396 v682 w hw h k r).2.1]; exact (pK _).2
  · intro k r; rw [(off12_cl i v396 v682 w hw h k r).2.2.1]; exact (pV _).2
  · intro k; exact absurd (Nat.lt_of_lt_of_eq k.isLt n4) (Nat.not_lt_zero _)
  · intro k; exact absurd (Nat.lt_of_lt_of_eq k.isLt n4) (Nat.not_lt_zero _)
  · intro k; exact absurd (Nat.lt_of_lt_of_eq k.isLt n4) (Nat.not_lt_zero _)
  · intro k q r; rw [(off18_cl i v396 v682 w hw h k r).1 q]; exact (pO i q _).2
  · intro k r; rw [(off18_cl i v396 v682 w hw h k r).2.1]; exact (pK _).2
  · intro k r; rw [(off18_cl i v396 v682 w hw h k r).2.2.1]; exact (pV _).2
  · intro k; exact absurd (Nat.lt_of_lt_of_eq k.isLt n6) (Nat.not_lt_zero _)
  · intro k; exact absurd (Nat.lt_of_lt_of_eq k.isLt n6) (Nat.not_lt_zero _)
  · intro k; exact absurd (Nat.lt_of_lt_of_eq k.isLt n6) (Nat.not_lt_zero _)
  · intro hc q; rw [(off24_cl i v396 v682 w hw h hc).1 q]; exact (pO i q _).2
  · intro hc; rw [(off24_cl i v396 v682 w hw h hc).2.1]; exact (pK _).2
  · intro hc; rw [(off24_cl i v396 v682 w hw h hc).2.2]; exact (pV _).2
  · intro hc q; rw [o27.1 q]; exact (pO i q _).2
  · intro hc; rw [o27.2.1]; exact (pV _).2
  · intro hc q; rw [o27.2.2.1 q]; exact (pO i q _).2
  · intro hc; rw [o27.2.2.2]; exact (pV _).2
end

end Cert.KernelIdeal.Hand
-- ==== Proof.Fin.lean ====
module

public import proofs.«01_k».proof.Proof.Step

@[expose] public section

set_option maxRecDepth 65536

noncomputable section

namespace Cert.KernelIdeal.Hand

open Cert.KernelIdeal Cert.KernelIdeal.Gen
open Idealize.ShloMosaic Idealize.SL.Sem

variable {F : FTy → Type} [FloatOps F] [Named F]

/-- The blocks left after the loop by two, when an even number is left: one with a successor, and the last. -/
def fin1P (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (h : k0_cond1 i v396 v682 = 1#1) : Prog (TpuEff nD τ sig (Elt F) Λ₀ .tc) PUnit := do
  stepP ⟨v14, v25, v26, v40, v44⟩ arg3 arg5 arg6 arg7 ⟨arg10, arg11⟩ ⟨arg13, arg15⟩ ⟨arg12, arg14⟩ ⟨_, k0_off24_inb i v396 v682 k0_hw1 h 0⟩ ⟨_, k0_off24_inb i v396 v682 k0_hw1 h 1⟩ ⟨_, k0_off25_inb i v396 v682 k0_hw1 h⟩ ⟨_, k0_off26_inb i v396 v682 k0_hw1 h⟩
  lastP ⟨v14, v25, v26, v40, v44⟩ arg3 arg7 ⟨arg10, arg11⟩ ⟨arg12, arg14⟩ ⟨_, k0_off27_inb i v396 v682 k0_hw1 h 0⟩ ⟨_, k0_off27_inb i v396 v682 k0_hw1 h 1⟩ ⟨_, k0_off28_inb i v396 v682 k0_hw1 h⟩

/-- The block left when one is left. -/
def fin2P (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (h : k0_cond2 i v396 v682 = 1#1) : Prog (TpuEff nD τ sig (Elt F) Λ₀ .tc) PUnit :=
  lastP ⟨v14, v25, v26, v40, v44⟩ arg3 arg7 ⟨arg10, arg11⟩ ⟨arg13, arg15⟩ ⟨_, k0_off29_inb i v396 v682 k0_hw1 h 0⟩ ⟨_, k0_off29_inb i v396 v682 k0_hw1 h 1⟩ ⟨_, k0_off30_inb i v396 v682 k0_hw1 h⟩

set_option maxHeartbeats 40000000 in
/-- The loop by two and the two blocks after it. -/
theorem part104_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 : BitVec 32) (v765 : BitVec 32) (v794 : BitVec 32) (v818 : BitVec 32) (v819 : BitVec 32) :
  k0_part104 (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819 = (do
  let v820 : BitVec 32 := Scalar.subi v794 v819
  let v821 : BitVec 32 := Scalar.divsi v820 2#32
  let v822 : BitVec 1 := Scalar.cmpi .sgt v820 0#32
  let v823 : BitVec 32 := Scalar.extui v822
  let v824 : BitVec 1 := Scalar.cmpi .slt v820 0#32
  let v825 : BitVec 32 := Scalar.extui v824
  let v826 : BitVec 32 := Scalar.subi v823 v825
  let v827 : BitVec 1 := Scalar.cmpi .sgt 2#32 0#32
  let v828 : BitVec 32 := Scalar.extui v827
  let v829 : BitVec 1 := Scalar.cmpi .slt 2#32 0#32
  let v830 : BitVec 32 := Scalar.extui v829
  let v831 : BitVec 32 := Scalar.subi v828 v830
  let v832 : BitVec 1 := Scalar.cmpi .ne v826 v831
  let v833 : BitVec 32 := Scalar.remsi v820 2#32
  let v834 : BitVec 1 := Scalar.cmpi .ne v833 0#32
  let v835 : BitVec 1 := Scalar.andi v832 v834
  let v836 : BitVec 32 := Scalar.subi v821 1#32
  let v837 : BitVec 32 := Scalar.select v835 v836 v821
  let v838 : BitVec 32 := Scalar.subi v837 0#32
  let v840 : BitVec 32 := Scalar.divsi v838 1#32
  let v841 : BitVec 32 := Scalar.muli v840 1#32
  let v842 : BitVec 32 := Scalar.addi 0#32 v841
  Scf.Loop.for (k0_t5_loop i v396 v682) (k0_t5_ok i v396 v682 k0_hw1) ⟨⟩ (k0_t5_body i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819)
  Scf.Loop.for (k0_t6_loop i v396 v682) (k0_t6_ok i v396 v682 k0_hw1) ⟨⟩ (k0_t6_body i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819 v842)
  let v843 : BitVec 32 := Scalar.muli 2#32 v837
  let v844 : BitVec 32 := Scalar.subi v818 v843
  if h : k0_cond1 i v396 v682 = 1#1 then fin1P i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 h else pure ⟨⟩) := rfl

/-- The last block of an odd number, and the division that stores the output block. -/
def endP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) : Prog (TpuEff nD τ sig (Elt F) Λ₀ .tc) PUnit := do
  if h : k0_cond2 i v396 v682 = 1#1 then fin2P i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 h else pure ⟨⟩
  let v857 : Vec F S1x80x512 .f32 ← Prog.lift (.load arg11 (Rect.unit (s := S2x80x512) ![0, 0, 0] S1x80x512.size inb_S2x80x512_S1x80x512_0_0_0).toLoadRect (View.loadsAt_vmem h_S1x80x512))
  let v863 : Vec F S1x80x512 .f32 ← Prog.lift (.load arg11 (Rect.unit (s := S2x80x512) ![1, 0, 0] S1x80x512.size inb_S2x80x512_S1x80x512_1_0_0).toLoadRect (View.loadsAt_vmem h_S1x80x512))
  let v872 : Vec F S1x512x128 .bf16 ← Prog.lift (.load arg9 (Rect.unit (s := S1x512x128) ![0, 0, 0] S1x512x128.size inb_S1x512x128_S1x512x128_0_0_0).toLoadRect (View.loadsAt_vmem h_S1x512x128))
  Prog.lift (.store arg9 (Rect.unit (s := S1x512x128) ![0, 0, 0] S1x512x128.size inb_S1x512x128_S1x512x128_0_0_0) (k0_pay5 v857 v863) Finset.univ (View.stores_vmem h_S1x512x128 (harg9.storeExact_slice rfl _ packedbf16_S1x512x128_S1x512x128_0_0_0) (fun _ => rfl)) (.inl rfl))
  pure ⟨⟩

/-- Up to the loops: the scores of the diagonal block and of the one below it, how many blocks are skipped, and the
diagonal block's softmax. -/
def preP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) : Prog (TpuEff nD τ sig (Elt F) Λ₀ .tc) (Σ' (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 : BitVec 32) (v765 : BitVec 32) (v766 : BitVec 32) (v768 : BitVec 32) (v769 : BitVec 32) (v783 : BitVec 1), BitVec 32) := do
  let ⟨arg2, v1, v14, v25, v26, v31, v35⟩ : Σ' (arg2 : BitVec 32) (v1 : FVec F S128x512 .bf16) (v14 : FVec F S256x512 .bf16) (v25 : FVec F S256x512 .bf16) (v26 : FVec F S16x512 .bf16) (v31 : BitVec 32), BitVec 32 ← k0_part84 i arg3 harg3 arg4 harg4 arg5 harg5 arg6 harg6 arg7 harg7 arg8 harg8 arg9 harg9 arg10 harg10 arg11 harg11 arg12 harg12 arg13 harg13 arg14 harg14 arg15 harg15
  let ⟨v36, v40, v44, v59⟩ : Σ' (v36 : BitVec 32) (v40 : FVec F S1x512 .f32) (v44 : FVec F S1x512 .f32), FVec F S512x256 .bf16 ← k0_part85 i arg3 harg3 arg4 harg4 arg5 harg5 arg6 harg6 arg7 harg7 arg8 harg8 arg9 harg9 arg10 harg10 arg11 harg11 arg12 harg12 arg13 harg13 arg14 harg14 arg15 harg15 arg2 v14 v31 v35
  let v96 : FVec F S512x512 .f32 ← k0_part86 i arg3 harg3 arg4 harg4 arg5 harg5 arg6 harg6 arg7 harg7 arg8 harg8 arg9 harg9 arg10 harg10 arg11 harg11 arg12 harg12 arg13 harg13 arg14 harg14 arg15 harg15 arg2 v14 v25 v59
  let ⟨v107, v108, v109, v110, v123, v129, v130, v132⟩ : Σ' (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32), IVec S32x1 1 ← k0_part87 i arg3 harg3 arg4 harg4 arg5 harg5 arg6 harg6 arg7 harg7 arg8 harg8 arg9 harg9 arg10 harg10 arg11 harg11 arg12 harg12 arg13 harg13 arg14 harg14 arg15 harg15 arg2 v1 v31 v96
  let ⟨v178, v179⟩ : Σ' (v178 : FVec F S32x1 .f32), IVec S32x1 32 ← k0_part88 i arg3 harg3 arg4 harg4 arg5 harg5 arg6 harg6 arg7 harg7 arg8 harg8 arg9 harg9 arg10 harg10 arg11 harg11 arg12 harg12 arg13 harg13 arg14 harg14 arg15 harg15 v31 v109 v130 v132
  let ⟨v218, v220, v222⟩ : Σ' (v218 : FVec F S32x1 .f32) (v220 : IVec S32x1 1), BitVec 32 ← k0_part89 i arg3 harg3 arg4 harg4 arg5 harg5 arg6 harg6 arg7 harg7 arg8 harg8 arg9 harg9 arg10 harg10 arg11 harg11 arg12 harg12 arg13 harg13 arg14 harg14 arg15 harg15 v31 v109 v178 v179
  let ⟨v266, c17_i32⟩ : Σ' (v266 : FVec F S32x1 .f32), BitVec 32 ← k0_part90 i arg3 harg3 arg4 harg4 arg5 harg5 arg6 harg6 arg7 harg7 arg8 harg8 arg9 harg9 arg10 harg10 arg11 harg11 arg12 harg12 arg13 harg13 arg14 harg14 arg15 harg15 v31 v109 v218 v220 v222
  let ⟨v306, v308, v309, c1_i32_129⟩ : Σ' (v306 : FVec F S32x1 .f32) (v308 : IVec S32x1 1) (v309 : BitVec 32), BitVec 32 ← k0_part91 i arg3 harg3 arg4 harg4 arg5 harg5 arg6 harg6 arg7 harg7 arg8 harg8 arg9 harg9 arg10 harg10 arg11 harg11 arg12 harg12 arg13 harg13 arg14 harg14 arg15 harg15 v31 v109 v266 c17_i32
  let v354 : FVec F S32x1 .f32 ← k0_part92 i arg3 harg3 arg4 harg4 arg5 harg5 arg6 harg6 arg7 harg7 arg8 harg8 arg9 harg9 arg10 harg10 arg11 harg11 arg12 harg12 arg13 harg13 arg14 harg14 arg15 harg15 v31 v109 v306 v308 v309 c1_i32_129
  let ⟨v396, v400⟩ : Σ' (v396 : BitVec 32), FVec F S32 .f32 ← k0_part93 i arg3 harg3 arg4 harg4 arg5 harg5 arg6 harg6 arg7 harg7 arg8 harg8 arg9 harg9 arg10 harg10 arg11 harg11 arg12 harg12 arg13 harg13 arg14 harg14 arg15 harg15 arg2 v31 v40 v107 v108 v109 v110 v123 v129 v354
  let ⟨v409, v415, v440, v442, v443⟩ : Σ' (v409 : FVec F S1x1 .f32) (v415 : FVec F S1x1 .f32) (v440 : FVec F S32x1 .f32) (v442 : IVec S32x1 1), BitVec 32 ← k0_part94 i arg3 harg3 arg4 harg4 arg5 harg5 arg6 harg6 arg7 harg7 arg8 harg8 arg9 harg9 arg10 harg10 arg11 harg11 arg12 harg12 arg13 harg13 arg14 harg14 arg15 harg15 arg2 v36 v109 v400
  let ⟨v480, v482, v487⟩ : Σ' (v480 : FVec F S32x1 .f32) (v482 : IVec S32x1 1), FVec F S32x1 .f32 ← k0_part95 i arg3 harg3 arg4 harg4 arg5 harg5 arg6 harg6 arg7 harg7 arg8 harg8 arg9 harg9 arg10 harg10 arg11 harg11 arg12 harg12 arg13 harg13 arg14 harg14 arg15 harg15 v36 v109 v440 v442 v443
  let ⟨v528, v530, c14_i32_200⟩ : Σ' (v528 : FVec F S32x1 .f32) (v530 : IVec S32x1 1), BitVec 32 ← k0_part96 i arg3 harg3 arg4 harg4 arg5 harg5 arg6 harg6 arg7 harg7 arg8 harg8 arg9 harg9 arg10 harg10 arg11 harg11 arg12 harg12 arg13 harg13 arg14 harg14 arg15 harg15 v36 v109 v480 v482 v487
  let ⟨v568, v570, v574⟩ : Σ' (v568 : FVec F S32x1 .f32) (v570 : IVec S32x1 1), Elt F .f32 ← k0_part97 i arg3 harg3 arg4 harg4 arg5 harg5 arg6 harg6 arg7 harg7 arg8 harg8 arg9 harg9 arg10 harg10 arg11 harg11 arg12 harg12 arg13 harg13 arg14 harg14 arg15 harg15 v36 v109 v528 v530 c14_i32_200
  let ⟨v616, v618⟩ : Σ' (v616 : FVec F S32x1 .f32), IVec S32x1 1 ← k0_part98 i arg3 harg3 arg4 harg4 arg5 harg5 arg6 harg6 arg7 harg7 arg8 harg8 arg9 harg9 arg10 harg10 arg11 harg11 arg12 harg12 arg13 harg13 arg14 harg14 arg15 harg15 v36 v109 v568 v570 v574
  let ⟨v656, v658⟩ : Σ' (v656 : FVec F S32x1 .f32), IVec S32x1 1 ← k0_part99 i arg3 harg3 arg4 harg4 arg5 harg5 arg6 harg6 arg7 harg7 arg8 harg8 arg9 harg9 arg10 harg10 arg11 harg11 arg12 harg12 arg13 harg13 arg14 harg14 arg15 harg15 v36 v109 v616 v618
  let ⟨v682, k0_hw1, v683, v701, v703, v708⟩ : Σ' (v682 : BitVec 32) (k0_hw1 : k0_chk1 i v396 v682) (v683 : BitVec 32) (v701 : FVec F S1x512 .f32) (v703 : FVec F S1x512 .f32), FVec F S512x512 .bf16 ← k0_part100 i arg3 harg3 arg4 harg4 arg5 harg5 arg6 harg6 arg7 harg7 arg8 harg8 arg9 harg9 arg10 harg10 arg11 harg11 arg12 harg12 arg13 harg13 arg14 harg14 arg15 harg15 arg2 v31 v40 v44 v109 v396 v409 v415 v656 v658
  let ⟨v731, v736, v742, v744, v746, v747⟩ : Σ' (v731 : FVec F S1x512 .f32) (v736 : FVec F S512x512 .bf16) (v742 : FVec F S128x512 .bf16) (v744 : FVec F S80x512 .bf16) (v746 : FVec F S80x512 .f32), FVec F S80x512 .f32 ← k0_part101 i arg3 harg3 arg4 harg4 arg5 harg5 arg6 harg6 arg7 harg7 arg8 harg8 arg9 harg9 arg10 harg10 arg11 harg11 arg12 harg12 arg13 harg13 arg14 harg14 arg15 harg15 arg2 v26 v36 v44 v701 v703
  let ⟨v765, v766, v768, v769, v783, v784⟩ : Σ' (v765 : BitVec 32) (v766 : BitVec 32) (v768 : BitVec 32) (v769 : BitVec 32) (v783 : BitVec 1), BitVec 32 ← k0_part102 i arg3 harg3 arg4 harg4 arg5 harg5 arg6 harg6 arg7 harg7 arg8 harg8 arg9 harg9 arg10 harg10 arg11 harg11 arg12 harg12 arg13 harg13 arg14 harg14 arg15 harg15 arg2 v26 v683 v708 v731 v736 v742 v744 v746 v747
  pure ⟨v14, v25, v26, v31, v36, v40, v44, v396, v682, k0_hw1, v683, v765, v766, v768, v769, v783, v784⟩

set_option maxHeartbeats 40000000 in
/-- The kernel's body in four pieces. -/
theorem body_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) :
  cc0_fox_attention_skel (F := F) i arg3 harg3 arg4 harg4 arg5 harg5 arg6 harg6 arg7 harg7 arg8 harg8 arg9 harg9 arg10 harg10 arg11 harg11 arg12 harg12 arg13 harg13 arg14 harg14 arg15 harg15 = (do
  let ⟨v14, v25, v26, v31, v36, v40, v44, v396, v682, k0_hw1, v683, v765, v766, v768, v769, v783, v784⟩ ← preP i arg3 harg3 arg4 harg4 arg5 harg5 arg6 harg6 arg7 harg7 arg8 harg8 arg9 harg9 arg10 harg10 arg11 harg11 arg12 harg12 arg13 harg13 arg14 harg14 arg15 harg15
  let ⟨v794, v818, v819⟩ : Σ' (v794 : BitVec 32) (v818 : BitVec 32), BitVec 32 ← k0_part103 i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784
  k0_part104 i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819
  endP i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1) := rfl

end Cert.KernelIdeal.Hand
-- ==== Proof.T1.lean ====
module

public import proofs.«01_k».proof.Proof.Step

@[expose] public section

set_option maxRecDepth 65536

noncomputable section

namespace Cert.KernelIdeal.Hand

open Cert.KernelIdeal Cert.KernelIdeal.Gen
open Idealize.ShloMosaic Idealize.SL.Sem

variable {F : FTy → Type} [FloatOps F] [Named F]

set_option maxHeartbeats 40000000 in
/-- A trip of the loop by 8: 8 blocks' runs, the two score buffers taking turns. -/
theorem t1_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (k : Fin (k0_t1_loop i v396 v682).trips) (u : Unit) :
  k0_t1_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 k u =
   (do stepP ⟨v14, v25, v26, v40, v44⟩ arg3 arg5 arg6 arg7 ⟨arg10, arg11⟩ ⟨arg13, arg15⟩ ⟨arg12, arg14⟩ ⟨_, k0_off6_inb i v396 v682 k0_hw1 k 0 0⟩ ⟨_, k0_off6_inb i v396 v682 k0_hw1 k 1 0⟩ ⟨_, k0_off7_inb i v396 v682 k0_hw1 k 0⟩ ⟨_, k0_off8_inb i v396 v682 k0_hw1 k 0⟩
       stepP ⟨v14, v25, v26, v40, v44⟩ arg3 arg5 arg6 arg7 ⟨arg10, arg11⟩ ⟨arg12, arg14⟩ ⟨arg13, arg15⟩ ⟨_, k0_off6_inb i v396 v682 k0_hw1 k 0 1⟩ ⟨_, k0_off6_inb i v396 v682 k0_hw1 k 1 1⟩ ⟨_, k0_off7_inb i v396 v682 k0_hw1 k 1⟩ ⟨_, k0_off8_inb i v396 v682 k0_hw1 k 1⟩
       stepP ⟨v14, v25, v26, v40, v44⟩ arg3 arg5 arg6 arg7 ⟨arg10, arg11⟩ ⟨arg13, arg15⟩ ⟨arg12, arg14⟩ ⟨_, k0_off6_inb i v396 v682 k0_hw1 k 0 2⟩ ⟨_, k0_off6_inb i v396 v682 k0_hw1 k 1 2⟩ ⟨_, k0_off7_inb i v396 v682 k0_hw1 k 2⟩ ⟨_, k0_off8_inb i v396 v682 k0_hw1 k 2⟩
       stepP ⟨v14, v25, v26, v40, v44⟩ arg3 arg5 arg6 arg7 ⟨arg10, arg11⟩ ⟨arg12, arg14⟩ ⟨arg13, arg15⟩ ⟨_, k0_off6_inb i v396 v682 k0_hw1 k 0 3⟩ ⟨_, k0_off6_inb i v396 v682 k0_hw1 k 1 3⟩ ⟨_, k0_off7_inb i v396 v682 k0_hw1 k 3⟩ ⟨_, k0_off8_inb i v396 v682 k0_hw1 k 3⟩
       stepP ⟨v14, v25, v26, v40, v44⟩ arg3 arg5 arg6 arg7 ⟨arg10, arg11⟩ ⟨arg13, arg15⟩ ⟨arg12, arg14⟩ ⟨_, k0_off6_inb i v396 v682 k0_hw1 k 0 4⟩ ⟨_, k0_off6_inb i v396 v682 k0_hw1 k 1 4⟩ ⟨_, k0_off7_inb i v396 v682 k0_hw1 k 4⟩ ⟨_, k0_off8_inb i v396 v682 k0_hw1 k 4⟩
       stepP ⟨v14, v25, v26, v40, v44⟩ arg3 arg5 arg6 arg7 ⟨arg10, arg11⟩ ⟨arg12, arg14⟩ ⟨arg13, arg15⟩ ⟨_, k0_off6_inb i v396 v682 k0_hw1 k 0 5⟩ ⟨_, k0_off6_inb i v396 v682 k0_hw1 k 1 5⟩ ⟨_, k0_off7_inb i v396 v682 k0_hw1 k 5⟩ ⟨_, k0_off8_inb i v396 v682 k0_hw1 k 5⟩
       stepP ⟨v14, v25, v26, v40, v44⟩ arg3 arg5 arg6 arg7 ⟨arg10, arg11⟩ ⟨arg13, arg15⟩ ⟨arg12, arg14⟩ ⟨_, k0_off6_inb i v396 v682 k0_hw1 k 0 6⟩ ⟨_, k0_off6_inb i v396 v682 k0_hw1 k 1 6⟩ ⟨_, k0_off7_inb i v396 v682 k0_hw1 k 6⟩ ⟨_, k0_off8_inb i v396 v682 k0_hw1 k 6⟩
       stepP ⟨v14, v25, v26, v40, v44⟩ arg3 arg5 arg6 arg7 ⟨arg10, arg11⟩ ⟨arg12, arg14⟩ ⟨arg13, arg15⟩ ⟨_, k0_off6_inb i v396 v682 k0_hw1 k 0 7⟩ ⟨_, k0_off6_inb i v396 v682 k0_hw1 k 1 7⟩ ⟨_, k0_off7_inb i v396 v682 k0_hw1 k 7⟩ ⟨_, k0_off8_inb i v396 v682 k0_hw1 k 7⟩) := rfl

end Cert.KernelIdeal.Hand
-- ==== Proof.T3.lean ====
module

public import proofs.«01_k».proof.Proof.Step

@[expose] public section

set_option maxRecDepth 65536

noncomputable section

namespace Cert.KernelIdeal.Hand

open Cert.KernelIdeal Cert.KernelIdeal.Gen
open Idealize.ShloMosaic Idealize.SL.Sem

variable {F : FTy → Type} [FloatOps F] [Named F]

set_option maxHeartbeats 40000000 in
/-- A trip of the loop by 4: 4 blocks' runs, the two score buffers taking turns. -/
theorem t3_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (v792 : BitVec 32) (k : Fin (k0_t3_loop i v396 v682).trips) (u : Unit) :
  k0_t3_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 v792 k u =
   (do stepP ⟨v14, v25, v26, v40, v44⟩ arg3 arg5 arg6 arg7 ⟨arg10, arg11⟩ ⟨arg13, arg15⟩ ⟨arg12, arg14⟩ ⟨_, k0_off12_inb i v396 v682 k0_hw1 k 0 0⟩ ⟨_, k0_off12_inb i v396 v682 k0_hw1 k 1 0⟩ ⟨_, k0_off13_inb i v396 v682 k0_hw1 k 0⟩ ⟨_, k0_off14_inb i v396 v682 k0_hw1 k 0⟩
       stepP ⟨v14, v25, v26, v40, v44⟩ arg3 arg5 arg6 arg7 ⟨arg10, arg11⟩ ⟨arg12, arg14⟩ ⟨arg13, arg15⟩ ⟨_, k0_off12_inb i v396 v682 k0_hw1 k 0 1⟩ ⟨_, k0_off12_inb i v396 v682 k0_hw1 k 1 1⟩ ⟨_, k0_off13_inb i v396 v682 k0_hw1 k 1⟩ ⟨_, k0_off14_inb i v396 v682 k0_hw1 k 1⟩
       stepP ⟨v14, v25, v26, v40, v44⟩ arg3 arg5 arg6 arg7 ⟨arg10, arg11⟩ ⟨arg13, arg15⟩ ⟨arg12, arg14⟩ ⟨_, k0_off12_inb i v396 v682 k0_hw1 k 0 2⟩ ⟨_, k0_off12_inb i v396 v682 k0_hw1 k 1 2⟩ ⟨_, k0_off13_inb i v396 v682 k0_hw1 k 2⟩ ⟨_, k0_off14_inb i v396 v682 k0_hw1 k 2⟩
       stepP ⟨v14, v25, v26, v40, v44⟩ arg3 arg5 arg6 arg7 ⟨arg10, arg11⟩ ⟨arg12, arg14⟩ ⟨arg13, arg15⟩ ⟨_, k0_off12_inb i v396 v682 k0_hw1 k 0 3⟩ ⟨_, k0_off12_inb i v396 v682 k0_hw1 k 1 3⟩ ⟨_, k0_off13_inb i v396 v682 k0_hw1 k 3⟩ ⟨_, k0_off14_inb i v396 v682 k0_hw1 k 3⟩) := rfl

end Cert.KernelIdeal.Hand
-- ==== Proof.T5.lean ====
module

public import proofs.«01_k».proof.Proof.Step

@[expose] public section

set_option maxRecDepth 65536

noncomputable section

namespace Cert.KernelIdeal.Hand

open Cert.KernelIdeal Cert.KernelIdeal.Gen
open Idealize.ShloMosaic Idealize.SL.Sem

variable {F : FTy → Type} [FloatOps F] [Named F]

set_option maxHeartbeats 40000000 in
/-- A trip of the loop by 2: 2 blocks' runs, the two score buffers taking turns. -/
theorem t5_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 : BitVec 32) (v765 : BitVec 32) (v794 : BitVec 32) (v818 : BitVec 32) (v819 : BitVec 32) (k : Fin (k0_t5_loop i v396 v682).trips) (u : Unit) :
  k0_t5_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819 k u =
   (do stepP ⟨v14, v25, v26, v40, v44⟩ arg3 arg5 arg6 arg7 ⟨arg10, arg11⟩ ⟨arg13, arg15⟩ ⟨arg12, arg14⟩ ⟨_, k0_off18_inb i v396 v682 k0_hw1 k 0 0⟩ ⟨_, k0_off18_inb i v396 v682 k0_hw1 k 1 0⟩ ⟨_, k0_off19_inb i v396 v682 k0_hw1 k 0⟩ ⟨_, k0_off20_inb i v396 v682 k0_hw1 k 0⟩
       stepP ⟨v14, v25, v26, v40, v44⟩ arg3 arg5 arg6 arg7 ⟨arg10, arg11⟩ ⟨arg12, arg14⟩ ⟨arg13, arg15⟩ ⟨_, k0_off18_inb i v396 v682 k0_hw1 k 0 1⟩ ⟨_, k0_off18_inb i v396 v682 k0_hw1 k 1 1⟩ ⟨_, k0_off19_inb i v396 v682 k0_hw1 k 1⟩ ⟨_, k0_off20_inb i v396 v682 k0_hw1 k 1⟩) := rfl

end Cert.KernelIdeal.Hand
-- ==== Proof.Loops.lean ====
module

public import proofs.«01_k».proof.Proof.StepWp
public import proofs.«01_k».proof.Proof.Places
public import proofs.«01_k».proof.Proof.Fin
public import proofs.«01_k».proof.Proof.T1
public import proofs.«01_k».proof.Proof.T3
public import proofs.«01_k».proof.Proof.T5
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The state between two blocks -/

/-- What a block's run reads, and what the accumulators hold after the diagonal block. -/
structure Env (F : FTy → Type) where
  X : Vals F
  i : grid0.Coords
  arg3 : Memref sig .tc .smem S1024 .f32
  arg5 : Memref sig .tc .vmem S1x32x512x128 .bf16
  arg6 : Memref sig .tc .vmem S1x32x512x128 .bf16
  arg7 : Memref sig .tc .vmem S1x32x128x512 .bf16
  A : Accs
  O : Vec F S1024 .f32
  K : Vec F S1x32x512x128 .bf16
  KC : Vec F S1x32x512x128 .bf16
  V : Vec F S1x32x128x512 .bf16
  s0 : MA F

/-- The scores of block `j`. -/
def scoreAt (X : Vals F) (K KC : Vec F S1x32x512x128 .bf16) (j : ℕ) : Sc F := scoreOf X (keyOf K (pK j)) (keyOf KC (pK j))

/-- The accumulators after `n` blocks below the diagonal, the nearest first. -/
def maAt (X : Vals F) (i : grid0.Coords) (O : Vec F S1024 .f32) (K KC : Vec F S1x32x512x128 .bf16) (V : Vec F S1x32x128x512 .bf16) (s0 : MA F) : ℕ → MA F
  | 0 => s0
  | n + 1 => updMA X (maAt X i O K KC V s0 n) (scoreAt X K KC ((i 2).val - 1 - n)) (offOf O (pO i 0 ((i 2).val - 1 - n))) (offOf O (pO i 1 ((i 2).val - 1 - n)))
      (valOf V (pV ((i 2).val - 1 - n)))

/-- The arrays the loops read. -/
def Env.ins (E : Env F) (c : Dev nD) : sProp 𝕄 :=
  iprop(owns (c : Thread nD τ) E.arg3 fullShare E.O ∗ owns (c : Thread nD τ) E.arg5 fullShare E.K ∗ owns (c : Thread nD τ) E.arg6 fullShare E.KC ∗ owns (c : Thread nD τ) E.arg7 fullShare E.V)

def Env.ma (E : Env F) (n : ℕ) : MA F := maAt E.X E.i E.O E.K E.KC E.V E.s0 n

/-- After `n` blocks: the next block's scores in `P`, anything in `Q`. -/
def Env.St (E : Env F) (c : Dev nD) (P Q : Bufs) (n : ℕ) : sProp 𝕄 :=
  iprop(hasMA c E.A (E.ma n) ∗ hasSc c P (scoreAt E.X E.K E.KC ((E.i 2).val - 1 - n)) ∗ (∃ u, hasSc c Q u) ∗ E.ins c)

theorem Env.step (E : Env F) (c : Dev nD) (P Q : Bufs) (n : ℕ) (o0 o1 : Off1) (oK : OffK) (oV : OffV)
    (h0 : o0.1 = (pO E.i 0 ((E.i 2).val - 1 - n)).1) (h1 : o1.1 = (pO E.i 1 ((E.i 2).val - 1 - n)).1)
    (hK : oK.1 = (pK ((E.i 2).val - 1 - n - 1)).1) (hV : oV.1 = (pV ((E.i 2).val - 1 - n)).1) :
    E.St c P Q n ⊢ wp frame (wpE (defs₀ (F := F)) Variants.none (c : Thread nD τ) none) Set.univ (stepP E.X E.arg3 E.arg5 E.arg6 E.arg7 E.A P Q o0 o1 oK oV) (fun _ => E.St c Q P (n + 1)) := by
  obtain rfl := Subtype.ext h0
  obtain rfl := Subtype.ext h1
  obtain rfl := Subtype.ext hK
  obtain rfl := Subtype.ext hV
  have hp : ∀ _a : PUnit, iprop(hasMA c E.A (updMA E.X (E.ma n) (scoreAt E.X E.K E.KC ((E.i 2).val - 1 - n)) (offOf E.O (pO E.i 0 ((E.i 2).val - 1 - n))) (offOf E.O (pO E.i 1 ((E.i 2).val - 1 - n))) (valOf E.V (pV ((E.i 2).val - 1 - n))))
      ∗ hasSc c P (scoreAt E.X E.K E.KC ((E.i 2).val - 1 - n)) ∗ hasSc c Q (scoreOf E.X (keyOf E.K (pK ((E.i 2).val - 1 - n - 1))) (keyOf E.KC (pK ((E.i 2).val - 1 - n - 1))))
      ∗ owns (c : Thread nD τ) E.arg3 fullShare E.O ∗ owns (c : Thread nD τ) E.arg5 fullShare E.K ∗ owns (c : Thread nD τ) E.arg6 fullShare E.KC ∗ owns (c : Thread nD τ) E.arg7 fullShare E.V) ⊢ E.St c Q P (n + 1) := by
    intro _
    unfold Env.St Env.ins
    rw [show (E.i 2).val - 1 - (n + 1) = (E.i 2).val - 1 - n - 1 by omega]
    iintro ⟨HM, HP, HQ, H3, H5, H6, H7⟩
    isplitl [HM]
    · iexact HM
    isplitl [HQ]
    · iexact HQ
    isplitl [HP]
    · iexists _; iexact HP
    isplitl [H3]
    · iexact H3
    isplitl [H5]
    · iexact H5
    isplitl [H6]
    · iexact H6
    iexact H7
  unfold Env.St Env.ins
  iintro ⟨HM, HP, ⟨%u, HQ⟩, H3, H5, H6, H7⟩
  iapply ((step_wp c E.X E.arg3 E.arg5 E.arg6 E.arg7 E.A P Q _ _ _ _ (E.ma n) (scoreAt E.X E.K E.KC ((E.i 2).val - 1 - n)) u E.O E.K E.KC E.V).trans (wp_mono _ _ _ hp))
  isplitl [HM]
  · iexact HM
  isplitl [HP]
  · iexact HP
  isplitl [HQ]
  · iexact HQ
  isplitl [H3]
  · iexact H3
  isplitl [H5]
  · iexact H5
  isplitl [H6]
  · iexact H6
  iexact H7

theorem Env.step_cons (E : Env F) (c : Dev nD) (P Q : Bufs) (n : ℕ) (o0 o1 : Off1) (oK : OffK) (oV : OffV)
    (h0 : o0.1 = (pO E.i 0 ((E.i 2).val - 1 - n)).1) (h1 : o1.1 = (pO E.i 1 ((E.i 2).val - 1 - n)).1)
    (hK : oK.1 = (pK ((E.i 2).val - 1 - n - 1)).1) (hV : oV.1 = (pV ((E.i 2).val - 1 - n)).1)
    {β : Type} {kk : PUnit → Prog (TpuEff nD τ sig (Elt F) Λ₀ .tc) β} {R : β → sProp 𝕄}
    (hk : ∀ u, E.St c Q P (n + 1) ⊢ wp frame (wpE (defs₀ (F := F)) Variants.none (c : Thread nD τ) none) Set.univ (kk u) R) :
    E.St c P Q n ⊢ wp frame (wpE (defs₀ (F := F)) Variants.none (c : Thread nD τ) none) Set.univ (stepP E.X E.arg3 E.arg5 E.arg6 E.arg7 E.A P Q o0 o1 oK oV >>= kk) R := by
  rw [wp_bind]
  exact (E.step c P Q n o0 o1 oK oV h0 h1 hK hV).trans (wp_mono _ _ _ fun u => hk u)

/-- The last block of all. -/
theorem Env.last (E : Env F) (c : Dev nD) (P Q : Bufs) (n : ℕ) (o0 o1 : Off1) (oV : OffV)
    (h0 : o0.1 = (pO E.i 0 ((E.i 2).val - 1 - n)).1) (h1 : o1.1 = (pO E.i 1 ((E.i 2).val - 1 - n)).1) (hV : oV.1 = (pV ((E.i 2).val - 1 - n)).1) :
    E.St c P Q n ⊢ wp frame (wpE (defs₀ (F := F)) Variants.none (c : Thread nD τ) none) Set.univ (lastP E.X E.arg3 E.arg7 E.A P o0 o1 oV)
      (fun _ => iprop(hasMA c E.A (E.ma (n + 1)) ∗ (∃ u, hasSc c P u) ∗ (∃ u, hasSc c Q u) ∗ E.ins c)) := by
  obtain rfl := Subtype.ext h0
  obtain rfl := Subtype.ext h1
  obtain rfl := Subtype.ext hV
  have hp : ∀ _a : PUnit, iprop((hasMA c E.A (updMA E.X (E.ma n) (scoreAt E.X E.K E.KC ((E.i 2).val - 1 - n)) (offOf E.O (pO E.i 0 ((E.i 2).val - 1 - n))) (offOf E.O (pO E.i 1 ((E.i 2).val - 1 - n))) (valOf E.V (pV ((E.i 2).val - 1 - n))))
      ∗ hasSc c P (scoreAt E.X E.K E.KC ((E.i 2).val - 1 - n))
      ∗ owns (c : Thread nD τ) E.arg3 fullShare E.O ∗ owns (c : Thread nD τ) E.arg7 fullShare E.V) ∗ ((∃ u, hasSc c Q u) ∗ owns (c : Thread nD τ) E.arg5 fullShare E.K ∗ owns (c : Thread nD τ) E.arg6 fullShare E.KC))
      ⊢ iprop(hasMA c E.A (E.ma (n + 1)) ∗ (∃ u, hasSc c P u) ∗ (∃ u, hasSc c Q u) ∗ E.ins c) := by
    intro _
    unfold Env.ins
    iintro ⟨⟨HM, HP, H3, H7⟩, HQ, H5, H6⟩
    isplitl [HM]
    · iexact HM
    isplitl [HP]
    · iexists _; iexact HP
    isplitl [HQ]
    · iexact HQ
    isplitl [H3]
    · iexact H3
    isplitl [H5]
    · iexact H5
    isplitl [H6]
    · iexact H6
    iexact H7
  have hq : iprop((hasMA c E.A (E.ma n) ∗ hasSc c P (scoreAt E.X E.K E.KC ((E.i 2).val - 1 - n)) ∗ owns (c : Thread nD τ) E.arg3 fullShare E.O ∗ owns (c : Thread nD τ) E.arg7 fullShare E.V)
      ∗ ((∃ u, hasSc c Q u) ∗ owns (c : Thread nD τ) E.arg5 fullShare E.K ∗ owns (c : Thread nD τ) E.arg6 fullShare E.KC))
      ⊢ wp frame (wpE (defs₀ (F := F)) Variants.none (c : Thread nD τ) none) Set.univ (lastP E.X E.arg3 E.arg7 E.A P (pO E.i 0 ((E.i 2).val - 1 - n)) (pO E.i 1 ((E.i 2).val - 1 - n)) (pV ((E.i 2).val - 1 - n)))
        (fun _ => iprop(hasMA c E.A (E.ma (n + 1)) ∗ (∃ u, hasSc c P u) ∗ (∃ u, hasSc c Q u) ∗ E.ins c)) :=
    (sep_mono_l (last_wp c E.X E.arg3 E.arg7 E.A P _ _ _ (E.ma n) (scoreAt E.X E.K E.KC ((E.i 2).val - 1 - n)) E.O E.V)).trans ((wp_frame_r _ _ _).trans (wp_mono _ _ _ hp))
  unfold Env.St Env.ins
  unfold Env.ins at hq
  iintro ⟨HM, HP, HQ, H3, H5, H6, H7⟩
  iapply hq
  isplitl [HM HP H3 H7]
  · isplitl [HM]
    · iexact HM
    isplitl [HP]
    · iexact HP
    isplitl [H3]
    · iexact H3
    iexact H7
  isplitl [HQ]
  · iexact HQ
  isplitl [H5]
  · iexact H5
  iexact H6

/-- A loop whose invariant does not read the state it carries. -/
theorem for_wp (c : Dev nD) (L : Scf.Loop 32) (ok : L.OK) (body : Fin L.trips → PUnit → Prog (TpuEff nD τ sig (Elt F) Λ₀ .tc) PUnit) (I : ℕ → sProp 𝕄)
    (hbody : ∀ k u, I k.val ⊢ wp frame (wpE (defs₀ (F := F)) Variants.none (c : Thread nD τ) none) Set.univ (body k u) (fun _ => I (k.val + 1)))
    {β : Type} {kk : PUnit → Prog (TpuEff nD τ sig (Elt F) Λ₀ .tc) β} {R : β → sProp 𝕄}
    (hk : ∀ u, I L.trips ⊢ wp frame (wpE (defs₀ (F := F)) Variants.none (c : Thread nD τ) none) Set.univ (kk u) R) :
    I 0 ⊢ wp frame (wpE (defs₀ (F := F)) Variants.none (c : Thread nD τ) none) Set.univ (Scf.Loop.for L ok ⟨⟩ body >>= kk) R := by
  iintro HI
  iapply (Scf.wp_for_bind frame (wpE (defs₀ (F := F)) Variants.none (c : Thread nD τ) none) Set.univ _ _ _ ok ⟨⟩ body (fun k _ => I k) hbody) $$ [HI]
  · iexact HI
  iintro %u HI
  iapply (hk u)
  iexact HI

/-- A trip of the loop by 8. -/
theorem t1_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) (k : Fin (k0_t1_loop i v396 v682).trips) (u : Unit) :
    Env.St (F := F) ⟨⟨v14, v25, v26, v40, v44⟩, i, arg3, arg5, arg6, arg7, ⟨arg10, arg11⟩, O, K, KC, VV, s0⟩ c ⟨arg13, arg15⟩ ⟨arg12, arg14⟩ (0 + 8 * k.val) ⊢
    wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 k u)
      (fun _ => Env.St (F := F) ⟨⟨v14, v25, v26, v40, v44⟩, i, arg3, arg5, arg6, arg7, ⟨arg10, arg11⟩, O, K, KC, VV, s0⟩ c ⟨arg13, arg15⟩ ⟨arg12, arg14⟩ (0 + 8 * (k.val + 1))) := by
  rw [t1_eq]
  refine Env.step_cons ⟨⟨v14, v25, v26, v40, v44⟩, i, arg3, arg5, arg6, arg7, ⟨arg10, arg11⟩, O, K, KC, VV, s0⟩ c ⟨arg13, arg15⟩ ⟨arg12, arg14⟩ (0 + 8 * k.val + 0) _ _ _ _ ((off6_cl i v396 v682 w hw h k 0).1 0) ((off6_cl i v396 v682 w hw h k 0).1 1) (off6_cl i v396 v682 w hw h k 0).2.1 (off6_cl i v396 v682 w hw h k 0).2.2.1 fun _ => ?_
  refine Env.step_cons ⟨⟨v14, v25, v26, v40, v44⟩, i, arg3, arg5, arg6, arg7, ⟨arg10, arg11⟩, O, K, KC, VV, s0⟩ c ⟨arg12, arg14⟩ ⟨arg13, arg15⟩ (0 + 8 * k.val + 1) _ _ _ _ ((off6_cl i v396 v682 w hw h k 1).1 0) ((off6_cl i v396 v682 w hw h k 1).1 1) (off6_cl i v396 v682 w hw h k 1).2.1 (off6_cl i v396 v682 w hw h k 1).2.2.1 fun _ => ?_
  refine Env.step_cons ⟨⟨v14, v25, v26, v40, v44⟩, i, arg3, arg5, arg6, arg7, ⟨arg10, arg11⟩, O, K, KC, VV, s0⟩ c ⟨arg13, arg15⟩ ⟨arg12, arg14⟩ (0 + 8 * k.val + 2) _ _ _ _ ((off6_cl i v396 v682 w hw h k 2).1 0) ((off6_cl i v396 v682 w hw h k 2).1 1) (off6_cl i v396 v682 w hw h k 2).2.1 (off6_cl i v396 v682 w hw h k 2).2.2.1 fun _ => ?_
  refine Env.step_cons ⟨⟨v14, v25, v26, v40, v44⟩, i, arg3, arg5, arg6, arg7, ⟨arg10, arg11⟩, O, K, KC, VV, s0⟩ c ⟨arg12, arg14⟩ ⟨arg13, arg15⟩ (0 + 8 * k.val + 3) _ _ _ _ ((off6_cl i v396 v682 w hw h k 3).1 0) ((off6_cl i v396 v682 w hw h k 3).1 1) (off6_cl i v396 v682 w hw h k 3).2.1 (off6_cl i v396 v682 w hw h k 3).2.2.1 fun _ => ?_
  refine Env.step_cons ⟨⟨v14, v25, v26, v40, v44⟩, i, arg3, arg5, arg6, arg7, ⟨arg10, arg11⟩, O, K, KC, VV, s0⟩ c ⟨arg13, arg15⟩ ⟨arg12, arg14⟩ (0 + 8 * k.val + 4) _ _ _ _ ((off6_cl i v396 v682 w hw h k 4).1 0) ((off6_cl i v396 v682 w hw h k 4).1 1) (off6_cl i v396 v682 w hw h k 4).2.1 (off6_cl i v396 v682 w hw h k 4).2.2.1 fun _ => ?_
  refine Env.step_cons ⟨⟨v14, v25, v26, v40, v44⟩, i, arg3, arg5, arg6, arg7, ⟨arg10, arg11⟩, O, K, KC, VV, s0⟩ c ⟨arg12, arg14⟩ ⟨arg13, arg15⟩ (0 + 8 * k.val + 5) _ _ _ _ ((off6_cl i v396 v682 w hw h k 5).1 0) ((off6_cl i v396 v682 w hw h k 5).1 1) (off6_cl i v396 v682 w hw h k 5).2.1 (off6_cl i v396 v682 w hw h k 5).2.2.1 fun _ => ?_
  refine Env.step_cons ⟨⟨v14, v25, v26, v40, v44⟩, i, arg3, arg5, arg6, arg7, ⟨arg10, arg11⟩, O, K, KC, VV, s0⟩ c ⟨arg13, arg15⟩ ⟨arg12, arg14⟩ (0 + 8 * k.val + 6) _ _ _ _ ((off6_cl i v396 v682 w hw h k 6).1 0) ((off6_cl i v396 v682 w hw h k 6).1 1) (off6_cl i v396 v682 w hw h k 6).2.1 (off6_cl i v396 v682 w hw h k 6).2.2.1 fun _ => ?_
  refine Env.step ⟨⟨v14, v25, v26, v40, v44⟩, i, arg3, arg5, arg6, arg7, ⟨arg10, arg11⟩, O, K, KC, VV, s0⟩ c ⟨arg12, arg14⟩ ⟨arg13, arg15⟩ (0 + 8 * k.val + 7) _ _ _ _ ((off6_cl i v396 v682 w hw h k 7).1 0) ((off6_cl i v396 v682 w hw h k 7).1 1) (off6_cl i v396 v682 w hw h k 7).2.1 (off6_cl i v396 v682 w hw h k 7).2.2.1

/-- A trip of the loop by 4. -/
theorem t3_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (v792 : BitVec 32) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) (k : Fin (k0_t3_loop i v396 v682).trips) (u : Unit) :
    Env.St (F := F) ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * k.val) ⊢
    wp frame (wpE (defs₀ (F := F)) Variants.none (c : Thread nD τ) none) Set.univ (k0_t3_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 v792 k u)
      (fun _ => Env.St (F := F) ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * (k.val + 1))) := by
  rw [t3_eq]
  refine Env.step_cons ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * k.val + 0) _ _ _ _ ((off12_cl i v396 v682 w hw h k 0).1 0) ((off12_cl i v396 v682 w hw h k 0).1 1) (off12_cl i v396 v682 w hw h k 0).2.1 (off12_cl i v396 v682 w hw h k 0).2.2.1 fun _ => ?_
  refine Env.step_cons ⟨⟨v14, v25, v26, v40, v44⟩, i, arg3, arg5, arg6, arg7, ⟨arg10, arg11⟩, O, K, KC, VV, s0⟩ c ⟨arg12, arg14⟩ ⟨arg13, arg15⟩ (8 * (((i 2).val - w.val - 1) / 8) + 4 * k.val + 1) _ _ _ _ ((off12_cl i v396 v682 w hw h k 1).1 0) ((off12_cl i v396 v682 w hw h k 1).1 1) (off12_cl i v396 v682 w hw h k 1).2.1 (off12_cl i v396 v682 w hw h k 1).2.2.1 fun _ => ?_
  refine Env.step_cons ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * k.val + 2) _ _ _ _ ((off12_cl i v396 v682 w hw h k 2).1 0) ((off12_cl i v396 v682 w hw h k 2).1 1) (off12_cl i v396 v682 w hw h k 2).2.1 (off12_cl i v396 v682 w hw h k 2).2.2.1 fun _ => ?_
  refine Env.step ⟨⟨v14, v25, v26, v40, v44⟩, i, arg3, arg5, arg6, arg7, ⟨arg10, arg11⟩, O, K, KC, VV, s0⟩ c ⟨arg12, arg14⟩ ⟨arg13, arg15⟩ (8 * (((i 2).val - w.val - 1) / 8) + 4 * k.val + 3) _ _ _ _ ((off12_cl i v396 v682 w hw h k 3).1 0) ((off12_cl i v396 v682 w hw h k 3).1 1) (off12_cl i v396 v682 w hw h k 3).2.1 (off12_cl i v396 v682 w hw h k 3).2.2.1

/-- A trip of the loop by 2. -/
theorem t5_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 : BitVec 32) (v765 : BitVec 32) (v794 : BitVec 32) (v818 : BitVec 32) (v819 : BitVec 32) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) (k : Fin (k0_t5_loop i v396 v682).trips) (u : Unit) :
    Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * k.val) ⊢
    wp frame (wpE (defs₀ (F := F)) Variants.none (c : Thread nD τ) none) Set.univ (k0_t5_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819 k u)
      (fun _ => Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (k.val + 1))) := by
  rw [t5_eq]
  refine Env.step_cons ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * k.val + 0) _ _ _ _ ((off18_cl i v396 v682 w hw h k 0).1 0) ((off18_cl i v396 v682 w hw h k 0).1 1) (off18_cl i v396 v682 w hw h k 0).2.1 (off18_cl i v396 v682 w hw h k 0).2.2.1 fun _ => ?_
  refine Env.step ⟨⟨v14, v25, v26, v40, v44⟩, i, arg3, arg5, arg6, arg7, ⟨arg10, arg11⟩, O, K, KC, VV, s0⟩ c ⟨arg12, arg14⟩ ⟨arg13, arg15⟩ (4 * (((i 2).val - w.val - 1) / 4) + 2 * k.val + 1) _ _ _ _ ((off18_cl i v396 v682 w hw h k 1).1 0) ((off18_cl i v396 v682 w hw h k 1).1 1) (off18_cl i v396 v682 w hw h k 1).2.1 (off18_cl i v396 v682 w hw h k 1).2.2.1

end Cert.KernelIdeal.Hand
-- ==== Proof.Tail.lean ====
module

public import proofs.«01_k».proof.Proof.Loops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- After the last block: the accumulators, and anything in the score buffers. -/
def Env.Fi (E : Env F) (c : Dev nD) (P Q : Bufs) (n : ℕ) : sProp 𝕄 :=
  iprop(hasMA c E.A (E.ma n) ∗ (∃ u, hasSc c P u) ∗ (∃ u, hasSc c Q u) ∗ E.ins c)

theorem Env.Fi_of_St (E : Env F) (c : Dev nD) (P Q : Bufs) (n : ℕ) : E.St c P Q n ⊢ E.Fi c P Q n := by
  unfold Env.St Env.Fi
  iintro ⟨HM, HP, HQ, HI⟩
  isplitl [HM]
  · iexact HM
  isplitl [HP]
  · iexists _; iexact HP
  isplitl [HQ]
  · iexact HQ
  iexact HI

theorem Env.Fi_swap (E : Env F) (c : Dev nD) (P Q : Bufs) (n : ℕ) : E.Fi c P Q n ⊢ E.Fi c Q P n := by
  unfold Env.Fi
  iintro ⟨HM, HP, HQ, HI⟩
  isplitl [HM]
  · iexact HM
  isplitl [HQ]
  · iexact HQ
  isplitl [HP]
  · iexact HP
  iexact HI

/-- A loop that makes no trip. -/
theorem for_none (c : Dev nD) (L : Scf.Loop 32) (ok : L.OK) (hL : L.trips = 0) (body : Fin L.trips → PUnit → Prog (TpuEff nD τ sig (Elt F) Λ₀ .tc) PUnit) (I : sProp 𝕄)
    {β : Type} {kk : PUnit → Prog (TpuEff nD τ sig (Elt F) Λ₀ .tc) β} {R : β → sProp 𝕄}
    (hk : ∀ u, I ⊢ wp frame (wpE (defs₀ (F := F)) Variants.none (c : Thread nD τ) none) Set.univ (kk u) R) :
    I ⊢ wp frame (wpE (defs₀ (F := F)) Variants.none (c : Thread nD τ) none) Set.univ (Scf.Loop.for L ok ⟨⟩ body >>= kk) R :=
  for_wp c L ok body (fun _ => I) (fun k _ => absurd (Nat.lt_of_lt_of_eq k.isLt hL) (Nat.not_lt_zero _)) hk

theorem part103_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 v768 v769 : BitVec 32) (v783 : BitVec 1) (v784 : BitVec 32) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) :
    Env.St (F := F) ⟨⟨v14, v25, v26, v40, v44⟩, i, arg3, arg5, arg6, arg7, ⟨arg10, arg11⟩, O, K, KC, VV, s0⟩ c ⟨arg13, arg15⟩ ⟨arg12, arg14⟩ (0) ⊢ wp frame (wpE (defs₀ (F := F)) Variants.none (c : Thread nD τ) none) Set.univ (k0_part103 (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784) (fun _ => Env.St (F := F) ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * (((i 2).val - w.val - 1) % 8 / 4))) := by
  have e1 : (k0_t1_loop i v396 v682).trips = ((i 2).val - w.val - 1) / 8 := by rw [t1_red i v396 v682 _ h]; exact (trips_closed (i 2) w hw).1.2
  have e2 : (k0_t2_loop i v396 v682).trips = 0 := by rw [t2_red i v396 v682 _ h]; exact (trips_closed (i 2) w hw).2.1.2
  have e3 : (k0_t3_loop i v396 v682).trips = ((i 2).val - w.val - 1) % 8 / 4 := by rw [t3_red i v396 v682 _ h]; exact (trips_closed (i 2) w hw).2.2.1.2
  have e4 : (k0_t4_loop i v396 v682).trips = 0 := by rw [t4_red i v396 v682 _ h]; exact (trips_closed (i 2) w hw).2.2.2.1.2
  rw [k0_part103_eq_skeleton]
  unfold k0_part103_skel
  refine for_wp c _ _ _ (fun k => Env.St (F := F) ⟨⟨v14, v25, v26, v40, v44⟩, i, arg3, arg5, arg6, arg7, ⟨arg10, arg11⟩, O, K, KC, VV, s0⟩ c ⟨arg13, arg15⟩ ⟨arg12, arg14⟩ (0 + 8 * k)) (fun k u => t1_wp i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 _ _ _ _ _ c O K KC VV s0 w hw h k u) fun _ => ?_
  rw [e1]
  refine for_none c _ _ e2 _ _ fun _ => ?_
  rw [show 0 + 8 * (((i 2).val - w.val - 1) / 8) = 8 * (((i 2).val - w.val - 1) / 8) + 4 * 0 by omega]
  refine for_wp c _ _ _ (fun k => Env.St (F := F) ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * k)) (fun k u => t3_wp i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 _ _ _ _ _ _ c O K KC VV s0 w hw h k u) fun _ => ?_
  rw [e3]
  refine for_none c _ _ e4 _ _ fun _ => ?_
  exact fupd_intro

theorem fin1_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) (hc : k0_cond1 i v396 v682 = 1#1) (hl : w.val < (i 2).val ∧ ((i 2).val - w.val - 1) % 2 = 1) :
    Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (((i 2).val - w.val - 1) % 4 / 2)) ⊢ wp frame (wpE (defs₀ (F := F)) Variants.none (c : Thread nD τ) none) Set.univ (fin1P (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 hc) (fun _ => Env.Fi (F := F) ⟨⟨v14, v25, v26, v40, v44⟩, i, arg3, arg5, arg6, arg7, ⟨arg10, arg11⟩, O, K, KC, VV, s0⟩ c ⟨arg13, arg15⟩ ⟨arg12, arg14⟩ ((i 2).val - w.val)) := by
  have ha : (i 2).val < 32 := (i 2).isLt
  have hN : (i 2).val - 1 - (4 * (((i 2).val - w.val - 1) / 4) + 2 * (((i 2).val - w.val - 1) % 4 / 2)) = w.val + 1 := by omega
  have hN' : (i 2).val - 1 - (4 * (((i 2).val - w.val - 1) / 4) + 2 * (((i 2).val - w.val - 1) % 4 / 2) + 1) = w.val := by omega
  have cl := off24_cl i v396 v682 w hw h hc
  have cm := off27_cl i v396 v682 w h
  unfold fin1P
  refine Env.step_cons ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (((i 2).val - w.val - 1) % 4 / 2)) _ _ _ _ ((cl.1 0).trans ?_) ((cl.1 1).trans ?_) (cl.2.1.trans ?_) (cl.2.2.trans ?_) fun _ => ?_
  · dsimp only; rw [hN]
  · dsimp only; rw [hN]
  · dsimp only; rw [hN]; rfl
  · dsimp only; rw [hN]
  refine (Env.last ⟨⟨v14, v25, v26, v40, v44⟩, i, arg3, arg5, arg6, arg7, ⟨arg10, arg11⟩, O, K, KC, VV, s0⟩ c ⟨arg12, arg14⟩ ⟨arg13, arg15⟩ (4 * (((i 2).val - w.val - 1) / 4) + 2 * (((i 2).val - w.val - 1) % 4 / 2) + 1) _ _ _ ((cm.1 0).trans ?_) ((cm.1 1).trans ?_) (cm.2.1.trans ?_)).trans (wp_mono _ _ _ fun _ => ?_)
  · dsimp only; rw [hN']
  · dsimp only; rw [hN']
  · dsimp only; rw [hN']
  rw [show 4 * (((i 2).val - w.val - 1) / 4) + 2 * (((i 2).val - w.val - 1) % 4 / 2) + 1 + 1 = (i 2).val - w.val by omega]
  exact Env.Fi_swap _ _ _ _ _

theorem fin2_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) (hc : k0_cond2 i v396 v682 = 1#1) (hl : w.val < (i 2).val ∧ ((i 2).val - w.val - 1) % 2 = 0) :
    Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (((i 2).val - w.val - 1) % 4 / 2)) ⊢ wp frame (wpE (defs₀ (F := F)) Variants.none (c : Thread nD τ) none) Set.univ (fin2P (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 hc) (fun _ => Env.Fi (F := F) ⟨⟨v14, v25, v26, v40, v44⟩, i, arg3, arg5, arg6, arg7, ⟨arg10, arg11⟩, O, K, KC, VV, s0⟩ c ⟨arg13, arg15⟩ ⟨arg12, arg14⟩ ((i 2).val - w.val)) := by
  have ha : (i 2).val < 32 := (i 2).isLt
  have hN : (i 2).val - 1 - (4 * (((i 2).val - w.val - 1) / 4) + 2 * (((i 2).val - w.val - 1) % 4 / 2)) = w.val := by omega
  have cm := off27_cl i v396 v682 w h
  unfold fin2P
  refine (Env.last ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (((i 2).val - w.val - 1) % 4 / 2)) _ _ _ ((cm.2.2.1 0).trans ?_) ((cm.2.2.1 1).trans ?_) (cm.2.2.2.trans ?_)).trans (wp_mono _ _ _ fun _ => ?_)
  · dsimp only; rw [hN]
  · dsimp only; rw [hN]
  · dsimp only; rw [hN]
  rw [show 4 * (((i 2).val - w.val - 1) / 4) + 2 * (((i 2).val - w.val - 1) % 4 / 2) + 1 = (i 2).val - w.val by omega]
  exact .rfl

theorem part104_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 v765 v794 v818 v819 : BitVec 32) (c : Dev nD) (O : Vec F S1024 .f32) (K KC : Vec F S1x32x512x128 .bf16) (VV : Vec F S1x32x128x512 .bf16) (s0 : MA F) (w : Fin 32) (hw : w ≤ (i 2 : Fin 32)) (h : Scalar.minsi v396 v682 = BitVec.ofNat 32 w.val) :
    Env.St (F := F) ⟨⟨v14, v25, v26, v40, v44⟩, i, arg3, arg5, arg6, arg7, ⟨arg10, arg11⟩, O, K, KC, VV, s0⟩ c ⟨arg13, arg15⟩ ⟨arg12, arg14⟩ (8 * (((i 2).val - w.val - 1) / 8) + 4 * (((i 2).val - w.val - 1) % 8 / 4)) ⊢ wp frame (wpE (defs₀ (F := F)) Variants.none (c : Thread nD τ) none) Set.univ (k0_part104 (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819)
      (fun _ => if k0_cond1 i v396 v682 = 1#1 then Env.Fi (F := F) ⟨⟨v14, v25, v26, v40, v44⟩, i, arg3, arg5, arg6, arg7, ⟨arg10, arg11⟩, O, K, KC, VV, s0⟩ c ⟨arg13, arg15⟩ ⟨arg12, arg14⟩ ((i 2).val - w.val) else Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * (((i 2).val - w.val - 1) % 4 / 2))) := by
  have e5 : (k0_t5_loop i v396 v682).trips = ((i 2).val - w.val - 1) % 4 / 2 := by rw [t5_red i v396 v682 _ h]; exact (trips_closed (i 2) w hw).2.2.2.2.1.2
  have e6 : (k0_t6_loop i v396 v682).trips = 0 := by rw [t6_red i v396 v682 _ h]; exact (trips_closed (i 2) w hw).2.2.2.2.2.1.2
  rw [part104_eq, show 8 * (((i 2).val - w.val - 1) / 8) + 4 * (((i 2).val - w.val - 1) % 8 / 4) = 4 * (((i 2).val - w.val - 1) / 4) + 2 * 0 by omega]
  refine for_wp c _ _ _ (fun k => Env.St (F := F) ⟨⟨v14, v25, v26, v40, v44⟩, i, arg3, arg5, arg6, arg7, ⟨arg10, arg11⟩, O, K, KC, VV, s0⟩ c ⟨arg13, arg15⟩ ⟨arg12, arg14⟩ (4 * (((i 2).val - w.val - 1) / 4) + 2 * k)) (fun k u => t5_wp i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 _ _ _ _ _ c O K KC VV s0 w hw h k u) fun _ => ?_
  rw [e5]
  refine for_none c _ _ e6 _ _ fun _ => ?_
  by_cases hc : k0_cond1 i v396 v682 = 1#1
  · have hl := hc
    rw [cond1_red i v396 v682 _ h] at hl
    simp only [dif_pos hc, if_pos hc]
    exact fin1_wp i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 c O K KC VV s0 w hw h hc ((trips_closed (i 2) w hw).2.2.2.2.2.2.1.1 hl)
  · simp only [dif_neg hc, if_neg hc]
    exact fupd_intro

/-- The division and the store of the output block. -/
def storeP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) : Prog (TpuEff nD τ sig (Elt F) Λ₀ .tc) PUnit := do
  let v857 : Vec F S1x80x512 .f32 ← Prog.lift (.load arg11 (Rect.unit (s := S2x80x512) ![0, 0, 0] S1x80x512.size inb_S2x80x512_S1x80x512_0_0_0).toLoadRect (View.loadsAt_vmem h_S1x80x512))
  let v863 : Vec F S1x80x512 .f32 ← Prog.lift (.load arg11 (Rect.unit (s := S2x80x512) ![1, 0, 0] S1x80x512.size inb_S2x80x512_S1x80x512_1_0_0).toLoadRect (View.loadsAt_vmem h_S1x80x512))
  let v872 : Vec F S1x512x128 .bf16 ← Prog.lift (.load arg9 (Rect.unit (s := S1x512x128) ![0, 0, 0] S1x512x128.size inb_S1x512x128_S1x512x128_0_0_0).toLoadRect (View.loadsAt_vmem h_S1x512x128))
  Prog.lift (.store arg9 (Rect.unit (s := S1x512x128) ![0, 0, 0] S1x512x128.size inb_S1x512x128_S1x512x128_0_0_0) (k0_pay5 v857 v863) Finset.univ (View.stores_vmem h_S1x512x128 (harg9.storeExact_slice rfl _ packedbf16_S1x512x128_S1x512x128_0_0_0) (fun _ => rfl)) (.inl rfl))
  pure ⟨⟩

theorem endP_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) : endP (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1
    = (if h : k0_cond2 i v396 v682 = 1#1 then fin2P i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 h else pure ⟨⟩) >>= fun _ => storeP i arg3 harg3 arg4 harg4 arg5 harg5 arg6 harg6 arg7 harg7 arg8 harg8 arg9 harg9 arg10 harg10 arg11 harg11 arg12 harg12 arg13 harg13 arg14 harg14 arg15 harg15 := by
  unfold endP storeP
  split <;> rfl

set_option backward.proofsInPublic true in
theorem store_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (c : Dev nD) (s : MA F) :
    iprop(hasMA c ⟨arg10, arg11⟩ s ∗ (∃ d, owns (c : Thread nD τ) arg9 fullShare d))
    ⊢ wp frame (wpE (defs₀ (F := F)) Variants.none (c : Thread nD τ) none) Set.univ (storeP (F := F) i arg3 harg3 arg4 harg4 arg5 harg5 arg6 harg6 arg7 harg7 arg8 harg8 arg9 harg9 arg10 harg10 arg11 harg11 arg12 harg12 arg13 harg13 arg14 harg14 arg15 harg15)
      (fun _ => iprop(hasMA c ⟨arg10, arg11⟩ s ∗ owns (c : Thread nD τ) arg9 fullShare (k0_pay5 s.c0 s.c1))) := by
  unfold hasMA twoRow twoAcc owns
  iintro ⟨⟨HM, ⟨%fa, %ha, HA⟩⟩, ⟨%d, %f9, %h9, H9⟩⟩
  obtain ⟨ha0, ha1⟩ := ha
  sl_unfold [storeP]
  sl_exec
  sl_step
  isplitl [HM HA]
  · isplitl [HM]
    · iexact HM
    · iexists _; isplitr; swap; · iexact HA
      ipureintro; exact ⟨ha0, ha1⟩
  iexists _; isplitr; swap; · iexact H9
  ipureintro
  exact View.read_writes_full _ _ _ _ _

end Cert.KernelIdeal.Hand
-- ==== Proof.Pre.lean ====
module

public import proofs.«01_k».proof.Proof.StepWp
public import proofs.«01_k».proof.Proof.Places
public import proofs.«01_k».proof.Proof.Fin
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of one word of the offsets at the head of a program. -/
theorem smem_wp (c : Dev nD) (arg3 : Memref sig .tc .smem S1024 .f32) (O : Vec F S1024 .f32) (G : sProp 𝕄) (o : Fin 1 → ℕ) (inb : ∀ a, o a + S1.size a ≤ S1024.size a)
    {β : Type} {kk : Elt F .f32 → Prog (TpuEff nD τ sig (Elt F) Λ₀ .tc) β} {R : β → sProp 𝕄}
    (hk : iprop(owns (c : Thread nD τ) arg3 fullShare O ∗ G) ⊢ wp frame (wpE (defs₀ (F := F)) Variants.none (c : Thread nD τ) none) Set.univ (kk (offOf O ⟨o, inb⟩)) R) :
    iprop(owns (c : Thread nD τ) arg3 fullShare O ∗ G) ⊢ wp frame (wpE (defs₀ (F := F)) Variants.none (c : Thread nD τ) none) Set.univ (smemLoad arg3 (Rect.unit (s := S1024) o S1.size inb) numel1_S1 rfl >>= kk) R := by
  have hk' := hk
  unfold owns at hk'
  unfold owns
  iintro ⟨⟨%f3, %h3, H3⟩, HG⟩
  subst h3
  rw [wp_bind]
  sl_unfold [smemLoad, smemLoadElt]
  sl_step
  sl_step
  iapply hk'
  isplitl [H3]
  · iexists _; isplitr; swap; · iexact H3
    ipureintro; rfl
  iexact HG

/-! ## The skip counts, part by part -/

/-- What part 88 computes. -/
def part88V (i : grid0.Coords) (O : Vec F S1024 .f32) (v31 : BitVec 32) (v109 : IVec S32x1 32) (v130 : FVec F S32x1 .f32) (v132 : IVec S32x1 1) : (Σ' (v178 : FVec F S32x1 .f32), IVec S32x1 32) :=
  let v136 : Elt F .f32 := offOf O ⟨(k0_off4 i 0#32 0#32), (k0_off4_inb i 0 0)⟩
  let v144 : Elt F .f32 := offOf O ⟨(k0_off4 i 0#32 1#32), (k0_off4_inb i 0 1)⟩
  let v152 : Elt F .f32 := offOf O ⟨(k0_off4 i 0#32 2#32), (k0_off4_inb i 0 2)⟩
  let v160 : Elt F .f32 := offOf O ⟨(k0_off4 i 0#32 3#32), (k0_off4_inb i 0 3)⟩
  let v168 : Elt F .f32 := offOf O ⟨(k0_off4 i 0#32 4#32), (k0_off4_inb i 0 4)⟩
  let v176 : Elt F .f32 := offOf O ⟨(k0_off4 i 0#32 5#32), (k0_off4_inb i 0 5)⟩
  ⟨k0_pay745 v109 v130 v132 v136 v144 v152 v160 v168 v176, k0_pay746⟩

theorem part88_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v31 : BitVec 32) (v109 : IVec S32x1 32) (v130 : FVec F S32x1 .f32) (v132 : IVec S32x1 1) (c : Dev nD) (O : Vec F S1024 .f32) (G : sProp 𝕄) {R : (Σ' (v178 : FVec F S32x1 .f32), IVec S32x1 32) → sProp 𝕄}
    (hk : iprop(owns (c : Thread nD τ) arg3 fullShare O ∗ G) ⊢ R (part88V i O v31 v109 v130 v132)) :
    iprop(owns (c : Thread nD τ) arg3 fullShare O ∗ G) ⊢ wp frame (wpE (defs₀ (F := F)) Variants.none (c : Thread nD τ) none) Set.univ (k0_part88 (F := F) i arg3 harg3 arg4 harg4 arg5 harg5 arg6 harg6 arg7 harg7 arg8 harg8 arg9 harg9 arg10 harg10 arg11 harg11 arg12 harg12 arg13 harg13 arg14 harg14 arg15 harg15 v31 v109 v130 v132) R := by
  rw [k0_part88_eq_skeleton]
  unfold k0_part88_skel
  refine smem_wp c arg3 O G _ _ ?_
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 89 computes. -/
def part89V (i : grid0.Coords) (O : Vec F S1024 .f32) (v31 : BitVec 32) (v109 : IVec S32x1 32) (v178 : FVec F S32x1 .f32) (v179 : IVec S32x1 32) : (Σ' (v218 : FVec F S32x1 .f32) (v220 : IVec S32x1 1), BitVec 32) :=
  let v184 : Elt F .f32 := offOf O ⟨(k0_off4 i 0#32 6#32), (k0_off4_inb i 0 6)⟩
  let v192 : Elt F .f32 := offOf O ⟨(k0_off4 i 0#32 7#32), (k0_off4_inb i 0 7)⟩
  let v200 : Elt F .f32 := offOf O ⟨(k0_off4 i 0#32 8#32), (k0_off4_inb i 0 8)⟩
  let v208 : Elt F .f32 := offOf O ⟨(k0_off4 i 0#32 9#32), (k0_off4_inb i 0 9)⟩
  let v216 : Elt F .f32 := offOf O ⟨(k0_off4 i 0#32 10#32), (k0_off4_inb i 0 10)⟩
  let v221 : BitVec 32 := Scalar.addi v31 11#32
  let v222 : BitVec 32 := Scalar.addi v221 1#32
  ⟨k0_pay747 v109 v178 v179 v184 v192 v200 v208 v216, k0_pay748 v109, v222⟩

theorem part89_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v31 : BitVec 32) (v109 : IVec S32x1 32) (v178 : FVec F S32x1 .f32) (v179 : IVec S32x1 32) (c : Dev nD) (O : Vec F S1024 .f32) (G : sProp 𝕄) {R : (Σ' (v218 : FVec F S32x1 .f32) (v220 : IVec S32x1 1), BitVec 32) → sProp 𝕄}
    (hk : iprop(owns (c : Thread nD τ) arg3 fullShare O ∗ G) ⊢ R (part89V i O v31 v109 v178 v179)) :
    iprop(owns (c : Thread nD τ) arg3 fullShare O ∗ G) ⊢ wp frame (wpE (defs₀ (F := F)) Variants.none (c : Thread nD τ) none) Set.univ (k0_part89 (F := F) i arg3 harg3 arg4 harg4 arg5 harg5 arg6 harg6 arg7 harg7 arg8 harg8 arg9 harg9 arg10 harg10 arg11 harg11 arg12 harg12 arg13 harg13 arg14 harg14 arg15 harg15 v31 v109 v178 v179) R := by
  rw [k0_part89_eq_skeleton]
  unfold k0_part89_skel
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 90 computes. -/
def part90V (i : grid0.Coords) (O : Vec F S1024 .f32) (v31 : BitVec 32) (v109 : IVec S32x1 32) (v218 : FVec F S32x1 .f32) (v220 : IVec S32x1 1) (v222 : BitVec 32) : (Σ' (v266 : FVec F S32x1 .f32), BitVec 32) :=
  let v224 : Elt F .f32 := offOf O ⟨(k0_off4 i 0#32 11#32), (k0_off4_inb i 0 11)⟩
  let v232 : Elt F .f32 := offOf O ⟨(k0_off4 i 0#32 12#32), (k0_off4_inb i 0 12)⟩
  let v240 : Elt F .f32 := offOf O ⟨(k0_off4 i 0#32 13#32), (k0_off4_inb i 0 13)⟩
  let v248 : Elt F .f32 := offOf O ⟨(k0_off4 i 0#32 14#32), (k0_off4_inb i 0 14)⟩
  let v256 : Elt F .f32 := offOf O ⟨(k0_off4 i 0#32 15#32), (k0_off4_inb i 0 15)⟩
  let v264 : Elt F .f32 := offOf O ⟨(k0_off4 i 0#32 16#32), (k0_off4_inb i 0 16)⟩
  ⟨k0_pay749 v109 v218 v220 v224 v232 v240 v248 v256 v264, 17#32⟩

theorem part90_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v31 : BitVec 32) (v109 : IVec S32x1 32) (v218 : FVec F S32x1 .f32) (v220 : IVec S32x1 1) (v222 : BitVec 32) (c : Dev nD) (O : Vec F S1024 .f32) (G : sProp 𝕄) {R : (Σ' (v266 : FVec F S32x1 .f32), BitVec 32) → sProp 𝕄}
    (hk : iprop(owns (c : Thread nD τ) arg3 fullShare O ∗ G) ⊢ R (part90V i O v31 v109 v218 v220 v222)) :
    iprop(owns (c : Thread nD τ) arg3 fullShare O ∗ G) ⊢ wp frame (wpE (defs₀ (F := F)) Variants.none (c : Thread nD τ) none) Set.univ (k0_part90 (F := F) i arg3 harg3 arg4 harg4 arg5 harg5 arg6 harg6 arg7 harg7 arg8 harg8 arg9 harg9 arg10 harg10 arg11 harg11 arg12 harg12 arg13 harg13 arg14 harg14 arg15 harg15 v31 v109 v218 v220 v222) R := by
  rw [k0_part90_eq_skeleton]
  unfold k0_part90_skel
  refine smem_wp c arg3 O G _ _ ?_
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 91 computes. -/
def part91V (i : grid0.Coords) (O : Vec F S1024 .f32) (v31 : BitVec 32) (v109 : IVec S32x1 32) (v266 : FVec F S32x1 .f32) (c17_i32 : BitVec 32) : (Σ' (v306 : FVec F S32x1 .f32) (v308 : IVec S32x1 1) (v309 : BitVec 32), BitVec 32) :=
  let v272 : Elt F .f32 := offOf O ⟨(k0_off4 i 0#32 17#32), (k0_off4_inb i 0 17)⟩
  let v280 : Elt F .f32 := offOf O ⟨(k0_off4 i 0#32 18#32), (k0_off4_inb i 0 18)⟩
  let v288 : Elt F .f32 := offOf O ⟨(k0_off4 i 0#32 19#32), (k0_off4_inb i 0 19)⟩
  let v296 : Elt F .f32 := offOf O ⟨(k0_off4 i 0#32 20#32), (k0_off4_inb i 0 20)⟩
  let v304 : Elt F .f32 := offOf O ⟨(k0_off4 i 0#32 21#32), (k0_off4_inb i 0 21)⟩
  let v309 : BitVec 32 := Scalar.addi v31 22#32
  ⟨k0_pay750 v109 v266 c17_i32 v272 v280 v288 v296 v304, k0_pay751 v109, v309, 1#32⟩

theorem part91_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v31 : BitVec 32) (v109 : IVec S32x1 32) (v266 : FVec F S32x1 .f32) (c17_i32 : BitVec 32) (c : Dev nD) (O : Vec F S1024 .f32) (G : sProp 𝕄) {R : (Σ' (v306 : FVec F S32x1 .f32) (v308 : IVec S32x1 1) (v309 : BitVec 32), BitVec 32) → sProp 𝕄}
    (hk : iprop(owns (c : Thread nD τ) arg3 fullShare O ∗ G) ⊢ R (part91V i O v31 v109 v266 c17_i32)) :
    iprop(owns (c : Thread nD τ) arg3 fullShare O ∗ G) ⊢ wp frame (wpE (defs₀ (F := F)) Variants.none (c : Thread nD τ) none) Set.univ (k0_part91 (F := F) i arg3 harg3 arg4 harg4 arg5 harg5 arg6 harg6 arg7 harg7 arg8 harg8 arg9 harg9 arg10 harg10 arg11 harg11 arg12 harg12 arg13 harg13 arg14 harg14 arg15 harg15 v31 v109 v266 c17_i32) R := by
  rw [k0_part91_eq_skeleton]
  unfold k0_part91_skel
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 92 computes. -/
def part92V (i : grid0.Coords) (O : Vec F S1024 .f32) (v31 : BitVec 32) (v109 : IVec S32x1 32) (v306 : FVec F S32x1 .f32) (v308 : IVec S32x1 1) (v309 : BitVec 32) (c1_i32_129 : BitVec 32) : (FVec F S32x1 .f32) :=
  let v312 : Elt F .f32 := offOf O ⟨(k0_off4 i 0#32 22#32), (k0_off4_inb i 0 22)⟩
  let v320 : Elt F .f32 := offOf O ⟨(k0_off4 i 0#32 23#32), (k0_off4_inb i 0 23)⟩
  let v328 : Elt F .f32 := offOf O ⟨(k0_off4 i 0#32 24#32), (k0_off4_inb i 0 24)⟩
  let v336 : Elt F .f32 := offOf O ⟨(k0_off4 i 0#32 25#32), (k0_off4_inb i 0 25)⟩
  let v344 : Elt F .f32 := offOf O ⟨(k0_off4 i 0#32 26#32), (k0_off4_inb i 0 26)⟩
  let v352 : Elt F .f32 := offOf O ⟨(k0_off4 i 0#32 27#32), (k0_off4_inb i 0 27)⟩
  (k0_pay752 v109 v306 v308 v312 v320 v328 v336 v344 v352)

theorem part92_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v31 : BitVec 32) (v109 : IVec S32x1 32) (v306 : FVec F S32x1 .f32) (v308 : IVec S32x1 1) (v309 : BitVec 32) (c1_i32_129 : BitVec 32) (c : Dev nD) (O : Vec F S1024 .f32) (G : sProp 𝕄) {R : (FVec F S32x1 .f32) → sProp 𝕄}
    (hk : iprop(owns (c : Thread nD τ) arg3 fullShare O ∗ G) ⊢ R (part92V i O v31 v109 v306 v308 v309 c1_i32_129)) :
    iprop(owns (c : Thread nD τ) arg3 fullShare O ∗ G) ⊢ wp frame (wpE (defs₀ (F := F)) Variants.none (c : Thread nD τ) none) Set.univ (k0_part92 (F := F) i arg3 harg3 arg4 harg4 arg5 harg5 arg6 harg6 arg7 harg7 arg8 harg8 arg9 harg9 arg10 harg10 arg11 harg11 arg12 harg12 arg13 harg13 arg14 harg14 arg15 harg15 v31 v109 v306 v308 v309 c1_i32_129) R := by
  rw [k0_part92_eq_skeleton]
  unfold k0_part92_skel
  refine smem_wp c arg3 O G _ _ ?_
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 93 computes. -/
def part93V (i : grid0.Coords) (O : Vec F S1024 .f32) (arg2 : BitVec 32) (v31 : BitVec 32) (v40 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v354 : FVec F S32x1 .f32) : (Σ' (v396 : BitVec 32), FVec F S32 .f32) :=
  let v360 : Elt F .f32 := offOf O ⟨(k0_off4 i 0#32 28#32), (k0_off4_inb i 0 28)⟩
  let v368 : Elt F .f32 := offOf O ⟨(k0_off4 i 0#32 29#32), (k0_off4_inb i 0 29)⟩
  let v376 : Elt F .f32 := offOf O ⟨(k0_off4 i 0#32 30#32), (k0_off4_inb i 0 30)⟩
  let v396 : BitVec 32 := extractAt ![0, 0, 0] (k0_pay753 arg2 v40 v109 v123 v129 v354 v360 v368 v376) inpos_S1x1x1_p0_0_0
  ⟨v396, k0_pay754 v107 v108 v110⟩

theorem part93_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v31 : BitVec 32) (v40 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v354 : FVec F S32x1 .f32) (c : Dev nD) (O : Vec F S1024 .f32) (G : sProp 𝕄) {R : (Σ' (v396 : BitVec 32), FVec F S32 .f32) → sProp 𝕄}
    (hk : iprop(owns (c : Thread nD τ) arg3 fullShare O ∗ G) ⊢ R (part93V i O arg2 v31 v40 v107 v108 v109 v110 v123 v129 v354)) :
    iprop(owns (c : Thread nD τ) arg3 fullShare O ∗ G) ⊢ wp frame (wpE (defs₀ (F := F)) Variants.none (c : Thread nD τ) none) Set.univ (k0_part93 (F := F) i arg3 harg3 arg4 harg4 arg5 harg5 arg6 harg6 arg7 harg7 arg8 harg8 arg9 harg9 arg10 harg10 arg11 harg11 arg12 harg12 arg13 harg13 arg14 harg14 arg15 harg15 arg2 v31 v40 v107 v108 v109 v110 v123 v129 v354) R := by
  rw [k0_part93_eq_skeleton]
  unfold k0_part93_skel
  refine smem_wp c arg3 O G _ _ ?_
  refine smem_wp c arg3 O G _ _ ?_
  refine smem_wp c arg3 O G _ _ ?_
  exact hk.trans fupd_intro

/-- What part 94 computes. -/
def part94V (i : grid0.Coords) (O : Vec F S1024 .f32) (arg2 : BitVec 32) (v36 : BitVec 32) (v109 : IVec S32x1 32) (v400 : FVec F S32 .f32) : (Σ' (v409 : FVec F S1x1 .f32) (v415 : FVec F S1x1 .f32) (v440 : FVec F S32x1 .f32) (v442 : IVec S32x1 1), BitVec 32) :=
  let v422 : Elt F .f32 := offOf O ⟨(k0_off4 i 1#32 0#32), (k0_off4_inb i 1 0)⟩
  let v430 : Elt F .f32 := offOf O ⟨(k0_off4 i 1#32 1#32), (k0_off4_inb i 1 1)⟩
  let v438 : Elt F .f32 := offOf O ⟨(k0_off4 i 1#32 2#32), (k0_off4_inb i 1 2)⟩
  let v443 : BitVec 32 := Scalar.addi v36 3#32
  ⟨k0_pay756 arg2 v109 v400, k0_pay757 arg2 v109 v400, k0_pay758 v109 v422 v430 v438, k0_pay759 v109, v443⟩

theorem part94_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v36 : BitVec 32) (v109 : IVec S32x1 32) (v400 : FVec F S32 .f32) (c : Dev nD) (O : Vec F S1024 .f32) (G : sProp 𝕄) {R : (Σ' (v409 : FVec F S1x1 .f32) (v415 : FVec F S1x1 .f32) (v440 : FVec F S32x1 .f32) (v442 : IVec S32x1 1), BitVec 32) → sProp 𝕄}
    (hk : iprop(owns (c : Thread nD τ) arg3 fullShare O ∗ G) ⊢ R (part94V i O arg2 v36 v109 v400)) :
    iprop(owns (c : Thread nD τ) arg3 fullShare O ∗ G) ⊢ wp frame (wpE (defs₀ (F := F)) Variants.none (c : Thread nD τ) none) Set.univ (k0_part94 (F := F) i arg3 harg3 arg4 harg4 arg5 harg5 arg6 harg6 arg7 harg7 arg8 harg8 arg9 harg9 arg10 harg10 arg11 harg11 arg12 harg12 arg13 harg13 arg14 harg14 arg15 harg15 arg2 v36 v109 v400) R := by
  rw [k0_part94_eq_skeleton]
  unfold k0_part94_skel
  refine smem_wp c arg3 O G _ _ ?_
  refine smem_wp c arg3 O G _ _ ?_
  refine smem_wp c arg3 O G _ _ ?_
  exact hk.trans fupd_intro

/-- What part 95 computes. -/
def part95V (i : grid0.Coords) (O : Vec F S1024 .f32) (v36 : BitVec 32) (v109 : IVec S32x1 32) (v440 : FVec F S32x1 .f32) (v442 : IVec S32x1 1) (v443 : BitVec 32) : (Σ' (v480 : FVec F S32x1 .f32) (v482 : IVec S32x1 1), FVec F S32x1 .f32) :=
  let v446 : Elt F .f32 := offOf O ⟨(k0_off4 i 1#32 3#32), (k0_off4_inb i 1 3)⟩
  let v454 : Elt F .f32 := offOf O ⟨(k0_off4 i 1#32 4#32), (k0_off4_inb i 1 4)⟩
  let v462 : Elt F .f32 := offOf O ⟨(k0_off4 i 1#32 5#32), (k0_off4_inb i 1 5)⟩
  let v470 : Elt F .f32 := offOf O ⟨(k0_off4 i 1#32 6#32), (k0_off4_inb i 1 6)⟩
  let v478 : Elt F .f32 := offOf O ⟨(k0_off4 i 1#32 7#32), (k0_off4_inb i 1 7)⟩
  let v486 : Elt F .f32 := offOf O ⟨(k0_off4 i 1#32 8#32), (k0_off4_inb i 1 8)⟩
  ⟨k0_pay760 v109 v440 v442 v446 v454 v462 v470 v478, k0_pay761 v109, k0_pay762 v486⟩

theorem part95_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v36 : BitVec 32) (v109 : IVec S32x1 32) (v440 : FVec F S32x1 .f32) (v442 : IVec S32x1 1) (v443 : BitVec 32) (c : Dev nD) (O : Vec F S1024 .f32) (G : sProp 𝕄) {R : (Σ' (v480 : FVec F S32x1 .f32) (v482 : IVec S32x1 1), FVec F S32x1 .f32) → sProp 𝕄}
    (hk : iprop(owns (c : Thread nD τ) arg3 fullShare O ∗ G) ⊢ R (part95V i O v36 v109 v440 v442 v443)) :
    iprop(owns (c : Thread nD τ) arg3 fullShare O ∗ G) ⊢ wp frame (wpE (defs₀ (F := F)) Variants.none (c : Thread nD τ) none) Set.univ (k0_part95 (F := F) i arg3 harg3 arg4 harg4 arg5 harg5 arg6 harg6 arg7 harg7 arg8 harg8 arg9 harg9 arg10 harg10 arg11 harg11 arg12 harg12 arg13 harg13 arg14 harg14 arg15 harg15 v36 v109 v440 v442 v443) R := by
  rw [k0_part95_eq_skeleton]
  unfold k0_part95_skel
  refine smem_wp c arg3 O G _ _ ?_
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 96 computes. -/
def part96V (i : grid0.Coords) (O : Vec F S1024 .f32) (v36 : BitVec 32) (v109 : IVec S32x1 32) (v480 : FVec F S32x1 .f32) (v482 : IVec S32x1 1) (v487 : FVec F S32x1 .f32) : (Σ' (v528 : FVec F S32x1 .f32) (v530 : IVec S32x1 1), BitVec 32) :=
  let v494 : Elt F .f32 := offOf O ⟨(k0_off4 i 1#32 9#32), (k0_off4_inb i 1 9)⟩
  let v502 : Elt F .f32 := offOf O ⟨(k0_off4 i 1#32 10#32), (k0_off4_inb i 1 10)⟩
  let v510 : Elt F .f32 := offOf O ⟨(k0_off4 i 1#32 11#32), (k0_off4_inb i 1 11)⟩
  let v518 : Elt F .f32 := offOf O ⟨(k0_off4 i 1#32 12#32), (k0_off4_inb i 1 12)⟩
  let v526 : Elt F .f32 := offOf O ⟨(k0_off4 i 1#32 13#32), (k0_off4_inb i 1 13)⟩
  ⟨k0_pay763 v109 v480 v482 v487 v494 v502 v510 v518 v526, k0_pay764 v109, 14#32⟩

theorem part96_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v36 : BitVec 32) (v109 : IVec S32x1 32) (v480 : FVec F S32x1 .f32) (v482 : IVec S32x1 1) (v487 : FVec F S32x1 .f32) (c : Dev nD) (O : Vec F S1024 .f32) (G : sProp 𝕄) {R : (Σ' (v528 : FVec F S32x1 .f32) (v530 : IVec S32x1 1), BitVec 32) → sProp 𝕄}
    (hk : iprop(owns (c : Thread nD τ) arg3 fullShare O ∗ G) ⊢ R (part96V i O v36 v109 v480 v482 v487)) :
    iprop(owns (c : Thread nD τ) arg3 fullShare O ∗ G) ⊢ wp frame (wpE (defs₀ (F := F)) Variants.none (c : Thread nD τ) none) Set.univ (k0_part96 (F := F) i arg3 harg3 arg4 harg4 arg5 harg5 arg6 harg6 arg7 harg7 arg8 harg8 arg9 harg9 arg10 harg10 arg11 harg11 arg12 harg12 arg13 harg13 arg14 harg14 arg15 harg15 v36 v109 v480 v482 v487) R := by
  rw [k0_part96_eq_skeleton]
  unfold k0_part96_skel
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 97 computes. -/
def part97V (i : grid0.Coords) (O : Vec F S1024 .f32) (v36 : BitVec 32) (v109 : IVec S32x1 32) (v528 : FVec F S32x1 .f32) (v530 : IVec S32x1 1) (c14_i32_200 : BitVec 32) : (Σ' (v568 : FVec F S32x1 .f32) (v570 : IVec S32x1 1), Elt F .f32) :=
  let v534 : Elt F .f32 := offOf O ⟨(k0_off4 i 1#32 14#32), (k0_off4_inb i 1 14)⟩
  let v542 : Elt F .f32 := offOf O ⟨(k0_off4 i 1#32 15#32), (k0_off4_inb i 1 15)⟩
  let v550 : Elt F .f32 := offOf O ⟨(k0_off4 i 1#32 16#32), (k0_off4_inb i 1 16)⟩
  let v558 : Elt F .f32 := offOf O ⟨(k0_off4 i 1#32 17#32), (k0_off4_inb i 1 17)⟩
  let v566 : Elt F .f32 := offOf O ⟨(k0_off4 i 1#32 18#32), (k0_off4_inb i 1 18)⟩
  let v574 : Elt F .f32 := offOf O ⟨(k0_off4 i 1#32 19#32), (k0_off4_inb i 1 19)⟩
  ⟨k0_pay765 v109 v528 v530 v534 v542 v550 v558 v566, k0_pay766 v109, v574⟩

theorem part97_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v36 : BitVec 32) (v109 : IVec S32x1 32) (v528 : FVec F S32x1 .f32) (v530 : IVec S32x1 1) (c14_i32_200 : BitVec 32) (c : Dev nD) (O : Vec F S1024 .f32) (G : sProp 𝕄) {R : (Σ' (v568 : FVec F S32x1 .f32) (v570 : IVec S32x1 1), Elt F .f32) → sProp 𝕄}
    (hk : iprop(owns (c : Thread nD τ) arg3 fullShare O ∗ G) ⊢ R (part97V i O v36 v109 v528 v530 c14_i32_200)) :
    iprop(owns (c : Thread nD τ) arg3 fullShare O ∗ G) ⊢ wp frame (wpE (defs₀ (F := F)) Variants.none (c : Thread nD τ) none) Set.univ (k0_part97 (F := F) i arg3 harg3 arg4 harg4 arg5 harg5 arg6 harg6 arg7 harg7 arg8 harg8 arg9 harg9 arg10 harg10 arg11 harg11 arg12 harg12 arg13 harg13 arg14 harg14 arg15 harg15 v36 v109 v528 v530 c14_i32_200) R := by
  rw [k0_part97_eq_skeleton]
  unfold k0_part97_skel
  refine smem_wp c arg3 O G _ _ ?_
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 98 computes. -/
def part98V (i : grid0.Coords) (O : Vec F S1024 .f32) (v36 : BitVec 32) (v109 : IVec S32x1 32) (v568 : FVec F S32x1 .f32) (v570 : IVec S32x1 1) (v574 : Elt F .f32) : (Σ' (v616 : FVec F S32x1 .f32), IVec S32x1 1) :=
  let v582 : Elt F .f32 := offOf O ⟨(k0_off4 i 1#32 20#32), (k0_off4_inb i 1 20)⟩
  let v590 : Elt F .f32 := offOf O ⟨(k0_off4 i 1#32 21#32), (k0_off4_inb i 1 21)⟩
  let v598 : Elt F .f32 := offOf O ⟨(k0_off4 i 1#32 22#32), (k0_off4_inb i 1 22)⟩
  let v606 : Elt F .f32 := offOf O ⟨(k0_off4 i 1#32 23#32), (k0_off4_inb i 1 23)⟩
  let v614 : Elt F .f32 := offOf O ⟨(k0_off4 i 1#32 24#32), (k0_off4_inb i 1 24)⟩
  ⟨k0_pay767 v109 v568 v570 v574 v582 v590 v598 v606 v614, k0_pay768 v109⟩

theorem part98_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v36 : BitVec 32) (v109 : IVec S32x1 32) (v568 : FVec F S32x1 .f32) (v570 : IVec S32x1 1) (v574 : Elt F .f32) (c : Dev nD) (O : Vec F S1024 .f32) (G : sProp 𝕄) {R : (Σ' (v616 : FVec F S32x1 .f32), IVec S32x1 1) → sProp 𝕄}
    (hk : iprop(owns (c : Thread nD τ) arg3 fullShare O ∗ G) ⊢ R (part98V i O v36 v109 v568 v570 v574)) :
    iprop(owns (c : Thread nD τ) arg3 fullShare O ∗ G) ⊢ wp frame (wpE (defs₀ (F := F)) Variants.none (c : Thread nD τ) none) Set.univ (k0_part98 (F := F) i arg3 harg3 arg4 harg4 arg5 harg5 arg6 harg6 arg7 harg7 arg8 harg8 arg9 harg9 arg10 harg10 arg11 harg11 arg12 harg12 arg13 harg13 arg14 harg14 arg15 harg15 v36 v109 v568 v570 v574) R := by
  rw [k0_part98_eq_skeleton]
  unfold k0_part98_skel
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 99 computes. -/
def part99V (i : grid0.Coords) (O : Vec F S1024 .f32) (v36 : BitVec 32) (v109 : IVec S32x1 32) (v616 : FVec F S32x1 .f32) (v618 : IVec S32x1 1) : (Σ' (v656 : FVec F S32x1 .f32), IVec S32x1 1) :=
  let v622 : Elt F .f32 := offOf O ⟨(k0_off4 i 1#32 25#32), (k0_off4_inb i 1 25)⟩
  let v630 : Elt F .f32 := offOf O ⟨(k0_off4 i 1#32 26#32), (k0_off4_inb i 1 26)⟩
  let v638 : Elt F .f32 := offOf O ⟨(k0_off4 i 1#32 27#32), (k0_off4_inb i 1 27)⟩
  let v646 : Elt F .f32 := offOf O ⟨(k0_off4 i 1#32 28#32), (k0_off4_inb i 1 28)⟩
  let v654 : Elt F .f32 := offOf O ⟨(k0_off4 i 1#32 29#32), (k0_off4_inb i 1 29)⟩
  ⟨k0_pay769 v109 v616 v618 v622 v630 v638 v646 v654, k0_pay770 v109⟩

theorem part99_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v36 : BitVec 32) (v109 : IVec S32x1 32) (v616 : FVec F S32x1 .f32) (v618 : IVec S32x1 1) (c : Dev nD) (O : Vec F S1024 .f32) (G : sProp 𝕄) {R : (Σ' (v656 : FVec F S32x1 .f32), IVec S32x1 1) → sProp 𝕄}
    (hk : iprop(owns (c : Thread nD τ) arg3 fullShare O ∗ G) ⊢ R (part99V i O v36 v109 v616 v618)) :
    iprop(owns (c : Thread nD τ) arg3 fullShare O ∗ G) ⊢ wp frame (wpE (defs₀ (F := F)) Variants.none (c : Thread nD τ) none) Set.univ (k0_part99 (F := F) i arg3 harg3 arg4 harg4 arg5 harg5 arg6 harg6 arg7 harg7 arg8 harg8 arg9 harg9 arg10 harg10 arg11 harg11 arg12 harg12 arg13 harg13 arg14 harg14 arg15 harg15 v36 v109 v616 v618) R := by
  rw [k0_part99_eq_skeleton]
  unfold k0_part99_skel
  refine smem_wp c arg3 O G _ _ ?_
  refine smem_wp c arg3 O G _ _ ?_
  refine smem_wp c arg3 O G _ _ ?_
  refine smem_wp c arg3 O G _ _ ?_
  refine smem_wp c arg3 O G _ _ ?_
  exact hk.trans fupd_intro

/-- What part 100 computes. -/
def part100V (i : grid0.Coords) (O : Vec F S1024 .f32) (arg2 : BitVec 32) (v31 : BitVec 32) (v40 : FVec F S1x512 .f32) (v44 : FVec F S1x512 .f32) (v109 : IVec S32x1 32) (v396 : BitVec 32) (v409 : FVec F S1x1 .f32) (v415 : FVec F S1x1 .f32) (v656 : FVec F S32x1 .f32) (v658 : IVec S32x1 1) : BitVec 32 :=
  let v662 : Elt F .f32 := offOf O ⟨(k0_off4 i 1#32 30#32), (k0_off4_inb i 1 30)⟩
  let v682 : BitVec 32 := extractAt ![0, 0, 0] (k0_pay771 arg2 v44 v109 v409 v415 v656 v658 v662) inpos_S1x1x1_p0_0_0
  v682

/-- The last skip count, before the check. -/
def part100a (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v31 : BitVec 32) (v40 : FVec F S1x512 .f32) (v44 : FVec F S1x512 .f32) (v109 : IVec S32x1 32) (v396 : BitVec 32) (v409 : FVec F S1x1 .f32) (v415 : FVec F S1x1 .f32) (v656 : FVec F S32x1 .f32) (v658 : IVec S32x1 1) : Prog (TpuEff nD τ sig (Elt F) Λ₀ .tc) (BitVec 32) := do
  let v662 : Elt F .f32 ← smemLoad arg3 (Rect.unit (s := S1024) (k0_off4 i 1#32 30#32) S1.size (k0_off4_inb i 1 30)) numel1_S1 rfl
  let v682 : BitVec 32 := extractAt ![0, 0, 0] (k0_pay771 arg2 v44 v109 v409 v415 v656 v658 v662) inpos_S1x1x1_p0_0_0
  pure v682

theorem part100_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v31 : BitVec 32) (v40 : FVec F S1x512 .f32) (v44 : FVec F S1x512 .f32) (v109 : IVec S32x1 32) (v396 : BitVec 32) (v409 : FVec F S1x1 .f32) (v415 : FVec F S1x1 .f32) (v656 : FVec F S32x1 .f32) (v658 : IVec S32x1 1) (c : Dev nD) (O : Vec F S1024 .f32) (G : sProp 𝕄) {R : BitVec 32 → sProp 𝕄}
    (hk : iprop(owns (c : Thread nD τ) arg3 fullShare O ∗ G) ⊢ R (part100V i O arg2 v31 v40 v44 v109 v396 v409 v415 v656 v658)) :
    iprop(owns (c : Thread nD τ) arg3 fullShare O ∗ G) ⊢ wp frame (wpE (defs₀ (F := F)) Variants.none (c : Thread nD τ) none) Set.univ (part100a (F := F) i arg3 harg3 arg4 harg4 arg5 harg5 arg6 harg6 arg7 harg7 arg8 harg8 arg9 harg9 arg10 harg10 arg11 harg11 arg12 harg12 arg13 harg13 arg14 harg14 arg15 harg15 arg2 v31 v40 v44 v109 v396 v409 v415 v656 v658) R := by
  unfold part100a
  refine smem_wp c arg3 O G _ _ ?_
  exact hk.trans fupd_intro

/-- The two heads' skip counts. -/
def cntV (i : grid0.Coords) (O : Vec F S1024 .f32) (arg2 : BitVec 32) (v31 : BitVec 32) (v36 : BitVec 32) (v40 : FVec F S1x512 .f32) (v44 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32) (v132 : IVec S32x1 1) : BitVec 32 ×' BitVec 32 :=
  let ⟨v178, v179⟩ := part88V i O v31 v109 v130 v132
  let ⟨v218, v220, v222⟩ := part89V i O v31 v109 v178 v179
  let ⟨v266, c17_i32⟩ := part90V i O v31 v109 v218 v220 v222
  let ⟨v306, v308, v309, c1_i32_129⟩ := part91V i O v31 v109 v266 c17_i32
  let v354 := part92V i O v31 v109 v306 v308 v309 c1_i32_129
  let ⟨v396, v400⟩ := part93V i O arg2 v31 v40 v107 v108 v109 v110 v123 v129 v354
  let ⟨v409, v415, v440, v442, v443⟩ := part94V i O arg2 v36 v109 v400
  let ⟨v480, v482, v487⟩ := part95V i O v36 v109 v440 v442 v443
  let ⟨v528, v530, c14_i32_200⟩ := part96V i O v36 v109 v480 v482 v487
  let ⟨v568, v570, v574⟩ := part97V i O v36 v109 v528 v530 c14_i32_200
  let ⟨v616, v618⟩ := part98V i O v36 v109 v568 v570 v574
  let ⟨v656, v658⟩ := part99V i O v36 v109 v616 v618
  let v682 := part100V i O arg2 v31 v40 v44 v109 v396 v409 v415 v656 v658
  ⟨v396, v682⟩

/-- The program of the two counts. -/
def cntP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v31 : BitVec 32) (v36 : BitVec 32) (v40 : FVec F S1x512 .f32) (v44 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32) (v132 : IVec S32x1 1) : Prog (TpuEff nD τ sig (Elt F) Λ₀ .tc) (BitVec 32 ×' BitVec 32) := do
  let ⟨v178, v179⟩ : Σ' (v178 : FVec F S32x1 .f32), IVec S32x1 32 ← k0_part88 i arg3 harg3 arg4 harg4 arg5 harg5 arg6 harg6 arg7 harg7 arg8 harg8 arg9 harg9 arg10 harg10 arg11 harg11 arg12 harg12 arg13 harg13 arg14 harg14 arg15 harg15 v31 v109 v130 v132
  let ⟨v218, v220, v222⟩ : Σ' (v218 : FVec F S32x1 .f32) (v220 : IVec S32x1 1), BitVec 32 ← k0_part89 i arg3 harg3 arg4 harg4 arg5 harg5 arg6 harg6 arg7 harg7 arg8 harg8 arg9 harg9 arg10 harg10 arg11 harg11 arg12 harg12 arg13 harg13 arg14 harg14 arg15 harg15 v31 v109 v178 v179
  let ⟨v266, c17_i32⟩ : Σ' (v266 : FVec F S32x1 .f32), BitVec 32 ← k0_part90 i arg3 harg3 arg4 harg4 arg5 harg5 arg6 harg6 arg7 harg7 arg8 harg8 arg9 harg9 arg10 harg10 arg11 harg11 arg12 harg12 arg13 harg13 arg14 harg14 arg15 harg15 v31 v109 v218 v220 v222
  let ⟨v306, v308, v309, c1_i32_129⟩ : Σ' (v306 : FVec F S32x1 .f32) (v308 : IVec S32x1 1) (v309 : BitVec 32), BitVec 32 ← k0_part91 i arg3 harg3 arg4 harg4 arg5 harg5 arg6 harg6 arg7 harg7 arg8 harg8 arg9 harg9 arg10 harg10 arg11 harg11 arg12 harg12 arg13 harg13 arg14 harg14 arg15 harg15 v31 v109 v266 c17_i32
  let v354 : FVec F S32x1 .f32 ← k0_part92 i arg3 harg3 arg4 harg4 arg5 harg5 arg6 harg6 arg7 harg7 arg8 harg8 arg9 harg9 arg10 harg10 arg11 harg11 arg12 harg12 arg13 harg13 arg14 harg14 arg15 harg15 v31 v109 v306 v308 v309 c1_i32_129
  let ⟨v396, v400⟩ : Σ' (v396 : BitVec 32), FVec F S32 .f32 ← k0_part93 i arg3 harg3 arg4 harg4 arg5 harg5 arg6 harg6 arg7 harg7 arg8 harg8 arg9 harg9 arg10 harg10 arg11 harg11 arg12 harg12 arg13 harg13 arg14 harg14 arg15 harg15 arg2 v31 v40 v107 v108 v109 v110 v123 v129 v354
  let ⟨v409, v415, v440, v442, v443⟩ : Σ' (v409 : FVec F S1x1 .f32) (v415 : FVec F S1x1 .f32) (v440 : FVec F S32x1 .f32) (v442 : IVec S32x1 1), BitVec 32 ← k0_part94 i arg3 harg3 arg4 harg4 arg5 harg5 arg6 harg6 arg7 harg7 arg8 harg8 arg9 harg9 arg10 harg10 arg11 harg11 arg12 harg12 arg13 harg13 arg14 harg14 arg15 harg15 arg2 v36 v109 v400
  let ⟨v480, v482, v487⟩ : Σ' (v480 : FVec F S32x1 .f32) (v482 : IVec S32x1 1), FVec F S32x1 .f32 ← k0_part95 i arg3 harg3 arg4 harg4 arg5 harg5 arg6 harg6 arg7 harg7 arg8 harg8 arg9 harg9 arg10 harg10 arg11 harg11 arg12 harg12 arg13 harg13 arg14 harg14 arg15 harg15 v36 v109 v440 v442 v443
  let ⟨v528, v530, c14_i32_200⟩ : Σ' (v528 : FVec F S32x1 .f32) (v530 : IVec S32x1 1), BitVec 32 ← k0_part96 i arg3 harg3 arg4 harg4 arg5 harg5 arg6 harg6 arg7 harg7 arg8 harg8 arg9 harg9 arg10 harg10 arg11 harg11 arg12 harg12 arg13 harg13 arg14 harg14 arg15 harg15 v36 v109 v480 v482 v487
  let ⟨v568, v570, v574⟩ : Σ' (v568 : FVec F S32x1 .f32) (v570 : IVec S32x1 1), Elt F .f32 ← k0_part97 i arg3 harg3 arg4 harg4 arg5 harg5 arg6 harg6 arg7 harg7 arg8 harg8 arg9 harg9 arg10 harg10 arg11 harg11 arg12 harg12 arg13 harg13 arg14 harg14 arg15 harg15 v36 v109 v528 v530 c14_i32_200
  let ⟨v616, v618⟩ : Σ' (v616 : FVec F S32x1 .f32), IVec S32x1 1 ← k0_part98 i arg3 harg3 arg4 harg4 arg5 harg5 arg6 harg6 arg7 harg7 arg8 harg8 arg9 harg9 arg10 harg10 arg11 harg11 arg12 harg12 arg13 harg13 arg14 harg14 arg15 harg15 v36 v109 v568 v570 v574
  let ⟨v656, v658⟩ : Σ' (v656 : FVec F S32x1 .f32), IVec S32x1 1 ← k0_part99 i arg3 harg3 arg4 harg4 arg5 harg5 arg6 harg6 arg7 harg7 arg8 harg8 arg9 harg9 arg10 harg10 arg11 harg11 arg12 harg12 arg13 harg13 arg14 harg14 arg15 harg15 v36 v109 v616 v618
  let v682 : BitVec 32 ← part100a i arg3 harg3 arg4 harg4 arg5 harg5 arg6 harg6 arg7 harg7 arg8 harg8 arg9 harg9 arg10 harg10 arg11 harg11 arg12 harg12 arg13 harg13 arg14 harg14 arg15 harg15 arg2 v31 v40 v44 v109 v396 v409 v415 v656 v658
  pure ⟨v396, v682⟩

set_option maxRecDepth 200000 in
theorem cnt_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v31 : BitVec 32) (v36 : BitVec 32) (v40 : FVec F S1x512 .f32) (v44 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32) (v132 : IVec S32x1 1) (c : Dev nD) (O : Vec F S1024 .f32) (G : sProp 𝕄) {R : BitVec 32 ×' BitVec 32 → sProp 𝕄}
    (hk : iprop(owns (c : Thread nD τ) arg3 fullShare O ∗ G) ⊢ R (cntV i O arg2 v31 v36 v40 v44 v107 v108 v109 v110 v123 v129 v130 v132)) :
    iprop(owns (c : Thread nD τ) arg3 fullShare O ∗ G) ⊢ wp frame (wpE (defs₀ (F := F)) Variants.none (c : Thread nD τ) none) Set.univ (cntP (F := F) i arg3 harg3 arg4 harg4 arg5 harg5 arg6 harg6 arg7 harg7 arg8 harg8 arg9 harg9 arg10 harg10 arg11 harg11 arg12 harg12 arg13 harg13 arg14 harg14 arg15 harg15 arg2 v31 v36 v40 v44 v107 v108 v109 v110 v123 v129 v130 v132) R := by
  unfold cntP
  rw [wp_bind]
  refine part88_wp i arg3 harg3 arg4 harg4 arg5 harg5 arg6 harg6 arg7 harg7 arg8 harg8 arg9 harg9 arg10 harg10 arg11 harg11 arg12 harg12 arg13 harg13 arg14 harg14 arg15 harg15 _ _ _ _ c O G ?_
  rw [wp_bind]
  refine part89_wp i arg3 harg3 arg4 harg4 arg5 harg5 arg6 harg6 arg7 harg7 arg8 harg8 arg9 harg9 arg10 harg10 arg11 harg11 arg12 harg12 arg13 harg13 arg14 harg14 arg15 harg15 _ _ _ _ c O G ?_
  rw [wp_bind]
  refine part90_wp i arg3 harg3 arg4 harg4 arg5 harg5 arg6 harg6 arg7 harg7 arg8 harg8 arg9 harg9 arg10 harg10 arg11 harg11 arg12 harg12 arg13 harg13 arg14 harg14 arg15 harg15 _ _ _ _ _ c O G ?_
  rw [wp_bind]
  refine part91_wp i arg3 harg3 arg4 harg4 arg5 harg5 arg6 harg6 arg7 harg7 arg8 harg8 arg9 harg9 arg10 harg10 arg11 harg11 arg12 harg12 arg13 harg13 arg14 harg14 arg15 harg15 _ _ _ _ c O G ?_
  rw [wp_bind]
  refine part92_wp i arg3 harg3 arg4 harg4 arg5 harg5 arg6 harg6 arg7 harg7 arg8 harg8 arg9 harg9 arg10 harg10 arg11 harg11 arg12 harg12 arg13 harg13 arg14 harg14 arg15 harg15 _ _ _ _ _ _ c O G ?_
  rw [wp_bind]
  refine part93_wp i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ c O G ?_
  rw [wp_bind]
  refine part94_wp i arg3 harg3 arg4 harg4 arg5 harg5 arg6 harg6 arg7 harg7 arg8 harg8 arg9 harg9 arg10 harg10 arg11 harg11 arg12 harg12 arg13 harg13 arg14 harg14 arg15 harg15 _ _ _ _ c O G ?_
  rw [wp_bind]
  refine part95_wp i arg3 harg3 arg4 harg4 arg5 harg5 arg6 harg6 arg7 harg7 arg8 harg8 arg9 harg9 arg10 harg10 arg11 harg11 arg12 harg12 arg13 harg13 arg14 harg14 arg15 harg15 _ _ _ _ _ c O G ?_
  rw [wp_bind]
  refine part96_wp i arg3 harg3 arg4 harg4 arg5 harg5 arg6 harg6 arg7 harg7 arg8 harg8 arg9 harg9 arg10 harg10 arg11 harg11 arg12 harg12 arg13 harg13 arg14 harg14 arg15 harg15 _ _ _ _ _ c O G ?_
  rw [wp_bind]
  refine part97_wp i arg3 harg3 arg4 harg4 arg5 harg5 arg6 harg6 arg7 harg7 arg8 harg8 arg9 harg9 arg10 harg10 arg11 harg11 arg12 harg12 arg13 harg13 arg14 harg14 arg15 harg15 _ _ _ _ _ c O G ?_
  rw [wp_bind]
  refine part98_wp i arg3 harg3 arg4 harg4 arg5 harg5 arg6 harg6 arg7 harg7 arg8 harg8 arg9 harg9 arg10 harg10 arg11 harg11 arg12 harg12 arg13 harg13 arg14 harg14 arg15 harg15 _ _ _ _ _ c O G ?_
  rw [wp_bind]
  refine part99_wp i arg3 harg3 arg4 harg4 arg5 harg5 arg6 harg6 arg7 harg7 arg8 harg8 arg9 harg9 arg10 harg10 arg11 harg11 arg12 harg12 arg13 harg13 arg14 harg14 arg15 harg15 _ _ _ _ c O G ?_
  rw [wp_bind]
  refine part100_wp i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ c O G ?_
  exact hk.trans fupd_intro

/-! ## The diagonal block -/

/-- The diagonal block's softmax and product, and the counts of the loops. -/
def diagP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v26 : FVec F S16x512 .bf16) (v31 : BitVec 32) (v36 : BitVec 32) (v40 : FVec F S1x512 .f32) (v44 : FVec F S1x512 .f32) (v396 : BitVec 32) (v682 : BitVec 32) : Prog (TpuEff nD τ sig (Elt F) Λ₀ .tc) (Σ' (v683 : BitVec 32) (v765 : BitVec 32) (v766 : BitVec 32) (v768 : BitVec 32) (v769 : BitVec 32) (v783 : BitVec 1), BitVec 32) := do
  let v683 : BitVec 32 := Scalar.minsi v396 v682
  let v684 : Vec F S1x512x512 .f32 ← Prog.lift (.load arg12 (Rect.unit (s := S2x512x512) ![0, 0, 0] S1x512x512.size inb_S2x512x512_S1x512x512_0_0_0).toLoadRect (View.loadsAt_vmem h_S1x512x512))
  let v695 : Elt F .f32 ← smemLoad arg3 (Rect.unit (s := S1024) (k0_off1 i 0#32) S1.size (k0_off1_inb i 0)) numel1_S1 rfl
  let v698 : Vec F S1x1x512 .f32 ← Prog.lift (.load arg10 (Rect.unit (s := S2x1x512) ![0, 0, 0] S1x1x512.size inb_S2x1x512_S1x1x512_0_0_0).toLoadRect (View.loadsAt_vmem h_S1x1x512))
  let v701 := k0_pay775 v40 v684 v695 v698
  let v703 := k0_pay776 v40 v684 v695 v698
  let v708 := k0_pay777 v40 v684 v695 v698
  let ⟨v731, v736, v742, v744, v746, v747⟩ : Σ' (v731 : FVec F S1x512 .f32) (v736 : FVec F S512x512 .bf16) (v742 : FVec F S128x512 .bf16) (v744 : FVec F S80x512 .bf16) (v746 : FVec F S80x512 .f32), FVec F S80x512 .f32 ← k0_part101 i arg3 harg3 arg4 harg4 arg5 harg5 arg6 harg6 arg7 harg7 arg8 harg8 arg9 harg9 arg10 harg10 arg11 harg11 arg12 harg12 arg13 harg13 arg14 harg14 arg15 harg15 arg2 v26 v36 v44 v701 v703
  let ⟨v765, v766, v768, v769, v783, v784⟩ : Σ' (v765 : BitVec 32) (v766 : BitVec 32) (v768 : BitVec 32) (v769 : BitVec 32) (v783 : BitVec 1), BitVec 32 ← k0_part102 i arg3 harg3 arg4 harg4 arg5 harg5 arg6 harg6 arg7 harg7 arg8 harg8 arg9 harg9 arg10 harg10 arg11 harg11 arg12 harg12 arg13 harg13 arg14 harg14 arg15 harg15 arg2 v26 v683 v708 v731 v736 v742 v744 v746 v747
  pure ⟨v683, v765, v766, v768, v769, v783, v784⟩

/-- Up to the skip counts: the queries, the cleared accumulators, two blocks' scores. -/
def initP (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) : Prog (TpuEff nD τ sig (Elt F) Λ₀ .tc) (Σ' (arg2 : BitVec 32) (v14 : FVec F S256x512 .bf16) (v25 : FVec F S256x512 .bf16) (v26 : FVec F S16x512 .bf16) (v31 : BitVec 32) (v36 : BitVec 32) (v40 : FVec F S1x512 .f32) (v44 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32), IVec S32x1 1) := do
  let ⟨arg2, v1, v14, v25, v26, v31, v35⟩ : Σ' (arg2 : BitVec 32) (v1 : FVec F S128x512 .bf16) (v14 : FVec F S256x512 .bf16) (v25 : FVec F S256x512 .bf16) (v26 : FVec F S16x512 .bf16) (v31 : BitVec 32), BitVec 32 ← k0_part84 i arg3 harg3 arg4 harg4 arg5 harg5 arg6 harg6 arg7 harg7 arg8 harg8 arg9 harg9 arg10 harg10 arg11 harg11 arg12 harg12 arg13 harg13 arg14 harg14 arg15 harg15
  let ⟨v36, v40, v44, v59⟩ : Σ' (v36 : BitVec 32) (v40 : FVec F S1x512 .f32) (v44 : FVec F S1x512 .f32), FVec F S512x256 .bf16 ← k0_part85 i arg3 harg3 arg4 harg4 arg5 harg5 arg6 harg6 arg7 harg7 arg8 harg8 arg9 harg9 arg10 harg10 arg11 harg11 arg12 harg12 arg13 harg13 arg14 harg14 arg15 harg15 arg2 v14 v31 v35
  let v96 : FVec F S512x512 .f32 ← k0_part86 i arg3 harg3 arg4 harg4 arg5 harg5 arg6 harg6 arg7 harg7 arg8 harg8 arg9 harg9 arg10 harg10 arg11 harg11 arg12 harg12 arg13 harg13 arg14 harg14 arg15 harg15 arg2 v14 v25 v59
  let ⟨v107, v108, v109, v110, v123, v129, v130, v132⟩ : Σ' (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32), IVec S32x1 1 ← k0_part87 i arg3 harg3 arg4 harg4 arg5 harg5 arg6 harg6 arg7 harg7 arg8 harg8 arg9 harg9 arg10 harg10 arg11 harg11 arg12 harg12 arg13 harg13 arg14 harg14 arg15 harg15 arg2 v1 v31 v96
  pure ⟨arg2, v14, v25, v26, v31, v36, v40, v44, v107, v108, v109, v110, v123, v129, v130, v132⟩

set_option maxHeartbeats 40000000 in
set_option maxRecDepth 65536 in
/-- The part up to the loops is these three, with the check of the places before the last. -/
theorem preP_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) : preP (F := F) i arg3 harg3 arg4 harg4 arg5 harg5 arg6 harg6 arg7 harg7 arg8 harg8 arg9 harg9 arg10 harg10 arg11 harg11 arg12 harg12 arg13 harg13 arg14 harg14 arg15 harg15 = (do
  let ⟨arg2, v14, v25, v26, v31, v36, v40, v44, v107, v108, v109, v110, v123, v129, v130, v132⟩ ← initP i arg3 harg3 arg4 harg4 arg5 harg5 arg6 harg6 arg7 harg7 arg8 harg8 arg9 harg9 arg10 harg10 arg11 harg11 arg12 harg12 arg13 harg13 arg14 harg14 arg15 harg15
  let ⟨v396, v682⟩ ← cntP i arg3 harg3 arg4 harg4 arg5 harg5 arg6 harg6 arg7 harg7 arg8 harg8 arg9 harg9 arg10 harg10 arg11 harg11 arg12 harg12 arg13 harg13 arg14 harg14 arg15 harg15 arg2 v31 v36 v40 v44 v107 v108 v109 v110 v123 v129 v130 v132
  have k0_hw1 : k0_chk1 i v396 v682 := (← Prog.lift (TpuEff.assume (k0_chk1 i v396 v682) (k0_chk1.dec i v396 v682))).down
  let ⟨v683, v765, v766, v768, v769, v783, v784⟩ ← diagP i arg3 harg3 arg4 harg4 arg5 harg5 arg6 harg6 arg7 harg7 arg8 harg8 arg9 harg9 arg10 harg10 arg11 harg11 arg12 harg12 arg13 harg13 arg14 harg14 arg15 harg15 arg2 v26 v31 v36 v40 v44 v396 v682
  pure ⟨v14, v25, v26, v31, v36, v40, v44, v396, v682, k0_hw1, v683, v765, v766, v768, v769, v783, v784⟩) := rfl

/-- What the part up to the skip counts computes. -/
def initV (i : grid0.Coords) (O : Vec F S1024 .f32) (Q : Vec F S1x1x128x512 .bf16) (KA : Vec F S1x32x128 .f32) : Σ' (arg2 : BitVec 32) (v14 : FVec F S256x512 .bf16) (v25 : FVec F S256x512 .bf16) (v26 : FVec F S16x512 .bf16) (v31 : BitVec 32) (v36 : BitVec 32) (v40 : FVec F S1x512 .f32) (v44 : FVec F S1x512 .f32) (v107 : FVec F S128x512 .bf16) (v108 : FVec F S64x512 .bf16) (v109 : IVec S32x1 32) (v110 : FVec F S32x128 .bf16) (v123 : FVec F S1x1 .f32) (v129 : FVec F S1x1 .f32) (v130 : FVec F S32x1 .f32), IVec S32x1 1 :=
  let arg0 : BitVec 32 := BitVec.ofNat 32 (i 0).val
  let arg1 : BitVec 32 := BitVec.ofNat 32 (i 1).val
  let arg2 : BitVec 32 := BitVec.ofNat 32 (i 2).val
  let v0 : Vec F S1x1x128x512 .bf16 := View.ld Q (Rect.unit (s := S1x1x128x512) ![0, 0, 0, 0] S1x1x128x512.size inb_S1x1x128x512_S1x1x128x512_0_0_0_0)
  let v27 : BitVec 32 := Scalar.muli arg0 16#32
  let v28 : BitVec 32 := Scalar.muli 2#32 arg1
  let v29 : BitVec 32 := Scalar.addi v27 v28
  let v30 : BitVec 32 := Scalar.addi v29 0#32
  let v31 : BitVec 32 := Scalar.muli v30 32#32
  let v32 : BitVec 32 := Scalar.muli arg0 16#32
  let v33 : BitVec 32 := Scalar.muli 2#32 arg1
  let v34 : BitVec 32 := Scalar.addi v32 v33
  let v35 : BitVec 32 := Scalar.addi v34 1#32
  let v1 := k0_pay714 v0
  let v14 := k0_pay716 v0
  let v25 := k0_pay717 v0
  let v26 := k0_pay718 (F := F)
  let v36 : BitVec 32 := Scalar.muli v35 32#32
  let v39 : Elt F .f32 := offOf O ⟨(k0_off1 i 0#32), (k0_off1_inb i 0)⟩
  let v43 : Elt F .f32 := offOf O ⟨(k0_off1 i 1#32), (k0_off1_inb i 1)⟩
  let v40 := k0_pay719 v39
  let v44 := k0_pay720 v43
  let v105 : Vec F S1x32x128 .f32 := View.ld KA (Rect.unit (s := S1x32x128) ![0, 0, 0] S1x32x128.size inb_S1x32x128_S1x32x128_0_0_0)
  have v109 : IVec S32x1 32 := iota .tc S32x1 32 [0] iota_S32x1_d0_w32
  let v107 := k0_pay737 v1
  let v108 := k0_pay738 (F := F)
  let v110 := k0_pay739 v105
  let v123 := k0_pay741 arg2 v1 v105
  let v129 := k0_pay742 arg2 v1 v105
  let v130 := k0_pay743 (F := F)
  let v132 := k0_pay744
  ⟨arg2, v14, v25, v26, v31, v36, v40, v44, v107, v108, v109, v110, v123, v129, v130, v132⟩

/-- The queries as the loops read them. -/
def qVals (i : grid0.Coords) (O : Vec F S1024 .f32) (Q : Vec F S1x1x128x512 .bf16) : Vals F :=
  let v0 := View.ld Q (Rect.unit (s := S1x1x128x512) ![0, 0, 0, 0] S1x1x128x512.size inb_S1x1x128x512_S1x1x128x512_0_0_0_0)
  ⟨k0_pay716 v0, k0_pay717 v0, k0_pay718 (F := F), k0_pay719 (offOf O ⟨k0_off1 i 0#32, k0_off1_inb i 0⟩), k0_pay720 (offOf O ⟨k0_off1 i 1#32, k0_off1_inb i 1⟩)⟩

/-- The cleared accumulators. -/
def clearMA : MA F where
  m0 := View.ld (k0_pay721 (F := F)) (Rect.unit (s := S2x1x512) ![0, 0, 0] S1x1x512.size inb_S2x1x512_S1x1x512_0_0_0)
  m1 := View.ld (k0_pay721 (F := F)) (Rect.unit (s := S2x1x512) ![1, 0, 0] S1x1x512.size inb_S2x1x512_S1x1x512_1_0_0)
  c0 := View.ld (k0_pay722 (F := F)) (Rect.unit (s := S2x80x512) ![0, 0, 0] S1x80x512.size inb_S2x80x512_S1x80x512_0_0_0)
  c1 := View.ld (k0_pay722 (F := F)) (Rect.unit (s := S2x80x512) ![1, 0, 0] S1x80x512.size inb_S2x80x512_S1x80x512_1_0_0)

/-- The accumulators after the diagonal block. -/
def diagMA (X : Vals F) (s : MA F) (t : Sc F) (f0 f1 : Elt F .f32) (v : Vec F S1x1x128x512 .bf16) : MA F where
  m0 := k0_pay778 (k0_pay775 X.v40 t.s0 f0 s.m0)
  m1 := k0_pay785 X.v44 t.s1 f1 s.m1
  c0 := k0_pay790 (k0_pay777 X.v40 t.s0 f0 s.m0) (k0_pay787 X.v26 v) (k0_pay788 s.c0) (k0_pay789 (k0_pay776 X.v40 t.s0 f0 s.m0))
  c1 := k0_pay791 X.v26 (k0_pay783 X.v44 t.s1 f1 s.m1) (k0_pay784 X.v44 t.s1 f1 s.m1) (k0_pay786 v) s.c1

end Cert.KernelIdeal.Hand
-- ==== Proof.PreWp.lean ====
module

public import proofs.«01_k».proof.Proof.Tail
public import proofs.«01_k».proof.Proof.Pre

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A whole store, read by halves. -/
theorem rd_whole {a b : ℕ} {e : EltTy} {sp : Space} (v : View sig .tc sp ⟨3, ![2, a, b]⟩ e) (f : v.ty.Contents (Elt F))
    (inbw : ∀ k, (![0, 0, 0] : Fin 3 → ℕ) k + (![2, a, b] : Fin 3 → ℕ) k ≤ (![2, a, b] : Fin 3 → ℕ) k)
    (w : (Rect.unit (s := ⟨3, ![2, a, b]⟩) ![0, 0, 0] ![2, a, b] inbw).shape.Idx → Elt F e) (r : Rect ⟨3, ![2, a, b]⟩) (L : List (View.Piece (Elt F) ⟨3, ![2, a, b]⟩ e)) :
    v.readAt (Elt F) r.toLoadRect (v.writes (Elt F) f (⟨Rect.unit (s := ⟨3, ![2, a, b]⟩) ![0, 0, 0] ![2, a, b] inbw, w⟩ :: L)) = View.ld w r := by
  have h := View.read_writes_full v f inbw w L
  show View.ld (v.read (Elt F) _) r = _
  rw [h]

set_option backward.proofsInPublic true in
/-- The part up to the skip counts. -/
theorem init_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (c : Dev nD) (O : Vec F S1024 .f32) (Q : Vec F S1x1x128x512 .bf16) (K KC : Vec F S1x32x512x128 .bf16) (KA : Vec F S1x32x128 .f32) (s : MA F) (t u : Sc F) :
    iprop(owns (c : Thread nD τ) arg3 fullShare O ∗ owns (c : Thread nD τ) arg4 fullShare Q ∗ owns (c : Thread nD τ) arg5 fullShare K ∗ owns (c : Thread nD τ) arg6 fullShare KC ∗ owns (c : Thread nD τ) arg8 fullShare KA ∗ hasMA c ⟨arg10, arg11⟩ s ∗ hasSc c ⟨arg12, arg14⟩ t ∗ hasSc c ⟨arg13, arg15⟩ u)
    ⊢ wp frame (wpE (defs₀ (F := F)) Variants.none (c : Thread nD τ) none) Set.univ (initP (F := F) i arg3 harg3 arg4 harg4 arg5 harg5 arg6 harg6 arg7 harg7 arg8 harg8 arg9 harg9 arg10 harg10 arg11 harg11 arg12 harg12 arg13 harg13 arg14 harg14 arg15 harg15) (fun r => iprop(⌜r = initV i O Q KA⌝ ∗ owns (c : Thread nD τ) arg3 fullShare O ∗ owns (c : Thread nD τ) arg4 fullShare Q ∗ owns (c : Thread nD τ) arg5 fullShare K ∗ owns (c : Thread nD τ) arg6 fullShare KC ∗ owns (c : Thread nD τ) arg8 fullShare KA
      ∗ hasMA c ⟨arg10, arg11⟩ clearMA ∗ hasSc c ⟨arg12, arg14⟩ (scoreOf (qVals i O Q) (keyOf K ⟨k0_off2 i, k0_off2_inb i⟩) (keyOf KC ⟨k0_off2 i, k0_off2_inb i⟩)) ∗ hasSc c ⟨arg13, arg15⟩ (scoreOf (qVals i O Q) (keyOf K ⟨k0_off3 i, k0_off3_inb i⟩) (keyOf KC ⟨k0_off3 i, k0_off3_inb i⟩)))) := by
  unfold hasMA hasSc twoRow twoAcc twoBig owns
  iintro ⟨⟨%f3, %h3, H3⟩, ⟨%f4, %h4, H4⟩, ⟨%f5, %h5, H5⟩, ⟨%f6, %h6, H6⟩, ⟨%f8, %h8, H8⟩, ⟨⟨%fm, -, HM⟩, ⟨%fa, -, HA⟩⟩, ⟨⟨%fs, -, HS⟩, ⟨%fb, -, HB⟩⟩, ⟨⟨%fd, -, HD⟩, ⟨%fe, -, HE⟩⟩⟩
  subst h3 h4 h5 h6 h8
  unfold initP
  rw [k0_part84_eq_skeleton, k0_part85_eq_skeleton, k0_part86_eq_skeleton, k0_part87_eq_skeleton]
  sl_unfold [k0_part84_skel, k0_part85_skel, k0_part86_skel, k0_part87_skel]
  sl_exec
  sl_step
  have e0 : init_wp.sl.r i arg3 c f3 = offOf (View.read (Elt F) arg3.view f3) ⟨k0_off1 i 0#32, k0_off1_inb i 0⟩ := by unfold init_wp.sl.r offOf; rfl
  have e1 : init_wp.sl.r_1 i arg3 c f3 = offOf (View.read (Elt F) arg3.view f3) ⟨k0_off1 i 1#32, k0_off1_inb i 1⟩ := by unfold init_wp.sl.r_1 offOf; rfl
  rw [e0, e1]
  isplitr
  · ipureintro
    unfold init_wp.sl.v31 init_wp.sl.v36 init_wp.sl.v109 initV
    rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; rfl
  isplitl [HM HA]
  · isplitl [HM]
    · iexists _; isplitr; swap; · iexact HM
      ipureintro
      exact ⟨rd_whole _ _ _ _ _ _, rd_whole _ _ _ _ _ _⟩
    · iexists _; isplitr; swap; · iexact HA
      ipureintro
      exact ⟨rd_whole _ _ _ _ _ _, rd_whole _ _ _ _ _ _⟩
  isplitl [HS HB]
  · isplitl [HS]
    · iexists _; isplitr; swap; · iexact HS
      ipureintro
      refine ⟨(rd_both _ _ _ _ _ _ _).1.trans ?_, (rd_both _ _ _ _ _ _ _).2.trans ?_⟩
      · dsimp only [scoreOf, qVals, keyOf] <;> rfl
      · dsimp only [scoreOf, qVals, keyOf] <;> rfl
    · iexists _; isplitr; swap; · iexact HB
      ipureintro
      refine ⟨(rd_both _ _ _ _ _ _ _).1.trans ?_, (rd_both _ _ _ _ _ _ _).2.trans ?_⟩
      · dsimp only [scoreOf, qVals, keyOf] <;> rfl
      · dsimp only [scoreOf, qVals, keyOf] <;> rfl
  · isplitl [HD]
    · iexists _; isplitr; swap; · iexact HD
      ipureintro
      refine ⟨(rd_both _ _ _ _ _ _ _).1.trans ?_, (rd_both _ _ _ _ _ _ _).2.trans ?_⟩
      · dsimp only [scoreOf, qVals, keyOf] <;> rfl
      · dsimp only [scoreOf, qVals, keyOf] <;> rfl
    · iexists _; isplitr; swap; · iexact HE
      ipureintro
      refine ⟨(rd_both _ _ _ _ _ _ _).1.trans ?_, (rd_both _ _ _ _ _ _ _).2.trans ?_⟩
      · dsimp only [scoreOf, qVals, keyOf] <;> rfl
      · dsimp only [scoreOf, qVals, keyOf] <;> rfl

set_option backward.proofsInPublic true in
/-- The diagonal block. -/
theorem diag_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (arg2 : BitVec 32) (v26 : FVec F S16x512 .bf16) (v31 : BitVec 32) (v36 : BitVec 32) (v40 : FVec F S1x512 .f32) (v44 : FVec F S1x512 .f32) (v396 : BitVec 32) (v682 : BitVec 32) (c : Dev nD) (X : Vals F) (h26 : v26 = X.v26) (h40 : v40 = X.v40) (h44 : v44 = X.v44)
    (O : Vec F S1024 .f32) (VV : Vec F S1x32x128x512 .bf16) (s : MA F) (t : Sc F) :
    iprop(owns (c : Thread nD τ) arg3 fullShare O ∗ owns (c : Thread nD τ) arg7 fullShare VV ∗ hasMA c ⟨arg10, arg11⟩ s ∗ hasSc c ⟨arg12, arg14⟩ t)
    ⊢ wp frame (wpE (defs₀ (F := F)) Variants.none (c : Thread nD τ) none) Set.univ (diagP (F := F) i arg3 harg3 arg4 harg4 arg5 harg5 arg6 harg6 arg7 harg7 arg8 harg8 arg9 harg9 arg10 harg10 arg11 harg11 arg12 harg12 arg13 harg13 arg14 harg14 arg15 harg15 arg2 v26 v31 v36 v40 v44 v396 v682) (fun _ => iprop(owns (c : Thread nD τ) arg3 fullShare O ∗ owns (c : Thread nD τ) arg7 fullShare VV
      ∗ hasMA c ⟨arg10, arg11⟩ (diagMA X s t (offOf O ⟨k0_off1 i 0#32, k0_off1_inb i 0⟩) (offOf O ⟨k0_off1 i 1#32, k0_off1_inb i 1⟩) (valOf VV ⟨k0_off5 i, k0_off5_inb i⟩)) ∗ hasSc c ⟨arg12, arg14⟩ t)) := by
  subst h26 h40 h44
  unfold hasMA hasSc twoRow twoAcc twoBig owns
  iintro ⟨⟨%f3, %h3, H3⟩, ⟨%f7, %h7, H7⟩, ⟨⟨%fm, %hm, HM⟩, ⟨%fa, %ha, HA⟩⟩, ⟨⟨%fs, %hs, HS⟩, ⟨%fb, %hb, HB⟩⟩⟩
  subst h3 h7
  obtain ⟨hm0, hm1⟩ := hm
  obtain ⟨ha0, ha1⟩ := ha
  obtain ⟨hs0, hs1⟩ := hs
  unfold diagP
  rw [k0_part101_eq_skeleton, k0_part102_eq_skeleton]
  sl_unfold [k0_part101_skel, k0_part102_skel]
  sl_exec
  sl_step
  isplitl [H3]
  · iexists _; isplitr; swap; · iexact H3
    ipureintro; rfl
  isplitl [H7]
  · iexists _; isplitr; swap; · iexact H7
    ipureintro; rfl
  have e0 : diag_wp.sl.r i arg3 c f3 = offOf (View.read (Elt F) arg3.view f3) ⟨k0_off1 i 0#32, k0_off1_inb i 0⟩ := by unfold diag_wp.sl.r offOf; rfl
  have e1 : diag_wp.sl.r_1 i arg3 c f3 = offOf (View.read (Elt F) arg3.view f3) ⟨k0_off1 i 1#32, k0_off1_inb i 1⟩ := by unfold diag_wp.sl.r_1 offOf; rfl
  unfold diag_wp.sl.v701 diag_wp.sl.v703 diag_wp.sl.v708
  rw [e0, e1]
  isplitl [HM HA]
  · isplitl [HM]
    · iexists _; isplitr; swap; · iexact HM
      ipureintro
      refine ⟨(rd_both _ _ _ _ _ _ _).1.trans ?_, (rd_both _ _ _ _ _ _ _).2.trans ?_⟩
      · dsimp only [diagMA, valOf] <;> rfl
      · dsimp only [diagMA, valOf] <;> rfl
    · iexists _; isplitr; swap; · iexact HA
      ipureintro
      refine ⟨(rd_both _ _ _ _ _ _ _).1.trans ?_, (rd_both _ _ _ _ _ _ _).2.trans ?_⟩
      · dsimp only [diagMA, valOf] <;> rfl
      · dsimp only [diagMA, valOf] <;> rfl
  isplitl [HS]
  · iexists _; isplitr; swap; · iexact HS
    ipureintro; exact ⟨hs0, hs1⟩
  · iexists _; isplitr; swap; · iexact HB
    ipureintro; exact hb

end Cert.KernelIdeal.Hand
-- ==== Proof.Count.lean ====
module

public import proofs.«01_k».proof.Proof.Pre
public import Idealize.ShloMosaic.Lib.IndicatorCount
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## How many blocks a query block skips -/

/-- The number of rows whose flag is set, as the kernel adds them up. -/
def flagSum (p : IVec S32x1 1) : BitVec 32 :=
  extractAt ![0, 0, 0] (shapeCast S1x1x1 (multiReductionI .add [1, 2] S1 (shapeCast S1x32x1 (extui 32 p natLt_1_32) shapeCasts_S32x1_S1x32x1) 0#32 reduces_S1x32x1_S1 rfl) shapeCasts_S1_S1x1x1) inpos_S1x1x1_p0_0_0

/-- With flags on the first `n` rows only, at most `n` are set. -/
theorem flagSum_le (p : IVec S32x1 1) (n : ℕ) (h : ∀ i, p i = 1#1 → (i 0).val < n) : ∃ w, w ≤ n ∧ flagSum p = BitVec.ofNat 32 w := by
  classical
  refine ⟨_, ?_, (multiReductionI_eq_fold (axes := [1, 2]) (t := S1) .add (shapeCast S1x32x1 (extui 32 p natLt_1_32) shapeCasts_S32x1_S1x32x1) 0#32 reduces_S1x32x1_S1 rfl _).trans (Idealize.ShloMosaic.IndicatorCount.fold_addi_setWidth_eq_card (w := 32) (fun k : S1x32x1.Idx => p (Shape.reshapeEquiv shapeCasts_S32x1_S1x32x1 k)) _)⟩
  calc _ ≤ (Finset.range n).card := by
        refine Finset.card_le_card_of_injOn (fun k : S1x32x1.Idx => ((Shape.reshapeEquiv shapeCasts_S32x1_S1x32x1 k) 0).val) ?_ ?_
        · intro k hk
          simp only [Finset.coe_filter, Finset.mem_filter, Set.mem_setOf_eq] at hk
          simpa using h _ hk.2
        · intro a _ b _ hab
          apply (Shape.reshapeEquiv shapeCasts_S32x1_S1x32x1).injective
          funext d
          match d with
          | ⟨0, _⟩ => exact Fin.ext hab
          | ⟨1, _⟩ => exact Subsingleton.elim (α := Fin 1) _ _
    _ = n := Finset.card_range n

theorem andi_left {x y : BitVec 1} (h : IntOp.andi x y = 1#1) : x = 1#1 := by
  revert x y; decide

theorem below_of (n : ℕ) (hn : n < 32) (g : IVec S32x1 1) (i : S32x1.Idx)
    (h : andi (cmpi .slt (iota .tc S32x1 32 [0] iota_S32x1_d0_w32) (broadcast S32x1 (BitVec.ofNat 32 n))) g i = 1#1) : (i 0).val < n := by
  have h1 := andi_left h
  have hi : (i 0).val < 32 := (i 0).isLt
  have e : (iota .tc S32x1 32 [0] iota_S32x1_d0_w32) i = BitVec.ofNat 32 (i 0).val := by
    show BitVec.ofNat 32 (0 * _ + (i 0).val) = _
    rw [Nat.zero_mul, Nat.zero_add]
  have h2 : IntOp.cmpi .slt (BitVec.ofNat 32 (i 0).val) (BitVec.ofNat 32 n) = 1#1 := by rw [← e]; exact h1
  exact (WordCmp.cmpi_slt_ofNat_eq_one_iff (by omega) (by omega)).mp h2

theorem cnt1 (n : ℕ) (hn : n < 32) (v40 : FVec F S1x512 .f32) (v123 v129 : FVec F S1x1 .f32) (v354 : FVec F S32x1 .f32) (v360 v368 v376 : Elt F .f32) :
    ∃ w, w ≤ n ∧ extractAt ![0, 0, 0] (k0_pay753 (BitVec.ofNat 32 n) v40 (iota .tc S32x1 32 [0] iota_S32x1_d0_w32) v123 v129 v354 v360 v368 v376) inpos_S1x1x1_p0_0_0 = BitVec.ofNat 32 w :=
  flagSum_le _ n fun i hi => below_of n hn _ i hi

theorem cnt2 (n : ℕ) (hn : n < 32) (v44 : FVec F S1x512 .f32) (v409 v415 : FVec F S1x1 .f32) (v656 : FVec F S32x1 .f32) (v658 : IVec S32x1 1) (v662 : Elt F .f32) :
    ∃ w, w ≤ n ∧ extractAt ![0, 0, 0] (k0_pay771 (BitVec.ofNat 32 n) v44 (iota .tc S32x1 32 [0] iota_S32x1_d0_w32) v409 v415 v656 v658 v662) inpos_S1x1x1_p0_0_0 = BitVec.ofNat 32 w :=
  flagSum_le _ n fun i hi => below_of n hn _ i hi

theorem minsi_of {x y : BitVec 32} {n : ℕ} (hx : ∃ w, w ≤ n ∧ x = BitVec.ofNat 32 w) (hy : ∃ w, w ≤ n ∧ y = BitVec.ofNat 32 w) :
    ∃ w, w ≤ n ∧ Scalar.minsi x y = BitVec.ofNat 32 w := by
  unfold Scalar.minsi IntOp.minsi
  split
  · exact hx
  · exact hy

/-- The two counts of a query block. -/
def counts (i : grid0.Coords) (O : Vec F S1024 .f32) (Q : Vec F S1x1x128x512 .bf16) (KA : Vec F S1x32x128 .f32) : BitVec 32 ×' BitVec 32 :=
  let r := initV i O Q KA
  match r with
  | ⟨arg2, _, _, _, v31, v36, v40, v44, v107, v108, v109, v110, v123, v129, v130, v132⟩ => cntV i O arg2 v31 v36 v40 v44 v107 v108 v109 v110 v123 v129 v130 v132

theorem lo_exists (i : grid0.Coords) (O : Vec F S1024 .f32) (Q : Vec F S1x1x128x512 .bf16) (KA : Vec F S1x32x128 .f32) :
    ∃ w : Fin 32, w ≤ (i 2 : Fin 32) ∧ Scalar.minsi (counts i O Q KA).1 (counts i O Q KA).2 = BitVec.ofNat 32 w.val := by
  have hi : (i 2).val < 32 := (i 2).isLt
  obtain ⟨w, hw, e⟩ := minsi_of (n := (i 2).val) (x := (counts i O Q KA).1) (y := (counts i O Q KA).2) (cnt1 (F := F) _ hi _ _ _ _ _ _ _) (cnt2 (F := F) _ hi _ _ _ _ _ _)
  exact ⟨⟨w, by omega⟩, hw, e⟩

/-- The first block a query block visits. -/
def lo (i : grid0.Coords) (O : Vec F S1024 .f32) (Q : Vec F S1x1x128x512 .bf16) (KA : Vec F S1x32x128 .f32) : Fin 32 := (lo_exists i O Q KA).choose

theorem lo_le (i : grid0.Coords) (O : Vec F S1024 .f32) (Q : Vec F S1x1x128x512 .bf16) (KA : Vec F S1x32x128 .f32) : lo i O Q KA ≤ (i 2 : Fin 32) := (lo_exists i O Q KA).choose_spec.1
theorem lo_eq (i : grid0.Coords) (O : Vec F S1024 .f32) (Q : Vec F S1x1x128x512 .bf16) (KA : Vec F S1x32x128 .f32) :
    Scalar.minsi (counts i O Q KA).1 (counts i O Q KA).2 = BitVec.ofNat 32 (lo i O Q KA).val := (lo_exists i O Q KA).choose_spec.2

end Cert.KernelIdeal.Hand
-- ==== Proof.Body0.lean ====
module

public import proofs.«01_k».proof.Proof.PreWp
public import proofs.«01_k».proof.Proof.Count

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The accumulators after the diagonal block. -/
def diag0 (i : grid0.Coords) (O : Vec F S1024 .f32) (Q : Vec F S1x1x128x512 .bf16) (K KC : Vec F S1x32x512x128 .bf16) (VV : Vec F S1x32x128x512 .bf16) : MA F :=
  diagMA (qVals i O Q) clearMA (scoreAt (qVals i O Q) K KC (i 2).val) (offOf O (pO i 0 (i 2).val)) (offOf O (pO i 1 (i 2).val)) (valOf VV (pV (i 2).val))

/-- The block of the result. -/
def outOf (i : grid0.Coords) (O : Vec F S1024 .f32) (Q : Vec F S1x1x128x512 .bf16) (K KC : Vec F S1x32x512x128 .bf16) (VV : Vec F S1x32x128x512 .bf16) (KA : Vec F S1x32x128 .f32) : Vec F S1x512x128 .bf16 :=
  let r := maAt (qVals i O Q) i O K KC VV (diag0 i O Q K KC VV) ((i 2).val - (lo i O Q KA).val)
  k0_pay5 r.c0 r.c1

theorem at_k (i : grid0.Coords) : (⟨k0_off2 i, k0_off2_inb i⟩ : OffK) = pK (i 2).val :=
  Subtype.ext (pK_eq _ _ (offs_lit (i 2) (i 2) (le_refl _)).2.2.2.1 (i 2).isLt)
theorem at_k1 (i : grid0.Coords) : (⟨k0_off3 i, k0_off3_inb i⟩ : OffK) = pK ((i 2).val - 1) :=
  Subtype.ext (pK_eq _ _ (offs_lit (i 2) (i 2) (le_refl _)).2.2.2.2.2 (Nat.lt_of_le_of_lt (Nat.sub_le _ _) (i 2).isLt))
theorem at_v (i : grid0.Coords) : (⟨k0_off5 i, k0_off5_inb i⟩ : OffV) = pV (i 2).val :=
  Subtype.ext (pV_eq _ _ (offs_lit (i 2) (i 2) (le_refl _)).2.2.2.2.1 (i 2).isLt)
theorem val_i2 (i : grid0.Coords) : (BitVec.ofNat 32 (i 2).val).toNat = (i 2).val := by
  have h : (i 2).val < 32 := (i 2).isLt
  rw [BitVec.toNat_ofNat, Nat.mod_eq_of_lt (by omega)]
theorem at_o0 (i : grid0.Coords) : (⟨k0_off1 i 0#32, k0_off1_inb i 0⟩ : Off1) = pO i 0 (i 2).val := Subtype.ext (pO_eq i 0 _ _ (val_i2 i) (i 2).isLt)
theorem at_o1 (i : grid0.Coords) : (⟨k0_off1 i 1#32, k0_off1_inb i 1⟩ : Off1) = pO i 1 (i 2).val := Subtype.ext (pO_eq i 1 _ _ (val_i2 i) (i 2).isLt)

/-- Everything up to the loops. -/
theorem pre_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (c : Dev nD) (O : Vec F S1024 .f32) (Q : Vec F S1x1x128x512 .bf16) (K KC : Vec F S1x32x512x128 .bf16) (VV : Vec F S1x32x128x512 .bf16) (KA : Vec F S1x32x128 .f32) (s : MA F) (t u : Sc F) (G : sProp 𝕄)
    {R : _ → sProp 𝕄}
    (hk : ∀ v31 v36 v396 v682 (h : Scalar.minsi v396 v682 = BitVec.ofNat 32 (lo i O Q KA).val) hw1 v683 v765 v766 v768 v769 v783 v784,
      iprop(Env.St (⟨qVals i O Q, i, arg3, arg5, arg6, arg7, ⟨arg10, arg11⟩, O, K, KC, VV, diag0 i O Q K KC VV⟩ : Env F) c ⟨arg13, arg15⟩ ⟨arg12, arg14⟩ 0 ∗ owns (c : Thread nD τ) arg4 fullShare Q ∗ owns (c : Thread nD τ) arg8 fullShare KA ∗ G)
      ⊢ R ⟨(qVals i O Q).v14, (qVals i O Q).v25, (qVals i O Q).v26, v31, v36, (qVals i O Q).v40, (qVals i O Q).v44, v396, v682, hw1, v683, v765, v766, v768, v769, v783, v784⟩) :
    iprop((owns (c : Thread nD τ) arg3 fullShare O ∗ owns (c : Thread nD τ) arg4 fullShare Q ∗ owns (c : Thread nD τ) arg5 fullShare K ∗ owns (c : Thread nD τ) arg6 fullShare KC ∗ owns (c : Thread nD τ) arg8 fullShare KA ∗ hasMA c ⟨arg10, arg11⟩ s ∗ hasSc c ⟨arg12, arg14⟩ t ∗ hasSc c ⟨arg13, arg15⟩ u) ∗ owns (c : Thread nD τ) arg7 fullShare VV ∗ G)
    ⊢ wp frame (wpE (defs₀ (F := F)) Variants.none (c : Thread nD τ) none) Set.univ (preP (F := F) i arg3 harg3 arg4 harg4 arg5 harg5 arg6 harg6 arg7 harg7 arg8 harg8 arg9 harg9 arg10 harg10 arg11 harg11 arg12 harg12 arg13 harg13 arg14 harg14 arg15 harg15) R := by
  rw [preP_eq, wp_bind]
  refine (sep_mono_l (init_wp i arg3 harg3 arg4 harg4 arg5 harg5 arg6 harg6 arg7 harg7 arg8 harg8 arg9 harg9 arg10 harg10 arg11 harg11 arg12 harg12 arg13 harg13 arg14 harg14 arg15 harg15 c O Q K KC KA s t u)).trans ((wp_frame_r _ _ _).trans (wp_mono _ _ _ fun r => ?_))
  iintro ⟨⟨%hr, H3, H4, H5, H6, H8, HM, HB, HD⟩, H7, HG⟩
  subst hr
  have key : iprop(owns (c : Thread nD τ) arg3 fullShare O ∗ (owns (c : Thread nD τ) arg4 fullShare Q ∗ owns (c : Thread nD τ) arg5 fullShare K ∗ owns (c : Thread nD τ) arg6 fullShare KC ∗ owns (c : Thread nD τ) arg7 fullShare VV ∗ owns (c : Thread nD τ) arg8 fullShare KA ∗ hasMA c ⟨arg10, arg11⟩ clearMA
      ∗ hasSc c ⟨arg12, arg14⟩ (scoreOf (qVals i O Q) (keyOf K ⟨k0_off2 i, k0_off2_inb i⟩) (keyOf KC ⟨k0_off2 i, k0_off2_inb i⟩)) ∗ hasSc c ⟨arg13, arg15⟩ (scoreOf (qVals i O Q) (keyOf K ⟨k0_off3 i, k0_off3_inb i⟩) (keyOf KC ⟨k0_off3 i, k0_off3_inb i⟩)) ∗ G))
    ⊢ wp frame (wpE (defs₀ (F := F)) Variants.none (c : Thread nD τ) none) Set.univ (match initV i O Q KA with
      | ⟨arg2, v14, v25, v26, v31, v36, v40, v44, v107, v108, v109, v110, v123, v129, v130, v132⟩ => do
        let ⟨v396, v682⟩ ← cntP (F := F) i arg3 harg3 arg4 harg4 arg5 harg5 arg6 harg6 arg7 harg7 arg8 harg8 arg9 harg9 arg10 harg10 arg11 harg11 arg12 harg12 arg13 harg13 arg14 harg14 arg15 harg15 arg2 v31 v36 v40 v44 v107 v108 v109 v110 v123 v129 v130 v132
        have k0_hw1 : k0_chk1 i v396 v682 := (← Prog.lift (TpuEff.assume (k0_chk1 i v396 v682) (k0_chk1.dec i v396 v682))).down
        let ⟨v683, v765, v766, v768, v769, v783, v784⟩ ← diagP (F := F) i arg3 harg3 arg4 harg4 arg5 harg5 arg6 harg6 arg7 harg7 arg8 harg8 arg9 harg9 arg10 harg10 arg11 harg11 arg12 harg12 arg13 harg13 arg14 harg14 arg15 harg15 arg2 v26 v31 v36 v40 v44 v396 v682
        pure ⟨v14, v25, v26, v31, v36, v40, v44, v396, v682, k0_hw1, v683, v765, v766, v768, v769, v783, v784⟩) R := by
    have hlo := lo_eq i O Q KA
    have hle := lo_le i O Q KA
    unfold counts at hlo
    have e14 : (initV i O Q KA).2.1 = (qVals i O Q).v14 := rfl
    have e25 : (initV i O Q KA).2.2.1 = (qVals i O Q).v25 := rfl
    have e26 : (initV i O Q KA).2.2.2.1 = (qVals i O Q).v26 := rfl
    have e40 : (initV i O Q KA).2.2.2.2.2.2.1 = (qVals i O Q).v40 := rfl
    have e44 : (initV i O Q KA).2.2.2.2.2.2.2.1 = (qVals i O Q).v44 := rfl
    generalize initV i O Q KA = r0 at *
    obtain ⟨arg2, v14, v25, v26, v31, v36, v40, v44, v107, v108, v109, v110, v123, v129, v130, v132⟩ := r0
    dsimp only at hlo e14 e25 e26 e40 e44 ⊢
    subst e14 e25
    rw [wp_bind]
    refine cnt_wp i arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ _ _ c O _ ?_
    generalize cntV i O arg2 v31 v36 v40 v44 v107 v108 v109 v110 v123 v129 v130 v132 = p at *
    obtain ⟨v396, v682⟩ := p
    dsimp only at hlo ⊢
    have hchk := chk1_of i v396 v682 (lo i O Q KA) hle hlo
    rw [wp_bind]
    refine .trans ?_ (wp_assume _ _ _ _ hchk)
    show _ ⊢ wp _ _ _ (Prog.ret _) _
    rw [wp_ret]
    refine .trans ?_ fupd_intro
    rw [wp_bind]
    have hd := diag_wp i arg3 harg3 arg4 harg4 arg5 harg5 arg6 harg6 arg7 harg7 arg8 harg8 arg9 harg9 arg10 harg10 arg11 harg11 arg12 harg12 arg13 harg13 arg14 harg14 arg15 harg15 arg2 v26 v31 v36 v40 v44 v396 v682 c (qVals i O Q) e26 e40 e44 O VV clearMA (scoreOf (qVals i O Q) (keyOf K ⟨k0_off2 i, k0_off2_inb i⟩) (keyOf KC ⟨k0_off2 i, k0_off2_inb i⟩))
    subst e26 e40 e44
    refine .trans ?_ ((sep_mono_l (Q := iprop(owns (c : Thread nD τ) arg4 fullShare Q ∗ owns (c : Thread nD τ) arg5 fullShare K ∗ owns (c : Thread nD τ) arg6 fullShare KC ∗ owns (c : Thread nD τ) arg8 fullShare KA ∗ hasSc c ⟨arg13, arg15⟩ (scoreOf (qVals i O Q) (keyOf K ⟨k0_off3 i, k0_off3_inb i⟩) (keyOf KC ⟨k0_off3 i, k0_off3_inb i⟩)) ∗ G)) hd).trans ((wp_frame_r _ _ _).trans (wp_mono _ _ _ fun q => .trans (.trans ?_ (hk v31 v36 v396 v682 hlo hchk q.1 q.2.1 q.2.2.1 q.2.2.2.1 q.2.2.2.2.1 q.2.2.2.2.2.1 q.2.2.2.2.2.2)) fupd_intro)))
    · show _ ⊢ iprop((_ ∗ _ ∗ _ ∗ _) ∗ _ ∗ _ ∗ _ ∗ _ ∗ _ ∗ _)
      iintro ⟨H3, H4, H5, H6, H7, H8, HM, HB, HD, HG⟩
      isplitl [H3 H7 HM HB]
      · isplitl [H3]
        · iexact H3
        isplitl [H7]
        · iexact H7
        isplitl [HM]
        · iexact HM
        iexact HB
      isplitl [H4]
      · iexact H4
      isplitl [H5]
      · iexact H5
      isplitl [H6]
      · iexact H6
      isplitl [H8]
      · iexact H8
      isplitl [HD]
      · iexact HD
      iexact HG
    · rw [at_k i, at_k1 i, at_v i, at_o0 i, at_o1 i]
      unfold Env.St Env.ins
      iintro ⟨⟨H3, H7, HM, HB⟩, H4, H5, H6, H8, HD, HG⟩
      isplitl [H3 H5 H6 H7 HM HB HD]
      · isplitl [HM]
        · iexact HM
        isplitl [HD]
        · iexact HD
        isplitl [HB]
        · iexists _; iexact HB
        isplitl [H3]
        · iexact H3
        isplitl [H5]
        · iexact H5
        isplitl [H6]
        · iexact H6
        iexact H7
      isplitl [H4]
      · iexact H4
      isplitl [H8]
      · iexact H8
      iexact HG
  iapply key
  isplitl [H3]
  · iexact H3
  isplitl [H4]
  · iexact H4
  isplitl [H5]
  · iexact H5
  isplitl [H6]
  · iexact H6
  isplitl [H7]
  · iexact H7
  isplitl [H8]
  · iexact H8
  isplitl [HM]
  · iexact HM
  isplitl [HB]
  · iexact HB
  isplitl [HD]
  · iexact HD
  iexact HG

end Cert.KernelIdeal.Hand
-- ==== Proof.Body1.lean ====
module

public import proofs.«01_k».proof.Proof.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The last block, when one block is left over. -/
theorem left_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (c : Dev nD) (O : Vec F S1024 .f32) (Q : Vec F S1x1x128x512 .bf16) (K KC : Vec F S1x32x512x128 .bf16) (VV : Vec F S1x32x128x512 .bf16) (KA : Vec F S1x32x128 .f32)
    (v31 v36 v396 v682 : BitVec 32) (hw1 : k0_chk1 i v396 v682) (h : Scalar.minsi v396 v682 = BitVec.ofNat 32 (lo i O Q KA).val) :
    (if k0_cond1 i v396 v682 = 1#1 then Env.Fi (⟨qVals i O Q, i, arg3, arg5, arg6, arg7, ⟨arg10, arg11⟩, O, K, KC, VV, diag0 i O Q K KC VV⟩ : Env F) c ⟨arg13, arg15⟩ ⟨arg12, arg14⟩ ((i 2).val - (lo i O Q KA).val) else Env.St (⟨qVals i O Q, i, arg3, arg5, arg6, arg7, ⟨arg10, arg11⟩, O, K, KC, VV, diag0 i O Q K KC VV⟩ : Env F) c ⟨arg13, arg15⟩ ⟨arg12, arg14⟩ (4 * (((i 2).val - (lo i O Q KA).val - 1) / 4) + 2 * (((i 2).val - (lo i O Q KA).val - 1) % 4 / 2)))
    ⊢ wp frame (wpE (defs₀ (F := F)) Variants.none (c : Thread nD τ) none) Set.univ (if hc : k0_cond2 i v396 v682 = 1#1 then fin2P (F := F) i arg3 harg3 arg4 harg4 arg5 harg5 arg6 harg6 arg7 harg7 arg8 harg8 arg9 harg9 arg10 harg10 arg11 harg11 arg12 harg12 arg13 harg13 arg14 harg14 arg15 harg15 (qVals i O Q).v14 (qVals i O Q).v25 (qVals i O Q).v26 v31 v36 (qVals i O Q).v40 (qVals i O Q).v44 v396 v682 hw1 hc else pure ⟨⟩) (fun _ => Env.Fi (⟨qVals i O Q, i, arg3, arg5, arg6, arg7, ⟨arg10, arg11⟩, O, K, KC, VV, diag0 i O Q K KC VV⟩ : Env F) c ⟨arg13, arg15⟩ ⟨arg12, arg14⟩ ((i 2).val - (lo i O Q KA).val)) := by
  have hle := lo_le i O Q KA
  have tc := (trips_closed (i 2) (lo i O Q KA) hle).2.2.2.2.2.2
  have hle' : (lo i O Q KA).val ≤ (i 2).val := hle
  rw [← cond1_red i v396 v682 _ h, ← cond2_red i v396 v682 _ h] at tc
  by_cases hc2 : k0_cond2 i v396 v682 = 1#1
  · have h2 := tc.2.mp hc2
    have hc1 : ¬ k0_cond1 i v396 v682 = 1#1 := fun hc => by have := (tc.1.mp hc).2; omega
    rw [if_neg hc1, dif_pos hc2]
    exact fin2_wp i arg3 harg3 arg4 harg4 arg5 harg5 arg6 harg6 arg7 harg7 arg8 harg8 arg9 harg9 arg10 harg10 arg11 harg11 arg12 harg12 arg13 harg13 arg14 harg14 arg15 harg15 (qVals i O Q).v14 (qVals i O Q).v25 (qVals i O Q).v26 v31 v36 (qVals i O Q).v40 (qVals i O Q).v44 v396 v682 hw1 c O K KC VV (diag0 i O Q K KC VV) (lo i O Q KA) hle h hc2 h2
  · rw [dif_neg hc2]
    refine .trans ?_ fupd_intro
    by_cases hc1 : k0_cond1 i v396 v682 = 1#1
    · rw [if_pos hc1]
      exact .rfl
    · rw [if_neg hc1]
      have e : (i 2).val = (lo i O Q KA).val := by
        by_contra hne
        have hlt : lo i O Q KA < (i 2 : Fin 32) := by show (lo i O Q KA).val < (i 2).val; omega
        have n1 : ¬ ((i 2).val - (lo i O Q KA).val - 1) % 2 = 1 := fun q => hc1 (tc.1.mpr ⟨hlt, q⟩)
        have n2 : ¬ ((i 2).val - (lo i O Q KA).val - 1) % 2 = 0 := fun q => hc2 (tc.2.mpr ⟨hlt, q⟩)
        omega
      rw [show (4 * (((i 2).val - (lo i O Q KA).val - 1) / 4) + 2 * (((i 2).val - (lo i O Q KA).val - 1) % 4 / 2)) = (i 2).val - (lo i O Q KA).val by omega]
      exact Env.Fi_of_St _ _ _ _ _

/-- The whole body of a query block. -/
theorem body_wp (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (c : Dev nD) (O : Vec F S1024 .f32) (Q : Vec F S1x1x128x512 .bf16) (K KC : Vec F S1x32x512x128 .bf16) (VV : Vec F S1x32x128x512 .bf16) (KA : Vec F S1x32x128 .f32) (s : MA F) (t u : Sc F) :
    iprop((owns (c : Thread nD τ) arg3 fullShare O ∗ owns (c : Thread nD τ) arg4 fullShare Q ∗ owns (c : Thread nD τ) arg5 fullShare K ∗ owns (c : Thread nD τ) arg6 fullShare KC ∗ owns (c : Thread nD τ) arg8 fullShare KA ∗ hasMA c ⟨arg10, arg11⟩ s ∗ hasSc c ⟨arg12, arg14⟩ t ∗ hasSc c ⟨arg13, arg15⟩ u) ∗ owns (c : Thread nD τ) arg7 fullShare VV ∗ ∃ d, owns (c : Thread nD τ) arg9 fullShare d)
    ⊢ wp frame (wpE (defs₀ (F := F)) Variants.none (c : Thread nD τ) none) Set.univ (cc0_fox_attention_skel (F := F) i arg3 harg3 arg4 harg4 arg5 harg5 arg6 harg6 arg7 harg7 arg8 harg8 arg9 harg9 arg10 harg10 arg11 harg11 arg12 harg12 arg13 harg13 arg14 harg14 arg15 harg15) (fun _ => iprop(owns (c : Thread nD τ) arg3 fullShare O ∗ owns (c : Thread nD τ) arg4 fullShare Q ∗ owns (c : Thread nD τ) arg5 fullShare K ∗ owns (c : Thread nD τ) arg6 fullShare KC ∗ owns (c : Thread nD τ) arg7 fullShare VV ∗ owns (c : Thread nD τ) arg8 fullShare KA ∗ owns (c : Thread nD τ) arg9 fullShare (outOf i O Q K KC VV KA)
      ∗ (∃ s, hasMA (F := F) c ⟨arg10, arg11⟩ s) ∗ (∃ t, hasSc (F := F) c ⟨arg12, arg14⟩ t) ∗ (∃ u, hasSc (F := F) c ⟨arg13, arg15⟩ u))) := by
  have hle := lo_le i O Q KA
  rw [body_eq, wp_bind]
  refine pre_wp i arg3 harg3 arg4 harg4 arg5 harg5 arg6 harg6 arg7 harg7 arg8 harg8 arg9 harg9 arg10 harg10 arg11 harg11 arg12 harg12 arg13 harg13 arg14 harg14 arg15 harg15 c O Q K KC VV KA s t u _ fun v31 v36 v396 v682 h hw1 v683 v765 v766 v768 v769 v783 v784 => ?_
  dsimp only
  rw [wp_bind]
  refine (sep_mono_l (part103_wp i arg3 harg3 arg4 harg4 arg5 harg5 arg6 harg6 arg7 harg7 arg8 harg8 arg9 harg9 arg10 harg10 arg11 harg11 arg12 harg12 arg13 harg13 arg14 harg14 arg15 harg15 (qVals i O Q).v14 (qVals i O Q).v25 (qVals i O Q).v26 v31 v36 (qVals i O Q).v40 (qVals i O Q).v44 v396 v682 hw1 v766 v768 v769 v783 v784 c O K KC VV (diag0 i O Q K KC VV) (lo i O Q KA) hle h)).trans ((wp_frame_r _ _ _).trans (wp_mono _ _ _ fun q => ?_))
  obtain ⟨v794, v818, v819⟩ := q
  dsimp only
  rw [wp_bind]
  refine (sep_mono_l (part104_wp i arg3 harg3 arg4 harg4 arg5 harg5 arg6 harg6 arg7 harg7 arg8 harg8 arg9 harg9 arg10 harg10 arg11 harg11 arg12 harg12 arg13 harg13 arg14 harg14 arg15 harg15 (qVals i O Q).v14 (qVals i O Q).v25 (qVals i O Q).v26 v31 v36 (qVals i O Q).v40 (qVals i O Q).v44 v396 v682 hw1 v683 v765 v794 v818 v819 c O K KC VV (diag0 i O Q K KC VV) (lo i O Q KA) hle h)).trans ((wp_frame_r _ _ _).trans (wp_mono _ _ _ fun _ => ?_))
  rw [endP_eq, wp_bind]
  refine (sep_mono_l (left_wp i arg3 harg3 arg4 harg4 arg5 harg5 arg6 harg6 arg7 harg7 arg8 harg8 arg9 harg9 arg10 harg10 arg11 harg11 arg12 harg12 arg13 harg13 arg14 harg14 arg15 harg15 c O Q K KC VV KA v31 v36 v396 v682 hw1 h)).trans ((wp_frame_r _ _ _).trans (wp_mono _ _ _ fun _ => ?_))
  refine .trans ?_ ((sep_mono_l (Q := iprop((∃ u, hasSc (F := F) c ⟨arg13, arg15⟩ u) ∗ (∃ t, hasSc (F := F) c ⟨arg12, arg14⟩ t) ∗ Env.ins (⟨qVals i O Q, i, arg3, arg5, arg6, arg7, ⟨arg10, arg11⟩, O, K, KC, VV, diag0 i O Q K KC VV⟩ : Env F) c ∗ owns (c : Thread nD τ) arg4 fullShare Q ∗ owns (c : Thread nD τ) arg8 fullShare KA)) (store_wp i arg3 harg3 arg4 harg4 arg5 harg5 arg6 harg6 arg7 harg7 arg8 harg8 arg9 harg9 arg10 harg10 arg11 harg11 arg12 harg12 arg13 harg13 arg14 harg14 arg15 harg15 c (Env.ma (⟨qVals i O Q, i, arg3, arg5, arg6, arg7, ⟨arg10, arg11⟩, O, K, KC, VV, diag0 i O Q K KC VV⟩ : Env F) ((i 2).val - (lo i O Q KA).val)))).trans ((wp_frame_r _ _ _).trans (wp_mono _ _ _ fun _ => ?_)))
  · unfold Env.Fi
    show _ ⊢ iprop((_ ∗ _) ∗ _ ∗ _ ∗ _ ∗ _ ∗ _)
    iintro ⟨⟨HM, HP, HQ, HI⟩, H4, H8, H9⟩
    isplitl [HM H9]
    · isplitl [HM]
      · iexact HM
      iexact H9
    isplitl [HP]
    · iexact HP
    isplitl [HQ]
    · iexact HQ
    isplitl [HI]
    · iexact HI
    isplitl [H4]
    · iexact H4
    iexact H8
  · unfold Env.ins
    iintro ⟨⟨HM, H9⟩, HP, HQ, ⟨H3, H5, H6, H7⟩, H4, H8⟩
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [HM]
    · iexists _; iexact HM
    isplitl [HQ]
    · iexact HQ
    iexact HP

end Cert.KernelIdeal.Hand
-- ==== Proof.Run.lean ====
module

public import proofs.«01_k».proof.Proof.Body1
public import proofs.«01_k».proof.Proof.Gen.KernelIdeal.Frame
public import proofs.«01_k».proof.Proof.Gen.KernelIdeal.Launch
public import proofs.«01_k».proof.Proof.Gen.KernelIdeal.Points
public import Idealize.ShloMosaic.Adequacy
public import Idealize.ShloMosaic.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ)

/-- A whole buffer of two rows at some contents is held at some two halves, and back. -/
theorem twoRow_of (c : Dev nD) (M : Memref sig .tc .vmem S2x1x512 .f32) :
    iprop(∃ d, owns (c : Thread nD τ) M fullShare d) ⊢ (iprop(∃ x0 x1, twoRow (F := F) c M x0 x1) : sProp 𝕄) := by
  unfold owns twoRow
  iintro ⟨%d, %f, %hf, H⟩
  iexists (M.view.readAt (Elt F) (Rect.unit (s := S2x1x512) ![0, 0, 0] S1x1x512.size inb_S2x1x512_S1x1x512_0_0_0).toLoadRect f); iexists (M.view.readAt (Elt F) (Rect.unit (s := S2x1x512) ![1, 0, 0] S1x1x512.size inb_S2x1x512_S1x1x512_1_0_0).toLoadRect f); iexists f
  isplitr
  · ipureintro; exact ⟨rfl, rfl⟩
  · iexact H
theorem of_twoRow (c : Dev nD) (M : Memref sig .tc .vmem S2x1x512 .f32) (x0 x1 : Vec F S1x1x512 .f32) :
    twoRow (F := F) c M x0 x1 ⊢ (iprop(∃ d, owns (c : Thread nD τ) M fullShare d) : sProp 𝕄) := by
  unfold owns twoRow
  iintro ⟨%f, %hf, H⟩
  iexists (M.view.read (Elt F) f); iexists f
  isplitr
  · ipureintro; exact rfl
  · iexact H

/-- A whole buffer of two sums at some contents is held at some two halves, and back. -/
theorem twoAcc_of (c : Dev nD) (M : Memref sig .tc .vmem S2x80x512 .f32) :
    iprop(∃ d, owns (c : Thread nD τ) M fullShare d) ⊢ (iprop(∃ x0 x1, twoAcc (F := F) c M x0 x1) : sProp 𝕄) := by
  unfold owns twoAcc
  iintro ⟨%d, %f, %hf, H⟩
  iexists (M.view.readAt (Elt F) (Rect.unit (s := S2x80x512) ![0, 0, 0] S1x80x512.size inb_S2x80x512_S1x80x512_0_0_0).toLoadRect f); iexists (M.view.readAt (Elt F) (Rect.unit (s := S2x80x512) ![1, 0, 0] S1x80x512.size inb_S2x80x512_S1x80x512_1_0_0).toLoadRect f); iexists f
  isplitr
  · ipureintro; exact ⟨rfl, rfl⟩
  · iexact H
theorem of_twoAcc (c : Dev nD) (M : Memref sig .tc .vmem S2x80x512 .f32) (x0 x1 : Vec F S1x80x512 .f32) :
    twoAcc (F := F) c M x0 x1 ⊢ (iprop(∃ d, owns (c : Thread nD τ) M fullShare d) : sProp 𝕄) := by
  unfold owns twoAcc
  iintro ⟨%f, %hf, H⟩
  iexists (M.view.read (Elt F) f); iexists f
  isplitr
  · ipureintro; exact rfl
  · iexact H

/-- A whole buffer of two tiles at some contents is held at some two halves, and back. -/
theorem twoBig_of (c : Dev nD) (M : Memref sig .tc .vmem S2x512x512 .f32) :
    iprop(∃ d, owns (c : Thread nD τ) M fullShare d) ⊢ (iprop(∃ x0 x1, twoBig (F := F) c M x0 x1) : sProp 𝕄) := by
  unfold owns twoBig
  iintro ⟨%d, %f, %hf, H⟩
  iexists (M.view.readAt (Elt F) (Rect.unit (s := S2x512x512) ![0, 0, 0] S1x512x512.size inb_S2x512x512_S1x512x512_0_0_0).toLoadRect f); iexists (M.view.readAt (Elt F) (Rect.unit (s := S2x512x512) ![1, 0, 0] S1x512x512.size inb_S2x512x512_S1x512x512_1_0_0).toLoadRect f); iexists f
  isplitr
  · ipureintro; exact ⟨rfl, rfl⟩
  · iexact H
theorem of_twoBig (c : Dev nD) (M : Memref sig .tc .vmem S2x512x512 .f32) (x0 x1 : Vec F S1x512x512 .f32) :
    twoBig (F := F) c M x0 x1 ⊢ (iprop(∃ d, owns (c : Thread nD τ) M fullShare d) : sProp 𝕄) := by
  unfold owns twoBig
  iintro ⟨%f, %hf, H⟩
  iexists (M.view.read (Elt F) f); iexists f
  isplitr
  · ipureintro; exact rfl
  · iexact H

/-- The six scratch buffers, held as the body takes them. -/
def scr (c : Dev nD) : sProp 𝕄 :=
  iprop((∃ s, hasMA (F := F) c ⟨(Memref.whole cc0_scratch0), (Memref.whole cc0_scratch1)⟩ s) ∗ (∃ t, hasSc (F := F) c ⟨(Memref.whole cc0_scratch2), (Memref.whole cc0_scratch4)⟩ t) ∗ (∃ u, hasSc (F := F) c ⟨(Memref.whole cc0_scratch3), (Memref.whole cc0_scratch5)⟩ u))

theorem rest_scr (c : Dev nD) : (Pipeline.scopedRest (Ix := Unit) (Name := ℕ) (U := UR sig nD τ) (Lvl := ℕ) (Val := Elt F) spec0 c : sProp 𝕄) ⊢ scr (F := F) c := by
  rw [scopedRest0_eq]
  simp only [← owns_whole]
  unfold scr hasMA hasSc
  iintro ⟨H0, H1, H2, H3, H4, H5⟩
  ihave G0 := (twoRow_of (F := F) c (Memref.whole cc0_scratch0)) $$ H0
  icases G0 with ⟨%a0, %b0, G0⟩
  ihave G1 := (twoAcc_of (F := F) c (Memref.whole cc0_scratch1)) $$ H1
  icases G1 with ⟨%a1, %b1, G1⟩
  ihave G2 := (twoBig_of (F := F) c (Memref.whole cc0_scratch2)) $$ H2
  icases G2 with ⟨%a2, %b2, G2⟩
  ihave G3 := (twoBig_of (F := F) c (Memref.whole cc0_scratch3)) $$ H3
  icases G3 with ⟨%a3, %b3, G3⟩
  ihave G4 := (twoRow_of (F := F) c (Memref.whole cc0_scratch4)) $$ H4
  icases G4 with ⟨%a4, %b4, G4⟩
  ihave G5 := (twoRow_of (F := F) c (Memref.whole cc0_scratch5)) $$ H5
  icases G5 with ⟨%a5, %b5, G5⟩
  isplitl [G0 G1]
  · iexists ⟨a0, b0, a1, b1⟩; isplitl [G0]
    · iexact G0
    · iexact G1
  isplitl [G2 G4]
  · iexists ⟨a2, b2, a4, b4⟩; isplitl [G2]
    · iexact G2
    · iexact G4
  · iexists ⟨a3, b3, a5, b5⟩; isplitl [G3]
    · iexact G3
    · iexact G5

theorem scr_rest (c : Dev nD) : scr (F := F) c ⊢ (Pipeline.scopedRest (Ix := Unit) (Name := ℕ) (U := UR sig nD τ) (Lvl := ℕ) (Val := Elt F) spec0 c : sProp 𝕄) := by
  rw [scopedRest0_eq]
  simp only [← owns_whole]
  unfold scr hasMA hasSc
  iintro ⟨⟨%s, G0, G1⟩, ⟨%t, G2, G4⟩, ⟨%u, G3, G5⟩⟩
  ihave H0 := (of_twoRow (F := F) c (Memref.whole cc0_scratch0) s.m0 s.m1) $$ G0
  ihave H1 := (of_twoAcc (F := F) c (Memref.whole cc0_scratch1) s.c0 s.c1) $$ G1
  ihave H2 := (of_twoBig (F := F) c (Memref.whole cc0_scratch2) t.s0 t.s1) $$ G2
  ihave H3 := (of_twoBig (F := F) c (Memref.whole cc0_scratch3) u.s0 u.s1) $$ G3
  ihave H4 := (of_twoRow (F := F) c (Memref.whole cc0_scratch4) t.b0 t.b1) $$ G4
  ihave H5 := (of_twoRow (F := F) c (Memref.whole cc0_scratch5) u.b0 u.b1) $$ G5
  isplitl [H0]
  · iexact H0
  isplitl [H1]
  · iexact H1
  isplitl [H2]
  · iexact H2
  isplitl [H3]
  · iexact H3
  isplitl [H4]
  · iexact H4
  · iexact H5

/-- What each window's block holds after a grid point: the inputs' blocks as read, the output's the attention's block. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => outOf (F := F) (grid0.coords t) (iblk m c 0 t) (iblk m c 1 t) (iblk m c 2 t) (iblk m c 3 t) (iblk m c 4 t) (iblk m c 5 t)
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

/-- The body at grid point `t` on its blocks and its scratch. -/
theorem body_at (c : Dev nD) (t : Fin cfg0.N) (d6) :
    iprop(owns (c : Thread nD τ) ((cfg0.win 0).stage (cfg0.slots t 0)) fullShare (iblk m c 0 t) ∗ owns (c : Thread nD τ) ((cfg0.win 1).stage (cfg0.slots t 1)) fullShare (iblk m c 1 t) ∗ owns (c : Thread nD τ) ((cfg0.win 2).stage (cfg0.slots t 2)) fullShare (iblk m c 2 t) ∗ owns (c : Thread nD τ) ((cfg0.win 3).stage (cfg0.slots t 3)) fullShare (iblk m c 3 t) ∗ owns (c : Thread nD τ) ((cfg0.win 4).stage (cfg0.slots t 4)) fullShare (iblk m c 4 t) ∗ owns (c : Thread nD τ) ((cfg0.win 5).stage (cfg0.slots t 5)) fullShare (iblk m c 5 t) ∗ owns (c : Thread nD τ) ((cfg0.win 6).stage (cfg0.slots t 6)) fullShare d6 ∗ scr (F := F) c)
    ⊢ wp frame (wpE (defs₀ (F := F)) Variants.none (c : Thread nD τ) none) Set.univ (cc0_fox_attention_skel (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
      (fun _ => iprop(owns (c : Thread nD τ) ((cfg0.win 0).stage (cfg0.slots t 0)) fullShare (iblk m c 0 t) ∗ owns (c : Thread nD τ) ((cfg0.win 1).stage (cfg0.slots t 1)) fullShare (iblk m c 1 t) ∗ owns (c : Thread nD τ) ((cfg0.win 2).stage (cfg0.slots t 2)) fullShare (iblk m c 2 t) ∗ owns (c : Thread nD τ) ((cfg0.win 3).stage (cfg0.slots t 3)) fullShare (iblk m c 3 t) ∗ owns (c : Thread nD τ) ((cfg0.win 4).stage (cfg0.slots t 4)) fullShare (iblk m c 4 t) ∗ owns (c : Thread nD τ) ((cfg0.win 5).stage (cfg0.slots t 5)) fullShare (iblk m c 5 t) ∗ owns (c : Thread nD τ) ((cfg0.win 6).stage (cfg0.slots t 6)) fullShare ((dats m 0 c).after 6 t) ∗ scr (F := F) c)) := by
  unfold scr
  iintro ⟨H0, H1, H2, H3, H4, H5, H6, ⟨%s, Hs⟩, ⟨%t', Ht⟩, ⟨%u, Hu⟩⟩
  iapply (body_wp (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) c (iblk m c 0 t) (iblk m c 1 t) (iblk m c 2 t) (iblk m c 3 t) (iblk m c 4 t) (iblk m c 5 t) s t' u)
  isplitr [H4 H6]
  · isplitl [H0]
    · iexact H0
    isplitl [H1]
    · iexact H1
    isplitl [H2]
    · iexact H2
    isplitl [H3]
    · iexact H3
    isplitl [H5]
    · iexact H5
    isplitl [Hs]
    · iexact Hs
    isplitl [Ht]
    · iexact Ht
    · iexact Hu
  · isplitl [H4]
    · iexact H4
    · iexists d6; iexact H6

theorem sound_body (c : Dev nD) (t : Fin cfg0.N) :
    iprop(Pipeline.ΦA spec0 c ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)))
    ⊢ wp frame (wpE (defs₀ (F := F)) Variants.none (c : Thread nD τ) none) Set.univ (bodyAt0 (F := F) t) (fun _ => iprop(Pipeline.ΦA spec0 c ∗ (dats m 0 c).owesAt () t.castSucc ∗ owns (c : Thread nD τ) ((cfg0.win 0).stage (cfg0.slots t 0)) fullShare ((dats m 0 c).after 0 t) ∗ owns (c : Thread nD τ) ((cfg0.win 1).stage (cfg0.slots t 1)) fullShare ((dats m 0 c).after 1 t) ∗ owns (c : Thread nD τ) ((cfg0.win 2).stage (cfg0.slots t 2)) fullShare ((dats m 0 c).after 2 t) ∗ owns (c : Thread nD τ) ((cfg0.win 3).stage (cfg0.slots t 3)) fullShare ((dats m 0 c).after 3 t) ∗ owns (c : Thread nD τ) ((cfg0.win 4).stage (cfg0.slots t 4)) fullShare ((dats m 0 c).after 4 t) ∗ owns (c : Thread nD τ) ((cfg0.win 5).stage (cfg0.slots t 5)) fullShare ((dats m 0 c).after 5 t) ∗ owns (c : Thread nD τ) ((cfg0.win 6).stage (cfg0.slots t 6)) fullShare ((dats m 0 c).after 6 t))) := by
  unfold bodyAt0
  rw [cc0_fox_attention_eq_skeleton]
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl), before0_5_of m (dats m 0 c) rfl (fun _ => rfl)]
  unfold Pipeline.ΦA
  refine .trans ?_ ((sep_mono_l (Q := iprop((∃ r, prngReg c r) ∗ (dats m 0 c).owesAt () t.castSucc)) (exists_elim fun d6 => body_at m c t d6)).trans ((wp_frame_r _ _ _).trans (wp_mono _ _ _ fun _ => ?_)))
  · show _ ⊢ (iprop((∃ d6, _) ∗ _ ∗ _) : sProp 𝕄)
    iintro ⟨⟨Hs, Hp⟩, Ho, ⟨%d0, H0⟩, ⟨%d1, H1⟩, ⟨%d2, H2⟩, ⟨%d3, H3⟩, ⟨%d4, H4⟩, ⟨%d5, H5⟩, ⟨%d6, H6⟩⟩
    ihave Hs := (rest_scr (F := F) c) $$ Hs
    isplitl [Hs H0 H1 H2 H3 H4 H5 H6]
    · iexists _
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      · iexact Hs
    isplitl [Hp]
    · iexact Hp
    · iexact Ho
  · show (iprop((_ ∗ _ ∗ _ ∗ _ ∗ _ ∗ _ ∗ _ ∗ _) ∗ _ ∗ _) : sProp 𝕄) ⊢ _
    iintro ⟨⟨H0, H1, H2, H3, H4, H5, H6, Hs⟩, Hp, Ho⟩
    ihave Hs := (scr_rest (F := F) c) $$ Hs
    isplitl [Hs Hp]
    · isplitl [Hs]
      · iexact Hs
      · iexact Hp
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    · iexact H6

theorem body_obligation (c : Dev nD) : BodyObligation (dats m 0 c) (defs₀ (F := F)) Variants.none () Set.univ := fun t => by
  rw [bigSep_W0, bigSep_W0, defs₀_row]
  rw [show (dats m 0 c).Φ t.succ = (dats m 0 c).Φ t.castSucc from rfl, show (dats m 0 c).owesAt () t.succ = (dats m 0 c).owesAt () t.castSucc from rfl]
  exact triple_restated (sound_body m c t) rfl .rfl fun _ => .rfl

set_option backward.isDefEq.respectTransparency.types false in
/-- The whole program: every weakly fair execution ends, with the arrays at the proof data's final contents and every semaphore at zero. -/
theorem run_main (ρ : Dev nD → PrngReg) : θ_run defs (onTc (τ := τ) (main (F := F))) (s₀ m ρ)
    (fun r => Pipeline.FramePost cfgs (dats m) 0 (Gen.V m) r ∧ r.2.sem = fun _ => 0) :=
  Pipeline.θ_run_frame cfgs (dats m) 0 Gen.launch0 defs₀ Variants.none m ρ main
    (hbody := fun c => (body_obligation m c).loose) (hshare := fun c => (dats m 0 c).share_full fun _ => rfl) (howed := fun _ _ => rfl)
    (V := Gen.V m) (hmain := Gen.hmain m Variants.none) (hA := fun _ _ => rfl) (hΦ := fun _ _ => rfl)
    (Q' := fun r => Pipeline.FramePost cfgs (dats m) 0 (Gen.V m) r ∧ r.2.sem = fun _ => 0) (hQ' := fun _ h => h)

/-- The arguments are as they were and every semaphore is at zero. -/
theorem quiescent (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).1 1).trans (((dats m 0 c).arrAt_in 1 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Hand

end
-- ==== Proof.KT1.lean ====
module

public import proofs.«01_k».proof.Proof.KStep

@[expose] public section

set_option maxRecDepth 65536

noncomputable section

namespace Cert.Kernel.Hand

open Cert.Kernel Cert.Kernel.Gen
open Idealize.ShloMosaic Idealize.SL.Sem

variable {F : FTy → Type} [FloatOps F]

set_option maxHeartbeats 40000000 in
/-- A trip of the loop by 8: 8 blocks' runs, the two score buffers taking turns. -/
theorem t1_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (k : Fin (k0_t1_loop i v396 v682).trips) (u : Unit) :
  k0_t1_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 k u =
   (do stepP ⟨v14, v25, v26, v40, v44⟩ arg3 arg5 arg6 arg7 ⟨arg10, arg11⟩ ⟨arg13, arg15⟩ ⟨arg12, arg14⟩ ⟨_, k0_off6_inb i v396 v682 k0_hw1 k 0 0⟩ ⟨_, k0_off6_inb i v396 v682 k0_hw1 k 1 0⟩ ⟨_, k0_off7_inb i v396 v682 k0_hw1 k 0⟩ ⟨_, k0_off8_inb i v396 v682 k0_hw1 k 0⟩
       stepP ⟨v14, v25, v26, v40, v44⟩ arg3 arg5 arg6 arg7 ⟨arg10, arg11⟩ ⟨arg12, arg14⟩ ⟨arg13, arg15⟩ ⟨_, k0_off6_inb i v396 v682 k0_hw1 k 0 1⟩ ⟨_, k0_off6_inb i v396 v682 k0_hw1 k 1 1⟩ ⟨_, k0_off7_inb i v396 v682 k0_hw1 k 1⟩ ⟨_, k0_off8_inb i v396 v682 k0_hw1 k 1⟩
       stepP ⟨v14, v25, v26, v40, v44⟩ arg3 arg5 arg6 arg7 ⟨arg10, arg11⟩ ⟨arg13, arg15⟩ ⟨arg12, arg14⟩ ⟨_, k0_off6_inb i v396 v682 k0_hw1 k 0 2⟩ ⟨_, k0_off6_inb i v396 v682 k0_hw1 k 1 2⟩ ⟨_, k0_off7_inb i v396 v682 k0_hw1 k 2⟩ ⟨_, k0_off8_inb i v396 v682 k0_hw1 k 2⟩
       stepP ⟨v14, v25, v26, v40, v44⟩ arg3 arg5 arg6 arg7 ⟨arg10, arg11⟩ ⟨arg12, arg14⟩ ⟨arg13, arg15⟩ ⟨_, k0_off6_inb i v396 v682 k0_hw1 k 0 3⟩ ⟨_, k0_off6_inb i v396 v682 k0_hw1 k 1 3⟩ ⟨_, k0_off7_inb i v396 v682 k0_hw1 k 3⟩ ⟨_, k0_off8_inb i v396 v682 k0_hw1 k 3⟩
       stepP ⟨v14, v25, v26, v40, v44⟩ arg3 arg5 arg6 arg7 ⟨arg10, arg11⟩ ⟨arg13, arg15⟩ ⟨arg12, arg14⟩ ⟨_, k0_off6_inb i v396 v682 k0_hw1 k 0 4⟩ ⟨_, k0_off6_inb i v396 v682 k0_hw1 k 1 4⟩ ⟨_, k0_off7_inb i v396 v682 k0_hw1 k 4⟩ ⟨_, k0_off8_inb i v396 v682 k0_hw1 k 4⟩
       stepP ⟨v14, v25, v26, v40, v44⟩ arg3 arg5 arg6 arg7 ⟨arg10, arg11⟩ ⟨arg12, arg14⟩ ⟨arg13, arg15⟩ ⟨_, k0_off6_inb i v396 v682 k0_hw1 k 0 5⟩ ⟨_, k0_off6_inb i v396 v682 k0_hw1 k 1 5⟩ ⟨_, k0_off7_inb i v396 v682 k0_hw1 k 5⟩ ⟨_, k0_off8_inb i v396 v682 k0_hw1 k 5⟩
       stepP ⟨v14, v25, v26, v40, v44⟩ arg3 arg5 arg6 arg7 ⟨arg10, arg11⟩ ⟨arg13, arg15⟩ ⟨arg12, arg14⟩ ⟨_, k0_off6_inb i v396 v682 k0_hw1 k 0 6⟩ ⟨_, k0_off6_inb i v396 v682 k0_hw1 k 1 6⟩ ⟨_, k0_off7_inb i v396 v682 k0_hw1 k 6⟩ ⟨_, k0_off8_inb i v396 v682 k0_hw1 k 6⟩
       stepP ⟨v14, v25, v26, v40, v44⟩ arg3 arg5 arg6 arg7 ⟨arg10, arg11⟩ ⟨arg12, arg14⟩ ⟨arg13, arg15⟩ ⟨_, k0_off6_inb i v396 v682 k0_hw1 k 0 7⟩ ⟨_, k0_off6_inb i v396 v682 k0_hw1 k 1 7⟩ ⟨_, k0_off7_inb i v396 v682 k0_hw1 k 7⟩ ⟨_, k0_off8_inb i v396 v682 k0_hw1 k 7⟩) := rfl

end Cert.Kernel.Hand
-- ==== Proof.KT3.lean ====
module

public import proofs.«01_k».proof.Proof.KStep

@[expose] public section

set_option maxRecDepth 65536

noncomputable section

namespace Cert.Kernel.Hand

open Cert.Kernel Cert.Kernel.Gen
open Idealize.ShloMosaic Idealize.SL.Sem

variable {F : FTy → Type} [FloatOps F]

set_option maxHeartbeats 40000000 in
/-- A trip of the loop by 4: 4 blocks' runs, the two score buffers taking turns. -/
theorem t3_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v766 : BitVec 32) (v768 : BitVec 32) (v769 : BitVec 32) (v783 : BitVec 1) (v784 : BitVec 32) (v792 : BitVec 32) (k : Fin (k0_t3_loop i v396 v682).trips) (u : Unit) :
  k0_t3_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v766 v768 v769 v783 v784 v792 k u =
   (do stepP ⟨v14, v25, v26, v40, v44⟩ arg3 arg5 arg6 arg7 ⟨arg10, arg11⟩ ⟨arg13, arg15⟩ ⟨arg12, arg14⟩ ⟨_, k0_off12_inb i v396 v682 k0_hw1 k 0 0⟩ ⟨_, k0_off12_inb i v396 v682 k0_hw1 k 1 0⟩ ⟨_, k0_off13_inb i v396 v682 k0_hw1 k 0⟩ ⟨_, k0_off14_inb i v396 v682 k0_hw1 k 0⟩
       stepP ⟨v14, v25, v26, v40, v44⟩ arg3 arg5 arg6 arg7 ⟨arg10, arg11⟩ ⟨arg12, arg14⟩ ⟨arg13, arg15⟩ ⟨_, k0_off12_inb i v396 v682 k0_hw1 k 0 1⟩ ⟨_, k0_off12_inb i v396 v682 k0_hw1 k 1 1⟩ ⟨_, k0_off13_inb i v396 v682 k0_hw1 k 1⟩ ⟨_, k0_off14_inb i v396 v682 k0_hw1 k 1⟩
       stepP ⟨v14, v25, v26, v40, v44⟩ arg3 arg5 arg6 arg7 ⟨arg10, arg11⟩ ⟨arg13, arg15⟩ ⟨arg12, arg14⟩ ⟨_, k0_off12_inb i v396 v682 k0_hw1 k 0 2⟩ ⟨_, k0_off12_inb i v396 v682 k0_hw1 k 1 2⟩ ⟨_, k0_off13_inb i v396 v682 k0_hw1 k 2⟩ ⟨_, k0_off14_inb i v396 v682 k0_hw1 k 2⟩
       stepP ⟨v14, v25, v26, v40, v44⟩ arg3 arg5 arg6 arg7 ⟨arg10, arg11⟩ ⟨arg12, arg14⟩ ⟨arg13, arg15⟩ ⟨_, k0_off12_inb i v396 v682 k0_hw1 k 0 3⟩ ⟨_, k0_off12_inb i v396 v682 k0_hw1 k 1 3⟩ ⟨_, k0_off13_inb i v396 v682 k0_hw1 k 3⟩ ⟨_, k0_off14_inb i v396 v682 k0_hw1 k 3⟩) := rfl

end Cert.Kernel.Hand
-- ==== Proof.KT5.lean ====
module

public import proofs.«01_k».proof.Proof.KStep

@[expose] public section

set_option maxRecDepth 65536

noncomputable section

namespace Cert.Kernel.Hand

open Cert.Kernel Cert.Kernel.Gen
open Idealize.ShloMosaic Idealize.SL.Sem

variable {F : FTy → Type} [FloatOps F]

set_option maxHeartbeats 40000000 in
/-- A trip of the loop by 2: 2 blocks' runs, the two score buffers taking turns. -/
theorem t5_eq (i : grid0.Coords) (arg3 : Memref sig .tc .smem S1024 .f32) (harg3 : arg3.IsWhole) (arg4 : Memref sig .tc .vmem S1x1x128x512 .bf16) (harg4 : arg4.IsWhole) (arg5 : Memref sig .tc .vmem S1x32x512x128 .bf16) (harg5 : arg5.IsWhole) (arg6 : Memref sig .tc .vmem S1x32x512x128 .bf16) (harg6 : arg6.IsWhole) (arg7 : Memref sig .tc .vmem S1x32x128x512 .bf16) (harg7 : arg7.IsWhole) (arg8 : Memref sig .tc .vmem S1x32x128 .f32) (harg8 : arg8.IsWhole) (arg9 : Memref sig .tc .vmem S1x512x128 .bf16) (harg9 : arg9.IsWhole) (arg10 : Memref sig .tc .vmem S2x1x512 .f32) (harg10 : arg10.IsWhole) (arg11 : Memref sig .tc .vmem S2x80x512 .f32) (harg11 : arg11.IsWhole) (arg12 : Memref sig .tc .vmem S2x512x512 .f32) (harg12 : arg12.IsWhole) (arg13 : Memref sig .tc .vmem S2x512x512 .f32) (harg13 : arg13.IsWhole) (arg14 : Memref sig .tc .vmem S2x1x512 .f32) (harg14 : arg14.IsWhole) (arg15 : Memref sig .tc .vmem S2x1x512 .f32) (harg15 : arg15.IsWhole) (v14 : FVec F S256x512 .bf16) (v25 : FVec F S256x512 .bf16) (v26 : FVec F S16x512 .bf16) (v31 : BitVec 32) (v36 : BitVec 32) (v40 : FVec F S1x512 .f32) (v44 : FVec F S1x512 .f32) (v396 : BitVec 32) (v682 : BitVec 32) (k0_hw1 : k0_chk1 i v396 v682) (v683 : BitVec 32) (v765 : BitVec 32) (v794 : BitVec 32) (v818 : BitVec 32) (v819 : BitVec 32) (k : Fin (k0_t5_loop i v396 v682).trips) (u : Unit) :
  k0_t5_body (F := F) i arg3 harg3 arg4 harg4 arg5 harg5 arg6 harg6 arg7 harg7 arg8 harg8 arg9 harg9 arg10 harg10 arg11 harg11 arg12 harg12 arg13 harg13 arg14 harg14 arg15 harg15 v14 v25 v26 v31 v36 v40 v44 v396 v682 k0_hw1 v683 v765 v794 v818 v819 k u =
   (do stepP ⟨v14, v25, v26, v40, v44⟩ arg3 arg5 arg6 arg7 ⟨arg10, arg11⟩ ⟨arg13, arg15⟩ ⟨arg12, arg14⟩ ⟨_, k0_off18_inb i v396 v682 k0_hw1 k 0 0⟩ ⟨_, k0_off18_inb i v396 v682 k0_hw1 k 1 0⟩ ⟨_, k0_off19_inb i v396 v682 k0_hw1 k 0⟩ ⟨_, k0_off20_inb i v396 v682 k0_hw1 k 0⟩
       stepP ⟨v14, v25, v26, v40, v44⟩ arg3 arg5 arg6 arg7 ⟨arg10, arg11⟩ ⟨arg12, arg14⟩ ⟨arg13, arg15⟩ ⟨_, k0_off18_inb i v396 v682 k0_hw1 k 0 1⟩ ⟨_, k0_off18_inb i v396 v682 k0_hw1 k 1 1⟩ ⟨_, k0_off19_inb i v396 v682 k0_hw1 k 1⟩ ⟨_, k0_off20_inb i v396 v682 k0_hw1 k 1⟩) := rfl

end Cert.Kernel.Hand
-- ==== Proof.Alg.lean ====
module

public import Idealize.ShloMosaic.PureOps.Ideal
public import Mathlib.Data.EReal.Operations
public import Mathlib.Data.EReal.Inv

@[expose] public section

noncomputable section

namespace Cert.Attn

open Idealize.ShloMosaic

/-! ## Sums over the extended reals -/

theorem mul_sum_nonneg {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert x s hx ih =>
    rw [Finset.sum_insert hx, Finset.sum_insert hx, ← ih]
    exact EReal.left_distrib_of_nonneg_of_ne_top (EReal.coe_nonneg.mpr ha) (EReal.coe_ne_top a) _ _

theorem coe_sum {ι : Type} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The greatest of finitely many values below `⊤`, one of them real, is real. -/
theorem fold_max_real {ι : Type} (s : Finset ι) (f : ι → EReal) (hf : ∀ i ∈ s, f i ≠ ⊤) (i₀ : ι) (h₀ : i₀ ∈ s) (hr : f i₀ ≠ ⊥) :
    ∃ M : ℝ, s.fold max ⊥ f = (M : EReal) := by
  have h1 : s.fold max ⊥ f ≠ ⊤ := by
    apply ne_of_lt
    rw [Finset.fold_max_lt]
    exact ⟨bot_lt_top, fun i hi => lt_top_iff_ne_top.mpr (hf i hi)⟩
  have h2 : s.fold max ⊥ f ≠ ⊥ := by
    intro h
    have : f i₀ ≤ s.fold max ⊥ f := (Finset.le_fold_max _).mpr (.inr ⟨i₀, h₀, le_rfl⟩)
    rw [h] at this
    exact hr (le_bot_iff.mp this)
  exact ⟨_, (EReal.coe_toReal h1 h2).symm⟩

theorem exp2_sub (a b : ℝ) : Ideal.exp2 ((a : EReal) - (b : EReal)) = ((2 ^ (a - b) : ℝ) : EReal) := by
  rw [← EReal.coe_sub, Ideal.exp2_coe]; rfl

/-- The weight of key `k` of tile `j` against the running maximum `M`. -/
def wt (incl : Prop) [Decidable incl] (t M : ℝ) : ℝ := if incl then 2 ^ (t - M) else 0

theorem wt_nonneg (incl : Prop) [Decidable incl] (t M : ℝ) : 0 ≤ wt incl t M := by
  unfold wt; split <;> positivity

/-- One more tile, `j₀`, of the running softmax: the accumulator over the tiles of `inc`, rescaled, and the new tile's weights. -/
theorem step_sum {J K : Type} [Fintype J] [Fintype K] [DecidableEq J] (inc inc' : J → K → Prop) [∀ j k, Decidable (inc j k)] [∀ j k, Decidable (inc' j k)]
    (t : J → K → ℝ) (M M' : ℝ) (W : J → K → EReal) (j₀ : J)
    (h0 : ∀ k, ¬ inc j₀ k) (h1 : ∀ j k, j ≠ j₀ → (inc' j k ↔ inc j k)) (e : K → EReal) (he : ∀ k, e k = (wt (inc' j₀ k) (t j₀ k) M' : EReal)) :
    ((2 ^ (M - M') : ℝ) : EReal) * (∑ j, ∑ k, W j k * (wt (inc j k) (t j k) M : EReal)) + ∑ k, W j₀ k * e k
      = ∑ j, ∑ k, W j k * (wt (inc' j k) (t j k) M' : EReal) := by
  have hs : ∑ k, W j₀ k * e k = ∑ j, if j = j₀ then (∑ k, W j k * (wt (inc' j k) (t j k) M' : EReal)) else 0 := by
    rw [Finset.sum_ite_eq' Finset.univ j₀, if_pos (Finset.mem_univ _)]
    exact Finset.sum_congr rfl fun k _ => by rw [he]
  rw [hs, mul_sum_nonneg _ _ _ (by positivity), ← Finset.sum_add_distrib]
  refine Finset.sum_congr rfl fun j _ => ?_
  rw [mul_sum_nonneg _ _ _ (by positivity)]
  by_cases hj : j = j₀
  · subst hj
    rw [if_pos rfl]
    convert zero_add _
    refine Finset.sum_eq_zero fun k _ => ?_
    rw [wt, if_neg (h0 k), EReal.coe_zero, mul_zero, mul_zero]
  · rw [if_neg hj, add_zero]
    refine Finset.sum_congr rfl fun k _ => ?_
    rw [mul_left_comm]
    congr 1
    rw [← EReal.coe_mul]
    congr 1
    unfold wt
    by_cases hi : inc j k
    · rw [if_pos hi, if_pos ((h1 j k hj).mpr hi), ← Real.rpow_add (by norm_num)]
      congr 1; ring
    · rw [if_neg hi, if_neg fun h => hi ((h1 j k hj).mp h), mul_zero]

/-- The quotient of the two accumulated sums: the values weighed by the normalised weights. -/
theorem div_sum {ι : Type} (s : Finset ι) (W : ι → EReal) (e : ι → ℝ) (he : 0 < ∑ i ∈ s, e i) :
    Ideal.div (∑ i ∈ s, W i * (e i : EReal)) (∑ i ∈ s, 1 * (e i : EReal)) = ∑ i ∈ s, W i * ((e i / ∑ i ∈ s, e i : ℝ) : EReal) := by
  have h1 : ∑ i ∈ s, (1 : EReal) * (e i : EReal) = ((∑ i ∈ s, e i : ℝ) : EReal) := by
    rw [coe_sum]; exact Finset.sum_congr rfl fun i _ => one_mul _
  rw [h1]
  have h2 : ((∑ i ∈ s, e i : ℝ) : EReal) ≠ 0 := by
    intro h; exact absurd (EReal.coe_eq_zero.mp h) he.ne'
  rw [Ideal.div, if_neg h2, ← EReal.coe_inv, mul_comm, mul_sum_nonneg _ _ _ (inv_nonneg.mpr he.le)]
  refine Finset.sum_congr rfl fun i _ => ?_
  rw [mul_left_comm, ← EReal.coe_mul]
  congr 2
  rw [div_eq_mul_inv, mul_comm]

/-- A column's running maximum after a tile: its scores `S`, shifted by `δ`. -/
def updM (m : EReal) (S : Fin 512 → EReal) (δ : EReal) : EReal := max m (Finset.univ.fold max ⊥ S + δ)

/-- A column's accumulator after a tile whose values are `W`. -/
def updC (m c : EReal) (S : Fin 512 → EReal) (δ : EReal) (W : Fin 512 → EReal) : EReal :=
  Ideal.exp2 (m - updM m S δ) * c + ∑ x, W x * Ideal.exp2 (S x - (updM m S δ - δ))

theorem ofBits_neg_inf : Ideal.ofBits FTy.f32 4286578688#32 = ⊥ := by
  simp [Ideal.ofBits, Ideal.ieee]

/-- A tile below the diagonal, its scores real: the new maximum is real, and what the accumulator becomes. -/
theorem col_step (M D : ℝ) (σ : Fin 512 → ℝ) (S : Fin 512 → EReal) (hS : ∀ x, S x = (σ x : EReal)) :
    ∃ M' : ℝ, updM M S D = (M' : EReal) ∧ ∀ (c : EReal) (W : Fin 512 → EReal),
      updC M c S D W = ((2 ^ (M - M') : ℝ) : EReal) * c + ∑ x, W x * ((2 ^ (σ x + D - M') : ℝ) : EReal) := by
  obtain ⟨B, hB⟩ := fold_max_real Finset.univ S (fun x _ => by rw [hS]; exact EReal.coe_ne_top _) 0 (Finset.mem_univ _) (by rw [hS]; exact EReal.coe_ne_bot _)
  have hM : updM M S D = ((max M (B + D) : ℝ) : EReal) := by
    unfold updM; rw [hB, ← EReal.coe_add, coe_max]
  refine ⟨_, hM, fun c W => ?_⟩
  unfold updC
  rw [hM, exp2_sub]
  congr 1
  refine Finset.sum_congr rfl fun x _ => ?_
  rw [hS, ← EReal.coe_sub, exp2_sub]
  congr 3
  ring

/-- The diagonal tile, its scores real up to the diagonal, from the cleared accumulator. -/
theorem col_first (D : ℝ) (q : Fin 512) (σ : Fin 512 → ℝ) (S : Fin 512 → EReal) (hS : ∀ x, S x = if x ≤ q then (σ x : EReal) else ⊥) :
    ∃ M' : ℝ, updM ⊥ S D = (M' : EReal) ∧ ∀ (W : Fin 512 → EReal),
      updC ⊥ 0 S D W = ∑ x, W x * (wt (x ≤ q) (σ x + D) M' : EReal) := by
  obtain ⟨B, hB⟩ := fold_max_real Finset.univ S (fun x _ => by rw [hS]; split; exacts [EReal.coe_ne_top _, bot_ne_top]) q (Finset.mem_univ _) (by rw [hS, if_pos le_rfl]; exact EReal.coe_ne_bot _)
  have hM : updM ⊥ S D = ((B + D : ℝ) : EReal) := by
    unfold updM; rw [hB, ← EReal.coe_add]; exact max_eq_right bot_le
  refine ⟨_, hM, fun W => ?_⟩
  unfold updC
  rw [hM, mul_zero, zero_add]
  refine Finset.sum_congr rfl fun x _ => ?_
  rw [hS, ← EReal.coe_sub]
  unfold wt
  by_cases h : x ≤ q
  · rw [if_pos h, if_pos h, exp2_sub]
    congr 3
    ring
  · rw [if_neg h, if_neg h, EReal.bot_sub, Ideal.exp2_bot, EReal.coe_zero]

/-- The normalised weights do not depend on the maximum they are taken against. -/
theorem wt_norm {ι : Type} (s : Finset ι) (inc : ι → Prop) [∀ i, Decidable (inc i)] (t : ι → ℝ) (M : ℝ) (i : ι) :
    wt (inc i) (t i) M / ∑ i ∈ s, wt (inc i) (t i) M = wt (inc i) (t i) 0 / ∑ i ∈ s, wt (inc i) (t i) 0 := by
  have h : ∀ i, wt (inc i) (t i) M = wt (inc i) (t i) 0 * 2 ^ (-M) := fun i => by
    unfold wt
    by_cases hi : inc i
    · rw [if_pos hi, if_pos hi, ← Real.rpow_add (by norm_num)]
      congr 1; ring
    · rw [if_neg hi, if_neg hi, zero_mul]
  simp only [h]
  rw [← Finset.sum_mul]
  exact mul_div_mul_right _ _ (by positivity)

theorem wt_sum_pos {ι : Type} (s : Finset ι) (inc : ι → Prop) [∀ i, Decidable (inc i)] (t : ι → ℝ) (M : ℝ) (i₀ : ι) (h₀ : i₀ ∈ s) (hi : inc i₀) :
    0 < ∑ i ∈ s, wt (inc i) (t i) M := by
  refine Finset.sum_pos' (fun i _ => wt_nonneg _ _ _) ⟨i₀, h₀, ?_⟩
  unfold wt; rw [if_pos hi]; positivity

end Cert.Attn

end
-- ==== Proof.Spec.lean ====
module

public import proofs.«01_k».proof.Proof.Alg
public import Idealize.ShloMosaic.Lib.Pointwise

@[expose] public section

set_option maxRecDepth 16384

noncomputable section

namespace Cert.Attn

open Idealize.ShloMosaic

/-! ## The attention's weights over the reals -/

abbrev A0 := (⟨4, ![2, 32, 1024, 512]⟩ : Shape).Idx → EReal
abbrev A1 := (⟨2, ![32768, 1024]⟩ : Shape).Idx → EReal
abbrev A5 := (⟨3, ![2, 32, 128]⟩ : Shape).Idx → EReal

/-- The product of query `s` and key `p` with the decay inside the key's tile. -/
def dotR (a0 : A0) (a1 a2 : A1) (b : Fin 2) (h : Fin 16) (s p : Fin 16384) : ℝ :=
  ∑ x : Fin 64, (a0 (ix4 b ⟨s.val / 512, by omega⟩ ⟨h.val * 64 + x.val, by omega⟩ ⟨s.val % 512, by omega⟩)).toReal * (a1 (ix2 ⟨b.val * 16384 + p.val, by omega⟩ ⟨h.val * 64 + x.val, by omega⟩)).toReal
    + ∑ l : Fin 3, (a2 (ix2 ⟨b.val * 16384 + p.val, by omega⟩ ⟨h.val / 2 * 128 + (h.val % 2 * 3 + l.val), by omega⟩)).toReal

/-- The sum over the tiles before position `p`'s. -/
def offR (a5 : A5) (b : Fin 2) (h : Fin 16) (p : Fin 16384) : ℝ := (a5 (ix3 b ⟨p.val / 512, by omega⟩ ⟨h.val, by omega⟩)).toReal

/-- The exponent of key `p` for query `s`, up to a term of the query alone. -/
def tR (a0 : A0) (a1 a2 : A1) (a5 : A5) (b : Fin 2) (h : Fin 16) (s p : Fin 16384) : ℝ :=
  dotR a0 a1 a2 b h s p + (offR a5 b h s - offR a5 b h p)

/-- The weight of key `p` for query `s`. -/
def wR (a0 : A0) (a1 a2 : A1) (a5 : A5) (b : Fin 2) (h : Fin 16) (s p : Fin 16384) : ℝ :=
  wt (p.val ≤ s.val) (tR a0 a1 a2 a5 b h s p) 0 / ∑ p : Fin 16384, wt (p.val ≤ s.val) (tR a0 a1 a2 a5 b h s p) 0

/-- The attention, at one element. -/
def attn (a0 : A0) (a1 a2 : A1) (a3 : A0) (a5 : A5) (b : Fin 2) (s : Fin 16384) (e : Fin 1024) : EReal :=
  ∑ p : Fin 16384, a3 (ix4 b ⟨p.val / 512, by omega⟩ e ⟨p.val % 512, by omega⟩) * (wR a0 a1 a2 a5 b ⟨e.val / 64, by omega⟩ s p : EReal)

/-- Every entry is real. -/
def Real' {ι : Type} (a : ι → EReal) : Prop := ∀ j, ((a j).toReal : EReal) = a j

/-- A sum over the positions, tile by tile. -/
theorem sum_tiles {M : Type} [AddCommMonoid M] (F : Fin 16384 → M) : ∑ p, F p = ∑ p : Fin 32 × Fin 512, F ⟨512 * p.1.val + p.2.val, by omega⟩ := by
  refine (Fintype.sum_equiv (finProdFinEquiv (m := 32) (n := 512)) (fun p => F ⟨512 * p.1.val + p.2.val, by omega⟩) F (fun p => ?_)).symm
  congr 1
  exact Fin.ext (by simp [finProdFinEquiv]; omega)

theorem dotR_coe (a0 : A0) (a1 a2 : A1) (h0 : Real' a0) (h1 : Real' a1) (h2 : Real' a2) (b : Fin 2) (h : Fin 16) (s p : Fin 16384) :
    (dotR a0 a1 a2 b h s p : EReal) = ∑ x : Fin 64, a0 (ix4 b ⟨s.val / 512, by omega⟩ ⟨h.val * 64 + x.val, by omega⟩ ⟨s.val % 512, by omega⟩) * a1 (ix2 ⟨b.val * 16384 + p.val, by omega⟩ ⟨h.val * 64 + x.val, by omega⟩)
      + ∑ l : Fin 3, a2 (ix2 ⟨b.val * 16384 + p.val, by omega⟩ ⟨h.val / 2 * 128 + (h.val % 2 * 3 + l.val), by omega⟩) := by
  unfold dotR
  rw [EReal.coe_add, coe_sum, coe_sum]
  congr 1
  · exact Finset.sum_congr rfl fun x _ => by rw [EReal.coe_mul, h0, h1]
  · exact Finset.sum_congr rfl fun x _ => h2 _

/-- The attention at query `q` of tile `i`, its keys tile by tile. -/
theorem attn_tiles (a0 : A0) (a1 a2 : A1) (a3 : A0) (a5 : A5) (b : Fin 2) (h : Fin 16) (i : Fin 32) (q : Fin 512) (e : Fin 1024) (he : e.val / 64 = h.val) (f : Fin 32 → ℝ)
    (hf : ∀ j, f j = (a5 (ix3 b j ⟨h.val, by omega⟩)).toReal) :
    attn a0 a1 a2 a3 a5 b ⟨512 * i.val + q.val, by omega⟩ e = ∑ p : Fin 32 × Fin 512, a3 (ix4 b p.1 e p.2) *
      ((wt (512 * p.1.val + p.2.val ≤ 512 * i.val + q.val) (dotR a0 a1 a2 b h ⟨512 * i.val + q.val, by omega⟩ ⟨512 * p.1.val + p.2.val, by omega⟩ + (f i - f p.1)) 0
        / ∑ p : Fin 32 × Fin 512, wt (512 * p.1.val + p.2.val ≤ 512 * i.val + q.val) (dotR a0 a1 a2 b h ⟨512 * i.val + q.val, by omega⟩ ⟨512 * p.1.val + p.2.val, by omega⟩ + (f i - f p.1)) 0 : ℝ) : EReal) := by
  have ho : ∀ (j : Fin 32) (x : Fin 512), offR a5 b h ⟨512 * j.val + x.val, by omega⟩ = f j := fun j x => by
    have e1 : (⟨(512 * j.val + x.val) / 512, by omega⟩ : Fin 32) = j := Fin.ext (by show (512 * j.val + x.val) / 512 = j.val; omega)
    rw [hf]
    unfold offR
    rw [show (⟨(⟨512 * j.val + x.val, by omega⟩ : Fin 16384).val / 512, by omega⟩ : Fin 32) = j from e1]
  have hh : (⟨e.val / 64, by omega⟩ : Fin 16) = h := Fin.ext he
  unfold attn wR
  rw [hh, sum_tiles, sum_tiles]
  simp only [tR, ho]
  refine Finset.sum_congr rfl fun p _ => ?_
  congr 2
  have := p.2.isLt
  congr 1 <;> exact Fin.ext (by show _ = _; simp only []; omega)

end Cert.Attn

end
-- ==== Proof.Blk.lean ====
module

public import proofs.«01_k».proof.Proof.Run
public import proofs.«01_k».proof.Proof.Spec
public import Idealize.ShloMosaic.Lib.Claim
public import Idealize.ShloMosaic.Lib.Pipeline.ValueKit
public import Idealize.ShloMosaic.Lib.Pipeline.Covers
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-! ## The blocks at a grid point, read at an index -/

/-- The batch, the pair of heads and the query tile of a grid point. -/
def tb (t : Fin cfg0.N) : Fin 2 := grid0.coords t 0
def th (t : Fin cfg0.N) : Fin 8 := grid0.coords t 1
def tq (t : Fin cfg0.N) : Fin 32 := grid0.coords t 2

theorem ofNat_val (n k : ℕ) (h : n < k) (hk : k ≤ 32) : (BitVec.ofNat 32 n).toNat = n := by
  rw [BitVec.toNat_ofNat]; omega

theorem nb (t : Fin cfg0.N) : (BitVec.ofNat 32 (grid0.coords t 0).val).toNat = (tb t).val := ofNat_val _ 2 (tb t).isLt (by decide)
theorem nh (t : Fin cfg0.N) : (BitVec.ofNat 32 (grid0.coords t 1).val).toNat = (th t).val := ofNat_val _ 8 (th t).isLt (by decide)
theorem nq (t : Fin cfg0.N) : (BitVec.ofNat 32 (grid0.coords t 2).val).toNat = (tq t).val := ofNat_val _ 32 (tq t).isLt (by decide)

theorem ix_0 (t : Fin cfg0.N) : win0_0.index t = ![0] := rfl
theorem ix_1 (t : Fin cfg0.N) : win0_1.index t = ![(tb t).val, (tq t).val, (th t).val, 0] := by rw [← nb, ← nh, ← nq]; rfl
theorem ix_2 (t : Fin cfg0.N) : win0_2.index t = ![(tb t).val, 0, 0, (th t).val] := by rw [← nb, ← nh]; rfl
theorem ix_3 (t : Fin cfg0.N) : win0_3.index t = ![(tb t).val, 0, 0, (th t).val] := by rw [← nb, ← nh]; rfl
theorem ix_4 (t : Fin cfg0.N) : win0_4.index t = ![(tb t).val, 0, (th t).val, 0] := by rw [← nb, ← nh]; rfl
theorem ix_6 (t : Fin cfg0.N) : win0_6.index t = ![(tb t).val, (tq t).val, (th t).val] := by rw [← nb, ← nh, ← nq]; rfl

variable (m : (ℓ : Loc nD τ sig) → Buf (Elt Ideal) ℓ) (c : Dev nD) (t : Fin cfg0.N)

theorem blk_q (e : Fin 128) (q : Fin 512) : iblk m c 1 t (ix4 0 0 e q)
    = m ((c : Thread nD τ).loc main_arg0) (ix4 (tb t) (tq t) ⟨128 * (th t).val + e.val, by omega⟩ q) := by
  blk_ext! [iblk, V, ix_1 t]

theorem blk_v (j : Fin 32) (e : Fin 128) (x : Fin 512) : iblk m c 4 t (ix4 0 j e x)
    = m ((c : Thread nD τ).loc main_arg3) (ix4 (tb t) j ⟨128 * (th t).val + e.val, by omega⟩ x) := by
  blk_ext! [iblk, V, ix_4 t]

theorem blk_k (j : Fin 32) (x : Fin 512) (e : Fin 128) : iblk m c 2 t (ix4 0 j x e)
    = m ((c : Thread nD τ).loc main_arg1) (ix2 ⟨(tb t).val * 16384 + (512 * j.val + x.val), by omega⟩ ⟨128 * (th t).val + e.val, by omega⟩) := by
  blk_ext! [iblk, V, ix_2 t]

theorem blk_kc (j : Fin 32) (x : Fin 512) (e : Fin 128) : iblk m c 3 t (ix4 0 j x e)
    = m ((c : Thread nD τ).loc main_arg2) (ix2 ⟨(tb t).val * 16384 + (512 * j.val + x.val), by omega⟩ ⟨128 * (th t).val + e.val, by omega⟩) := by
  blk_ext! [iblk, V, ix_3 t]

theorem blk_o (h : Fin 16) (j : Fin 32) : iblk m c 0 t (ix1 ⟨((tb t).val * 16 + h.val) * 32 + j.val, by omega⟩)
    = m ((c : Thread nD τ).loc main_arg5) (ix3 (tb t) j ⟨h.val, by omega⟩) := by
  blk_ext! [iblk, V, ix_0 t]

end Cert.KernelIdeal.Hand

end
-- ==== Proof.Elt1.lean ====
module

public import proofs.«01_k».proof.Proof.Body0
public import proofs.«01_k».proof.Proof.Alg
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic

open Cert.Attn

/-! ## A tile's update, at one column -/

theorem exp2_eq (x : EReal) : FloatOps.exp2 (F := Ideal) (φ := .f32) x = Ideal.exp2 x := rfl

theorem upd_m0 (X : Vals Ideal) (s : MA Ideal) (k kc : Vec Ideal S1x1x512x128 .bf16) (f0 f1 : Elt Ideal .f32) (v : Vec Ideal S1x1x128x512 .bf16) (q : Fin 512) :
    (updMA X s (scoreOf X k kc) f0 f1 v).m0 (ix3 0 0 q) = updM (s.m0 (ix3 0 0 q)) (fun x => (scoreOf X k kc).s0 (ix3 0 x q)) (X.v40 (ix2 0 q) - f0) := by
  dsimp only [updMA, scoreOf, updM]
  pointwise [k0_pay583, k0_pay580, k0_pay579, k0_pay578, k0_pay595, k0_pay594]
  rw [ofBits_neg_inf]

theorem upd_c0 (X : Vals Ideal) (s : MA Ideal) (k kc : Vec Ideal S1x1x512x128 .bf16) (f0 f1 : Elt Ideal .f32) (v : Vec Ideal S1x1x128x512 .bf16) (d : Fin 80) (q : Fin 512) :
    (updMA X s (scoreOf X k kc) f0 f1 v).c0 (ix3 0 d q) = updC (s.m0 (ix3 0 0 q)) (s.c0 (ix3 0 d q)) (fun x => (scoreOf X k kc).s0 (ix3 0 x q)) (X.v40 (ix2 0 q) - f0)
      (fun x => if h : d.val < 64 then v (ix4 0 0 ⟨d.val, by omega⟩ x) else X.v26 (ix2 ⟨d.val - 64, by omega⟩ x)) := by
  dsimp only [updMA, scoreOf, updC, updM]
  pointwise [k0_pay600, k0_pay599, k0_pay581, k0_pay582, k0_pay580, k0_pay579, k0_pay578, k0_pay595, k0_pay594]
  simp only [exp2_eq, ofBits_neg_inf]

theorem upd_m1 (X : Vals Ideal) (s : MA Ideal) (k kc : Vec Ideal S1x1x512x128 .bf16) (f0 f1 : Elt Ideal .f32) (v : Vec Ideal S1x1x128x512 .bf16) (q : Fin 512) :
    (updMA X s (scoreOf X k kc) f0 f1 v).m1 (ix3 0 0 q) = updM (s.m1 (ix3 0 0 q)) (fun x => (scoreOf X k kc).s1 (ix3 0 x q)) (X.v44 (ix2 0 q) - f1) := by
  dsimp only [updMA, scoreOf, updM]
  pointwise [k0_pay591, k0_pay588, k0_pay587, k0_pay586, k0_pay585, k0_pay584, k0_pay597, k0_pay598]
  rw [ofBits_neg_inf]

theorem upd_c1 (X : Vals Ideal) (s : MA Ideal) (k kc : Vec Ideal S1x1x512x128 .bf16) (f0 f1 : Elt Ideal .f32) (v : Vec Ideal S1x1x128x512 .bf16) (d : Fin 80) (q : Fin 512) :
    (updMA X s (scoreOf X k kc) f0 f1 v).c1 (ix3 0 d q) = updC (s.m1 (ix3 0 0 q)) (s.c1 (ix3 0 d q)) (fun x => (scoreOf X k kc).s1 (ix3 0 x q)) (X.v44 (ix2 0 q) - f1)
      (fun x => if h : d.val < 64 then v (ix4 0 0 ⟨64 + d.val, by omega⟩ x) else X.v26 (ix2 ⟨d.val - 64, by omega⟩ x)) := by
  dsimp only [updMA, scoreOf, updC, updM]
  pointwise [k0_pay601, k0_pay599, k0_pay589, k0_pay590, k0_pay588, k0_pay587, k0_pay586, k0_pay585, k0_pay584, k0_pay597, k0_pay598]
  simp only [exp2_eq, ofBits_neg_inf]

end Cert.KernelIdeal.Hand

end
-- ==== Proof.Elt2.lean ====
module

public import proofs.«01_k».proof.Proof.Body0
public import proofs.«01_k».proof.Proof.Alg
public import Idealize.ShloMosaic.Lib.Pointwise
public import Idealize.ShloMosaic.PureOps.Ideal
public import proofs.«01_k».proof.Proof.Elt1
@[expose] public section

set_option maxRecDepth 16384

noncomputable section

namespace Cert.KernelIdeal.Hand

open Cert.KernelIdeal Cert.KernelIdeal.Gen
open Idealize.ShloMosaic

open Cert.Attn

/-! ## The diagonal tile, at one column -/

theorem sel_le (x q : Fin 512) (a b : EReal) : (Scalar.select (IntOp.cmpi CmpIPredicate.sle (BitVec.ofNat 32 x.val) (BitVec.ofNat 32 q.val)) a b : EReal) = if x ≤ q then a else b := by
  have hx := x.isLt
  have hq := q.isLt
  have e : IntOp.cmpi CmpIPredicate.sle (BitVec.ofNat 32 x.val) (BitVec.ofNat 32 q.val) = 1#1 ↔ x ≤ q :=
    (WordCmp.cmpi_sle_ofNat_eq_one_iff (by omega) (by omega)).trans Fin.le_def.symm
  unfold Scalar.select
  by_cases h : x ≤ q
  · rw [if_pos h]; exact if_pos (e.mpr h)
  · rw [if_neg h]; exact if_neg fun h' => h (e.mp h')

theorem dia_m0 (X : Vals Ideal) (s : MA Ideal) (t : Sc Ideal) (f0 f1 : Elt Ideal .f32) (v : Vec Ideal S1x1x128x512 .bf16) (q : Fin 512) :
    (diagMA X s t f0 f1 v).m0 (ix3 0 0 q) = updM (s.m0 (ix3 0 0 q)) (fun x => if x ≤ q then t.s0 (ix3 0 x q) else ⊥) (X.v40 (ix2 0 q) - f0) := by
  dsimp only [diagMA, updM]
  pointwise [k0_pay778, k0_pay775, k0_pay774, k0_pay773, k0_pay772]
  simp only [exp2_eq, ofBits_neg_inf, sel_le]

theorem dia_m1 (X : Vals Ideal) (s : MA Ideal) (t : Sc Ideal) (f0 f1 : Elt Ideal .f32) (v : Vec Ideal S1x1x128x512 .bf16) (q : Fin 512) :
    (diagMA X s t f0 f1 v).m1 (ix3 0 0 q) = updM (s.m1 (ix3 0 0 q)) (fun x => if x ≤ q then t.s1 (ix3 0 x q) else ⊥) (X.v44 (ix2 0 q) - f1) := by
  dsimp only [diagMA, updM]
  pointwise [k0_pay785, k0_pay782, k0_pay781, k0_pay780, k0_pay779]
  simp only [exp2_eq, ofBits_neg_inf, sel_le]

theorem dia_c0 (X : Vals Ideal) (s : MA Ideal) (t : Sc Ideal) (f0 f1 : Elt Ideal .f32) (v : Vec Ideal S1x1x128x512 .bf16) (d : Fin 80) (q : Fin 512) :
    (diagMA X s t f0 f1 v).c0 (ix3 0 d q) = updC (s.m0 (ix3 0 0 q)) (s.c0 (ix3 0 d q)) (fun x => if x ≤ q then t.s0 (ix3 0 x q) else ⊥) (X.v40 (ix2 0 q) - f0)
      (fun x => if h : d.val < 64 then v (ix4 0 0 ⟨d.val, by omega⟩ x) else X.v26 (ix2 ⟨d.val - 64, by omega⟩ x)) := by
  dsimp only [diagMA, updC, updM]
  pointwise [k0_pay790, k0_pay777, k0_pay787, k0_pay788, k0_pay789, k0_pay776, k0_pay775, k0_pay774, k0_pay773, k0_pay772, k0_pay786]
  simp only [exp2_eq, ofBits_neg_inf, sel_le]

theorem dia_c1 (X : Vals Ideal) (s : MA Ideal) (t : Sc Ideal) (f0 f1 : Elt Ideal .f32) (v : Vec Ideal S1x1x128x512 .bf16) (d : Fin 80) (q : Fin 512) :
    (diagMA X s t f0 f1 v).c1 (ix3 0 d q) = updC (s.m1 (ix3 0 0 q)) (s.c1 (ix3 0 d q)) (fun x => if x ≤ q then t.s1 (ix3 0 x q) else ⊥) (X.v44 (ix2 0 q) - f1)
      (fun x => if h : d.val < 64 then v (ix4 0 0 ⟨64 + d.val, by omega⟩ x) else X.v26 (ix2 ⟨d.val - 64, by omega⟩ x)) := by
  dsimp only [diagMA, updC, updM]
  pointwise [k0_pay791, k0_pay783, k0_pay784, k0_pay786, k0_pay782, k0_pay781, k0_pay780, k0_pay779]
  simp only [exp2_eq, ofBits_neg_inf, sel_le]

end Cert.KernelIdeal.Hand

end
-- ==== Proof.Elt3.lean ====
module

public import proofs.«01_k».proof.Proof.Body0
public import proofs.«01_k».proof.Proof.Alg
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic

open Cert.Attn

/-! ## A tile's scores, at one element -/

theorem mask0 : ∀ x : Fin 128, IntOp.andi (IntOp.cmpi CmpIPredicate.sge (BitVec.ofNat 32 x.val) 0#32) (IntOp.cmpi CmpIPredicate.slt (BitVec.ofNat 32 x.val) 3#32) = if x.val < 3 then 1#1 else 0#1 := by decide
theorem mask1 : ∀ x : Fin 128, IntOp.andi (IntOp.cmpi CmpIPredicate.sge (BitVec.ofNat 32 x.val) 3#32) (IntOp.cmpi CmpIPredicate.slt (BitVec.ofNat 32 x.val) 6#32) = if 3 ≤ x.val ∧ x.val < 6 then 1#1 else 0#1 := by decide

theorem q14_lo (i : grid0.Coords) (O : Vec Ideal S1024 .f32) (Q : Vec Ideal S1x1x128x512 .bf16) (x : Fin 128) (q : Fin 512) :
    (qVals i O Q).v14 (ix2 ⟨x.val, by omega⟩ q) = if h : x.val < 64 then Q (ix4 0 0 x q) else 0 := by
  dsimp only [qVals]
  pointwise [k0_pay716, k0_pay714, k0_pay715]
  by_cases h : x.val < 64
  · rw [dif_pos h, dif_pos h]
  · rw [dif_neg h, dif_neg h, dif_pos (by omega)]

theorem q14_hi (i : grid0.Coords) (O : Vec Ideal S1024 .f32) (Q : Vec Ideal S1x1x128x512 .bf16) (x : Fin 128) (q : Fin 512) :
    (qVals i O Q).v14 (ix2 ⟨128 + x.val, by omega⟩ q) = if x.val < 3 then 1 else 0 := by
  dsimp only [qVals]
  pointwise [k0_pay716, k0_pay714, k0_pay715]
  rw [dif_neg (by omega), dif_neg (by omega), show 128 + x.val - 64 - 64 = x.val by omega, mask0]
  by_cases h : x.val < 3
  · rw [if_pos h, if_pos h]; rfl
  · rw [if_neg h, if_neg h]; rfl

theorem q25_lo (i : grid0.Coords) (O : Vec Ideal S1024 .f32) (Q : Vec Ideal S1x1x128x512 .bf16) (x : Fin 128) (q : Fin 512) :
    (qVals i O Q).v25 (ix2 ⟨x.val, by omega⟩ q) = if h : x.val < 64 then 0 else Q (ix4 0 0 x q) := by
  dsimp only [qVals]
  pointwise [k0_pay717, k0_pay714, k0_pay715]
  by_cases h : x.val < 64
  · rw [dif_pos h, dif_pos h]
  · rw [dif_neg h, dif_neg h, dif_pos (by omega)]
    congr 2
    exact Fin.ext (by show 64 + (x.val - 64) = x.val; omega)

theorem q25_hi (i : grid0.Coords) (O : Vec Ideal S1024 .f32) (Q : Vec Ideal S1x1x128x512 .bf16) (x : Fin 128) (q : Fin 512) :
    (qVals i O Q).v25 (ix2 ⟨128 + x.val, by omega⟩ q) = if 3 ≤ x.val ∧ x.val < 6 then 1 else 0 := by
  dsimp only [qVals]
  pointwise [k0_pay717, k0_pay714, k0_pay715]
  rw [dif_neg (by omega), dif_neg (by omega), show 128 + x.val - 64 - 64 = x.val by omega, mask1]
  by_cases h : 3 ≤ x.val ∧ x.val < 6
  · rw [if_pos h, if_pos h]; rfl
  · rw [if_neg h, if_neg h]; rfl

theorem q26 (i : grid0.Coords) (O : Vec Ideal S1024 .f32) (Q : Vec Ideal S1x1x128x512 .bf16) (l : Fin 16) (q : Fin 512) :
    (qVals i O Q).v26 (ix2 l q) = 1 := by
  dsimp only [qVals]
  pointwise [k0_pay718]

theorem q40 (i : grid0.Coords) (O : Vec Ideal S1024 .f32) (Q : Vec Ideal S1x1x128x512 .bf16) (q : Fin 512) :
    (qVals i O Q).v40 (ix2 0 q) = offOf O (pO i 0 (i 2).val) := by
  dsimp only [qVals]
  pointwise [k0_pay719]
  rw [at_o0]

theorem q44 (i : grid0.Coords) (O : Vec Ideal S1024 .f32) (Q : Vec Ideal S1x1x128x512 .bf16) (q : Fin 512) :
    (qVals i O Q).v44 (ix2 0 q) = offOf O (pO i 1 (i 2).val) := by
  dsimp only [qVals]
  pointwise [k0_pay720]
  rw [at_o1]

theorem score_s0 (X : Vals Ideal) (k kc : Vec Ideal S1x1x512x128 .bf16) (j : Fin 512) (q : Fin 512) :
    (scoreOf X k kc).s0 (ix3 0 j q) = ∑ x : Fin 128, k (ix4 0 0 j x) * X.v14 (ix2 ⟨x.val, by omega⟩ q) + ∑ x : Fin 128, kc (ix4 0 0 j x) * X.v14 (ix2 ⟨128 + x.val, by omega⟩ q) := by
  dsimp only [scoreOf]
  pointwise [k0_pay594, k0_pay593, k0_pay592]

theorem score_s1 (X : Vals Ideal) (k kc : Vec Ideal S1x1x512x128 .bf16) (j : Fin 512) (q : Fin 512) :
    (scoreOf X k kc).s1 (ix3 0 j q) = ∑ x : Fin 128, k (ix4 0 0 j x) * X.v25 (ix2 ⟨x.val, by omega⟩ q) + ∑ x : Fin 128, kc (ix4 0 0 j x) * X.v25 (ix2 ⟨128 + x.val, by omega⟩ q) := by
  dsimp only [scoreOf]
  pointwise [k0_pay597, k0_pay596, k0_pay592]

theorem sum_lo (f : Fin 128 → EReal) : ∑ x : Fin 128, (if x.val < 64 then f x else 0) = ∑ d : Fin 64, f ⟨d.val, by omega⟩ := by
  rw [show (∑ x : Fin 128, (if x.val < 64 then f x else 0)) = ∑ x : Fin (64 + 64), (if x.val < 64 then f x else 0) from rfl, Fin.sum_univ_add]
  rw [Finset.sum_eq_zero (s := Finset.univ) (f := fun x : Fin 64 => if (Fin.natAdd 64 x).val < 64 then f (Fin.natAdd 64 x) else 0) (fun x _ => if_neg (by simp)), add_zero]
  exact Finset.sum_congr rfl fun d _ => if_pos d.isLt

theorem sum_hi (f : Fin 128 → EReal) : ∑ x : Fin 128, (if x.val < 64 then 0 else f x) = ∑ d : Fin 64, f ⟨64 + d.val, by omega⟩ := by
  rw [show (∑ x : Fin 128, (if x.val < 64 then 0 else f x)) = ∑ x : Fin (64 + 64), (if x.val < 64 then 0 else f x) from rfl, Fin.sum_univ_add]
  rw [Finset.sum_eq_zero (s := Finset.univ) (f := fun x : Fin 64 => if (Fin.castAdd 64 x).val < 64 then 0 else f (Fin.castAdd 64 x)) (fun x _ => if_pos x.isLt), zero_add]
  exact Finset.sum_congr rfl fun d _ => if_neg (by simp)

theorem sum_three (o : ℕ) (ho : o + 3 ≤ 128) (f : Fin 128 → EReal) : ∑ x : Fin 128, (if o ≤ x.val ∧ x.val < o + 3 then f x else 0) = ∑ l : Fin 3, f ⟨o + l.val, by omega⟩ := by
  rw [← Finset.sum_filter]
  symm
  refine Finset.sum_bij (fun l _ => ⟨o + l.val, by omega⟩) (fun l _ => ?_) (fun a _ b _ h => ?_) (fun x hx => ?_) (fun l _ => rfl)
  · simp only [Finset.mem_filter, Finset.mem_univ, true_and]; omega
  · have := congrArg Fin.val h; exact Fin.ext (by simpa using this)
  · simp only [Finset.mem_filter, Finset.mem_univ, true_and] at hx
    exact ⟨⟨x.val - o, by omega⟩, Finset.mem_univ _, Fin.ext (by simp; omega)⟩

theorem sc0 (i : grid0.Coords) (O : Vec Ideal S1024 .f32) (Q : Vec Ideal S1x1x128x512 .bf16) (k kc : Vec Ideal S1x1x512x128 .bf16) (j q : Fin 512) :
    (scoreOf (qVals i O Q) k kc).s0 (ix3 0 j q) = ∑ d : Fin 64, k (ix4 0 0 j ⟨d.val, by omega⟩) * Q (ix4 0 0 ⟨d.val, by omega⟩ q) + ∑ l : Fin 3, kc (ix4 0 0 j ⟨0 + l.val, by omega⟩) := by
  rw [score_s0]
  simp only [q14_lo, q14_hi]
  congr 1
  · rw [← sum_lo (fun x => k (ix4 0 0 j x) * Q (ix4 0 0 x q))]
    refine Finset.sum_congr rfl fun x _ => ?_
    by_cases h : x.val < 64
    · rw [dif_pos h, if_pos h]
    · rw [dif_neg h, if_neg h, mul_zero]
  · rw [← sum_three 0 (by norm_num) (fun x => kc (ix4 0 0 j x))]
    refine Finset.sum_congr rfl fun x _ => ?_
    by_cases h : x.val < 3
    · rw [if_pos h, if_pos (by omega), mul_one]
    · rw [if_neg h, if_neg (by omega), mul_zero]

theorem sc1 (i : grid0.Coords) (O : Vec Ideal S1024 .f32) (Q : Vec Ideal S1x1x128x512 .bf16) (k kc : Vec Ideal S1x1x512x128 .bf16) (j q : Fin 512) :
    (scoreOf (qVals i O Q) k kc).s1 (ix3 0 j q) = ∑ d : Fin 64, k (ix4 0 0 j ⟨64 + d.val, by omega⟩) * Q (ix4 0 0 ⟨64 + d.val, by omega⟩ q) + ∑ l : Fin 3, kc (ix4 0 0 j ⟨3 + l.val, by omega⟩) := by
  rw [score_s1]
  simp only [q25_lo, q25_hi]
  congr 1
  · rw [← sum_hi (fun x => k (ix4 0 0 j x) * Q (ix4 0 0 x q))]
    refine Finset.sum_congr rfl fun x _ => ?_
    by_cases h : x.val < 64
    · rw [dif_pos h, if_pos h, mul_zero]
    · rw [dif_neg h, if_neg h]
  · rw [← sum_three 3 (by norm_num) (fun x => kc (ix4 0 0 j x))]
    refine Finset.sum_congr rfl fun x _ => ?_
    by_cases h : 3 ≤ x.val ∧ x.val < 6
    · rw [if_pos h, if_pos (by omega), mul_one]
    · rw [if_neg h, if_neg (by omega), mul_zero]

theorem clr_m0 (q : Fin 512) : (clearMA (F := Ideal)).m0 (ix3 0 0 q) = ⊥ := by
  dsimp only [clearMA]
  pointwise [k0_pay721]
  rw [ofBits_neg_inf]

theorem clr_m1 (q : Fin 512) : (clearMA (F := Ideal)).m1 (ix3 0 0 q) = ⊥ := by
  dsimp only [clearMA]
  pointwise [k0_pay721]
  rw [ofBits_neg_inf]

theorem clr_c0 (d : Fin 80) (q : Fin 512) : (clearMA (F := Ideal)).c0 (ix3 0 d q) = 0 := by
  dsimp only [clearMA]
  pointwise [k0_pay722]

theorem clr_c1 (d : Fin 80) (q : Fin 512) : (clearMA (F := Ideal)).c1 (ix3 0 d q) = 0 := by
  dsimp only [clearMA]
  pointwise [k0_pay722]

theorem out_5 (a b : Vec Ideal S1x80x512 .f32) (q : Fin 512) (e : Fin 128) : k0_pay5 (F := Ideal) a b (ix3 0 q e) =
    (if h : e.val < 64 then Ideal.div (a (ix3 0 ⟨e.val, by omega⟩ q)) (a (ix3 0 64 q))
    else Ideal.div (b (ix3 0 ⟨e.val - 64, by omega⟩ q)) (b (ix3 0 64 q))) := by
  pointwise [k0_pay5]

theorem key_at (K : Vec Ideal S1x32x512x128 .bf16) (j : Fin 32) (x : Fin 512) (e : Fin 128) : keyOf K (pK j.val) (ix4 0 0 x e) = K (ix4 0 j x e) := by
  have hj : j.val % 32 = j.val := Nat.mod_eq_of_lt j.isLt
  dsimp only [keyOf, pK]
  show K _ = K _
  congr 1
  funext a
  fin_cases a <;> apply Fin.ext
  · rfl
  · show j.val % 32 + 1 * 0 = j.val
    omega
  · show 0 + 1 * x.val = x.val
    omega
  · show 0 + 1 * e.val = e.val
    omega

theorem val_at (V : Vec Ideal S1x32x128x512 .bf16) (j : Fin 32) (x : Fin 512) (e : Fin 128) : valOf V (pV j.val) (ix4 0 0 e x) = V (ix4 0 j e x) := by
  have hj : j.val % 32 = j.val := Nat.mod_eq_of_lt j.isLt
  dsimp only [valOf, pV]
  show V _ = V _
  congr 1
  funext a
  fin_cases a <;> apply Fin.ext
  · rfl
  · show j.val % 32 + 1 * 0 = j.val
    omega
  · show 0 + 1 * e.val = e.val
    omega
  · show 0 + 1 * x.val = x.val
    omega

theorem off_at (i : grid0.Coords) (r : Fin 2) (O : Vec Ideal S1024 .f32) (j : Fin 32) (n : Fin 1024) (hn : n.val = (16 * (i 0).val + 2 * (i 1).val + r.val) * 32 + j.val) :
    offOf O (pO i r j.val) = O (ix1 n) := by
  have hj : j.val % 32 = j.val := Nat.mod_eq_of_lt j.isLt
  dsimp only [offOf, pO]
  congr 1
  funext a
  fin_cases a; apply Fin.ext
  show (16 * (i 0).val + 2 * (i 1).val + r.val) * 32 + j.val % 32 + 1 * 0 = n.val
  omega

end Cert.KernelIdeal.Hand

end
-- ==== Proof.Lo.lean ====
module

public import proofs.«01_k».proof.Proof.Count
public import Idealize.ShloMosaic.PureOps.Ideal

@[expose] public section

set_option maxRecDepth 16384

noncomputable section

namespace Cert.KernelIdeal.Hand

open Cert.KernelIdeal Cert.KernelIdeal.Gen
open Idealize.ShloMosaic

/-! ## Over the extended reals no block is skipped: no gap is above the named constant -/

theorem andi_right {x y : BitVec 1} (h : IntOp.andi x y = 1#1) : y = 1#1 := by
  revert x y; decide

theorem gap_top : (Named.named (F := Ideal) κ "exp2_zero_gap" (φ := .f32) 0x43180000#32 : EReal) = ⊤ := rfl

theorem never (a : IVec S32x1 1) (x : FVec Ideal S32x1 .f32) (i : S32x1.Idx)
    (h : andi a (cmpf (F := Ideal) .ogt x (broadcast S32x1 (Named.named (F := Ideal) κ "exp2_zero_gap" (φ := .f32) 0x43180000#32))) i = 1#1) : False := by
  have h1 : FloatOps.cmpf (F := Ideal) (φ := .f32) .ogt (x i) (Named.named (F := Ideal) κ "exp2_zero_gap" (φ := .f32) 0x43180000#32) = 1#1 := andi_right h
  rw [gap_top] at h1
  have h2 : Ideal.cmp .ogt (x i) ⊤ = 1#1 := h1
  simp [Ideal.cmp] at h2

theorem cnt1_zero (n : ℕ) (hn : n < 32) (v40 : FVec Ideal S1x512 .f32) (v123 v129 : FVec Ideal S1x1 .f32) (v354 : FVec Ideal S32x1 .f32) (v360 v368 v376 : Elt Ideal .f32) :
    ∃ w, w ≤ 0 ∧ extractAt ![0, 0, 0] (k0_pay753 (BitVec.ofNat 32 n) v40 (iota .tc S32x1 32 [0] iota_S32x1_d0_w32) v123 v129 v354 v360 v368 v376) inpos_S1x1x1_p0_0_0 = BitVec.ofNat 32 w :=
  flagSum_le _ 0 fun i hi => (never _ _ i hi).elim

theorem cnt2_zero (n : ℕ) (hn : n < 32) (v44 : FVec Ideal S1x512 .f32) (v409 v415 : FVec Ideal S1x1 .f32) (v656 : FVec Ideal S32x1 .f32) (v658 : IVec S32x1 1) (v662 : Elt Ideal .f32) :
    ∃ w, w ≤ 0 ∧ extractAt ![0, 0, 0] (k0_pay771 (BitVec.ofNat 32 n) v44 (iota .tc S32x1 32 [0] iota_S32x1_d0_w32) v409 v415 v656 v658 v662) inpos_S1x1x1_p0_0_0 = BitVec.ofNat 32 w :=
  flagSum_le _ 0 fun i hi => (never _ _ i hi).elim

theorem lo_zero (i : grid0.Coords) (O : Vec Ideal S1024 .f32) (Q : Vec Ideal S1x1x128x512 .bf16) (KA : Vec Ideal S1x32x128 .f32) : (lo i O Q KA).val = 0 := by
  have hi : (i 2).val < 32 := (i 2).isLt
  obtain ⟨w, hw, e⟩ := minsi_of (n := 0) (x := (counts i O Q KA).1) (y := (counts i O Q KA).2) (cnt1_zero _ hi _ _ _ _ _ _ _) (cnt2_zero _ hi _ _ _ _ _ _)
  have h := (lo_eq i O Q KA).symm.trans e
  have hl := (lo i O Q KA).isLt
  have h2 := congrArg BitVec.toNat h
  rw [BitVec.toNat_ofNat, BitVec.toNat_ofNat] at h2
  omega

end Cert.KernelIdeal.Hand

end
-- ==== Proof.Col.lean ====
module

public import proofs.«01_k».proof.Proof.Elt2
public import proofs.«01_k».proof.Proof.Elt3
public import proofs.«01_k».proof.Proof.Lo

@[expose] public section

set_option maxRecDepth 16384

noncomputable section

namespace Cert.KernelIdeal.Hand

open Cert.KernelIdeal Cert.KernelIdeal.Gen
open Idealize.ShloMosaic
open Cert.Attn

/-! ## One column of one head -/

def mR (s : MA Ideal) (r : Fin 2) (q : Fin 512) : EReal := match r with | 0 => s.m0 (ix3 0 0 q) | 1 => s.m1 (ix3 0 0 q)
def cR (s : MA Ideal) (r : Fin 2) (d : Fin 80) (q : Fin 512) : EReal := match r with | 0 => s.c0 (ix3 0 d q) | 1 => s.c1 (ix3 0 d q)
def sR (t : Sc Ideal) (r : Fin 2) (x q : Fin 512) : EReal := match r with | 0 => t.s0 (ix3 0 x q) | 1 => t.s1 (ix3 0 x q)

/-- The values a column's accumulator gathers: the head's 64 rows, then ones. -/
def vR (V : Vec Ideal S1x32x128x512 .bf16) (r : Fin 2) (j : Fin 32) (d : Fin 80) (x : Fin 512) : EReal :=
  if h : d.val < 64 then V (ix4 0 j ⟨64 * r.val + d.val, by omega⟩ x) else 1

/-- The score of key `x` of tile `j` against query `q`, before the shift between the two tiles. -/
def scR (Q : Vec Ideal S1x1x128x512 .bf16) (K KC : Vec Ideal S1x32x512x128 .bf16) (r : Fin 2) (j : Fin 32) (x q : Fin 512) : EReal :=
  ∑ d : Fin 64, K (ix4 0 j x ⟨64 * r.val + d.val, by omega⟩) * Q (ix4 0 0 ⟨64 * r.val + d.val, by omega⟩ q) + ∑ l : Fin 3, KC (ix4 0 j x ⟨3 * r.val + l.val, by omega⟩)

theorem score_at (i : grid0.Coords) (O : Vec Ideal S1024 .f32) (Q : Vec Ideal S1x1x128x512 .bf16) (K KC : Vec Ideal S1x32x512x128 .bf16) (r : Fin 2) (j : Fin 32) (x q : Fin 512) :
    sR (scoreAt (qVals i O Q) K KC j.val) r x q = scR Q K KC r j x q := by
  unfold scR
  match r with
  | 0 =>
    refine (sc0 i O Q _ _ x q).trans ?_
    congr 1
    · refine Finset.sum_congr rfl fun d _ => ?_
      rw [key_at]
      have e : (⟨d.val, by omega⟩ : Fin 128) = ⟨64 * (0 : Fin 2).val + d.val, by simp; omega⟩ := Fin.ext (by simp)
      rw [e]
    · refine Finset.sum_congr rfl fun l _ => ?_
      rw [key_at]
      have e : (⟨0 + l.val, by omega⟩ : Fin 128) = ⟨3 * (0 : Fin 2).val + l.val, by simp; omega⟩ := Fin.ext (by simp)
      rw [e]
  | 1 =>
    refine (sc1 i O Q _ _ x q).trans ?_
    congr 1
    · exact Finset.sum_congr rfl fun d _ => by rw [key_at]; rfl
    · exact Finset.sum_congr rfl fun d _ => by rw [key_at]; rfl

theorem vals_at0 (i : grid0.Coords) (O : Vec Ideal S1024 .f32) (Q : Vec Ideal S1x1x128x512 .bf16) (V : Vec Ideal S1x32x128x512 .bf16) (j : Fin 32) (d : Fin 80) :
    (fun x : Fin 512 => if h : d.val < 64 then valOf V (pV j.val) (ix4 0 0 ⟨d.val, by omega⟩ x) else (qVals i O Q).v26 (ix2 ⟨d.val - 64, by omega⟩ x)) = fun x => vR V 0 j d x := by
  funext x
  unfold vR
  by_cases h : d.val < 64
  · rw [dif_pos h, dif_pos h, val_at]
    have e : (⟨d.val, by omega⟩ : Fin 128) = ⟨64 * (0 : Fin 2).val + d.val, by simp; omega⟩ := Fin.ext (by simp)
    rw [e]
  · rw [dif_neg h, dif_neg h, q26]

theorem vals_at1 (i : grid0.Coords) (O : Vec Ideal S1024 .f32) (Q : Vec Ideal S1x1x128x512 .bf16) (V : Vec Ideal S1x32x128x512 .bf16) (j : Fin 32) (d : Fin 80) :
    (fun x : Fin 512 => if h : d.val < 64 then valOf V (pV j.val) (ix4 0 0 ⟨64 + d.val, by omega⟩ x) else (qVals i O Q).v26 (ix2 ⟨d.val - 64, by omega⟩ x)) = fun x => vR V 1 j d x := by
  funext x
  unfold vR
  by_cases h : d.val < 64
  · rw [dif_pos h, dif_pos h, val_at]
    rfl
  · rw [dif_neg h, dif_neg h, q26]

section
variable (i : grid0.Coords) (O : Vec Ideal S1024 .f32) (Q : Vec Ideal S1x1x128x512 .bf16) (K KC : Vec Ideal S1x32x512x128 .bf16) (V : Vec Ideal S1x32x128x512 .bf16)

theorem ma_m (s0 : MA Ideal) (n : ℕ) (r : Fin 2) (q : Fin 512) (j : Fin 32) (hj : (i 2).val - 1 - n = j.val) :
    mR (maAt (qVals i O Q) i O K KC V s0 (n + 1)) r q = updM (mR (maAt (qVals i O Q) i O K KC V s0 n) r q) (fun x => scR Q K KC r j x q)
      (offOf O (pO i r (i 2).val) - offOf O (pO i r j.val)) := by
  rw [← funext fun x => score_at i O Q K KC r j x q, maAt, hj]
  match r with
  | 0 => exact (upd_m0 ..).trans (by rw [q40]; rfl)
  | 1 => exact (upd_m1 ..).trans (by rw [q44]; rfl)

theorem ma_c (s0 : MA Ideal) (n : ℕ) (r : Fin 2) (q : Fin 512) (d : Fin 80) (j : Fin 32) (hj : (i 2).val - 1 - n = j.val) :
    cR (maAt (qVals i O Q) i O K KC V s0 (n + 1)) r d q = updC (mR (maAt (qVals i O Q) i O K KC V s0 n) r q) (cR (maAt (qVals i O Q) i O K KC V s0 n) r d q)
      (fun x => scR Q K KC r j x q) (offOf O (pO i r (i 2).val) - offOf O (pO i r j.val)) (fun x => vR V r j d x) := by
  rw [← funext fun x => score_at i O Q K KC r j x q, maAt, hj]
  match r with
  | 0 => exact (upd_c0 ..).trans (by rw [q40, vals_at0]; rfl)
  | 1 => exact (upd_c1 ..).trans (by rw [q44, vals_at1]; rfl)

variable (iq : Fin 32) (hiq : (i 2).val = iq.val)

include hiq in
theorem di_m (r : Fin 2) (q : Fin 512) :
    mR (diag0 i O Q K KC V) r q = updM ⊥ (fun x => if x ≤ q then scR Q K KC r iq x q else ⊥) (offOf O (pO i r iq.val) - offOf O (pO i r iq.val)) := by
  simp only [← score_at i O Q K KC r iq]
  rw [diag0, hiq]
  match r with
  | 0 => exact (dia_m0 ..).trans (by rw [q40, clr_m0, hiq]; rfl)
  | 1 => exact (dia_m1 ..).trans (by rw [q44, clr_m1, hiq]; rfl)

include hiq in
theorem di_c (r : Fin 2) (q : Fin 512) (d : Fin 80) :
    cR (diag0 i O Q K KC V) r d q = updC ⊥ 0 (fun x => if x ≤ q then scR Q K KC r iq x q else ⊥) (offOf O (pO i r iq.val) - offOf O (pO i r iq.val)) (fun x => vR V r iq d x) := by
  simp only [← score_at i O Q K KC r iq]
  rw [diag0, hiq]
  match r with
  | 0 => exact (dia_c0 ..).trans (by rw [q40, clr_m0, clr_c0, hiq, vals_at0 i O Q V iq d]; rfl)
  | 1 => exact (dia_c1 ..).trans (by rw [q44, clr_m1, clr_c1, hiq, vals_at1 i O Q V iq d]; rfl)

/-- Which keys have been gathered once the diagonal tile and `n` tiles below it are done. -/
def inc (iq : Fin 32) (n : ℕ) (q : Fin 512) (j : Fin 32) (x : Fin 512) : Prop := (j.val = iq.val ∧ x ≤ q) ∨ (iq.val - n ≤ j.val ∧ j.val < iq.val)
instance (iq : Fin 32) (n : ℕ) (q : Fin 512) (j : Fin 32) (x : Fin 512) : Decidable (inc iq n q j x) := by unfold inc; infer_instance

variable (r : Fin 2) (q : Fin 512) (σ : Fin 32 → Fin 512 → ℝ) (f : Fin 32 → ℝ)
  (hσ : ∀ j x, scR Q K KC r j x q = (σ j x : EReal)) (hf : ∀ j : Fin 32, offOf O (pO i r j.val) = (f j : EReal))

include hσ hf hiq in
theorem gathered (n : ℕ) (hn : n ≤ iq.val) : ∃ M : ℝ, mR (maAt (qVals i O Q) i O K KC V (diag0 i O Q K KC V) n) r q = (M : EReal)
    ∧ ∀ d, cR (maAt (qVals i O Q) i O K KC V (diag0 i O Q K KC V) n) r d q
      = ∑ j, ∑ x, vR V r j d x * (wt (inc iq n q j x) (σ j x + (f iq - f j)) M : EReal) := by
  have hi : iq.val < 32 := iq.isLt
  induction n with
  | zero =>
    obtain ⟨M, h1, h2⟩ := col_first (f iq - f iq) q (σ iq) (fun x => if x ≤ q then scR Q K KC r iq x q else ⊥) (fun x => by simp only [hσ])
    have hd : offOf O (pO i r iq.val) - offOf O (pO i r iq.val) = ((f iq - f iq : ℝ) : EReal) := by
      rw [EReal.coe_sub]; exact congrArg₂ _ (hf iq) (hf iq)
    refine ⟨M, (di_m i O Q K KC V iq hiq r q).trans (by rw [hd, h1]), fun d => (di_c i O Q K KC V iq hiq r q d).trans ?_⟩
    rw [hd, h2]
    have h3 := step_sum (fun _ _ => False) (inc iq 0 q) (fun j x => σ j x + (f iq - f j)) M M (fun j x => vR V r j d x) iq (fun _ => not_false)
      (fun j x hj => ⟨fun h => by
        rcases h with h | h
        · exact hj (Fin.ext h.1)
        · omega, False.elim⟩) (fun x => (wt (x ≤ q) (σ iq x + (f iq - f iq)) M : EReal)) (fun x => by
          have e : inc iq 0 q iq x ↔ x ≤ q := ⟨fun h => by
            rcases h with h | h
            · exact h.2
            · exact absurd h.2 (lt_irrefl _), fun h => .inl ⟨rfl, h⟩⟩
          unfold wt
          simp only [e])
    rw [← h3]
    simp [wt]
  | succ n ih =>
    obtain ⟨M, hm, hc⟩ := ih (by omega)
    obtain ⟨j, hj⟩ : ∃ j : Fin 32, iq.val - 1 - n = j.val := ⟨⟨iq.val - 1 - n, by omega⟩, rfl⟩
    obtain ⟨M', h1, h2⟩ := col_step M (f iq - f j) (σ j) (fun x => scR Q K KC r j x q) (fun x => hσ j x)
    have hd : offOf O (pO i r iq.val) - offOf O (pO i r j.val) = ((f iq - f j : ℝ) : EReal) := by
      rw [EReal.coe_sub]; exact congrArg₂ _ (hf iq) (hf j)
    refine ⟨M', (ma_m i O Q K KC V _ n r q j (by rw [hiq]; exact hj)).trans (by rw [hiq, hd, hm, h1]), fun d => (ma_c i O Q K KC V _ n r q d j (by rw [hiq]; exact hj)).trans ?_⟩
    rw [hiq, hd, hm, h2, hc]
    refine step_sum (inc iq n q) (inc iq (n + 1) q) (fun j x => σ j x + (f iq - f j)) M M' (fun j x => vR V r j d x) j (fun x h => ?_) (fun j' x hj' => ?_) _ (fun x => ?_)
    · rcases h with h | h
      · omega
      · omega
    · have : j'.val ≠ j.val := fun h => hj' (Fin.ext h)
      unfold inc
      constructor <;> rintro (h | h)
      · exact .inl h
      · exact .inr (by omega)
      · exact .inl h
      · exact .inr (by omega)
    · unfold wt
      rw [if_pos (.inr (by omega))]

include hσ hf hiq in
/-- An element of the output block. -/
theorem out_elt (KA : Vec Ideal S1x32x128 .f32) (d : Fin 64) :
    outOf i O Q K KC V KA (ix3 0 q ⟨64 * r.val + d.val, by omega⟩)
      = ∑ p : Fin 32 × Fin 512, V (ix4 0 p.1 ⟨64 * r.val + d.val, by omega⟩ p.2) *
          ((wt (512 * p.1.val + p.2.val ≤ 512 * iq.val + q.val) (σ p.1 p.2 + (f iq - f p.1)) 0
            / ∑ p : Fin 32 × Fin 512, wt (512 * p.1.val + p.2.val ≤ 512 * iq.val + q.val) (σ p.1 p.2 + (f iq - f p.1)) 0 : ℝ) : EReal) := by
  have hi : iq.val < 32 := iq.isLt
  obtain ⟨M, -, hc⟩ := gathered i O Q K KC V iq hiq r q σ f hσ hf iq.val le_rfl
  have hinc : ∀ (p : Fin 32 × Fin 512), inc iq iq.val q p.1 p.2 ↔ 512 * p.1.val + p.2.val ≤ 512 * iq.val + q.val := fun p => by
    have := p.2.isLt
    have := q.isLt
    unfold inc
    rw [Fin.le_def]
    constructor
    · rintro (h | h) <;> omega
    · intro h
      by_cases hp : p.1.val = iq.val
      · exact .inl ⟨hp, by omega⟩
      · exact .inr (by omega)
  have hw : ∀ p : Fin 32 × Fin 512, wt (inc iq iq.val q p.1 p.2) (σ p.1 p.2 + (f iq - f p.1)) M
      = wt (512 * p.1.val + p.2.val ≤ 512 * iq.val + q.val) (σ p.1 p.2 + (f iq - f p.1)) M := fun p => by
    unfold wt; simp only [hinc]
  have hc' : ∀ e, cR (maAt (qVals i O Q) i O K KC V (diag0 i O Q K KC V) iq.val) r e q
      = ∑ p : Fin 32 × Fin 512, vR V r p.1 e p.2 * (wt (512 * p.1.val + p.2.val ≤ 512 * iq.val + q.val) (σ p.1 p.2 + (f iq - f p.1)) M : EReal) := fun e => by
    rw [hc e, Fintype.sum_prod_type]
    exact Finset.sum_congr rfl fun j _ => Finset.sum_congr rfl fun x _ => by rw [hw (j, x)]
  have ho : outOf i O Q K KC V KA (ix3 0 q ⟨64 * r.val + d.val, by omega⟩)
      = Ideal.div (cR (maAt (qVals i O Q) i O K KC V (diag0 i O Q K KC V) iq.val) r ⟨d.val, by omega⟩ q) (cR (maAt (qVals i O Q) i O K KC V (diag0 i O Q K KC V) iq.val) r 64 q) := by
    unfold outOf
    rw [lo_zero, Nat.sub_zero, hiq]
    refine (out_5 _ _ _ _).trans ?_
    match r with
    | 0 =>
      rw [dif_pos (by simp)]
      congr 3
      exact Fin.ext (by simp)
    | 1 =>
      rw [dif_neg (by simp)]
      congr 3
      exact Fin.ext (by simp)
  rw [ho, hc', hc']
  have h1 : ∀ p : Fin 32 × Fin 512, vR V r p.1 64 p.2 = 1 := fun p => dif_neg (by decide)
  have h2 : ∀ p : Fin 32 × Fin 512, vR V r p.1 ⟨d.val, by omega⟩ p.2 = V (ix4 0 p.1 ⟨64 * r.val + d.val, by omega⟩ p.2) := fun p => dif_pos d.isLt
  simp only [h1, h2]
  rw [div_sum _ _ _ (wt_sum_pos Finset.univ (fun p : Fin 32 × Fin 512 => 512 * p.1.val + p.2.val ≤ 512 * iq.val + q.val) (fun p => σ p.1 p.2 + (f iq - f p.1)) M (iq, q) (Finset.mem_univ _) le_rfl)]
  refine Finset.sum_congr rfl fun p _ => ?_
  rw [wt_norm Finset.univ (fun p : Fin 32 × Fin 512 => 512 * p.1.val + p.2.val ≤ 512 * iq.val + q.val) (fun p => σ p.1 p.2 + (f iq - f p.1)) M p]

end

end Cert.KernelIdeal.Hand

end
-- ==== Proof.Arr.lean ====
module

public import proofs.«01_k».proof.Proof.Blk
public import proofs.«01_k».proof.Proof.Col

@[expose] public section

set_option maxRecDepth 16384

noncomputable section

namespace Cert.KernelIdeal.Hand

open Cert.KernelIdeal Cert.KernelIdeal.Gen
open Idealize.ShloMosaic Idealize.ShloMosaic.TcCoe
open Idealize.SL.Sem
open Cert.Attn

variable (m : (ℓ : Loc nD τ sig) → Buf (Elt Ideal) ℓ) (c : Dev nD)

abbrev g0 : A0 := m ((c : Thread nD τ).loc main_arg0)
abbrev g1 : A1 := m ((c : Thread nD τ).loc main_arg1)
abbrev g2 : A1 := m ((c : Thread nD τ).loc main_arg2)
abbrev g3 : A0 := m ((c : Thread nD τ).loc main_arg3)
abbrev g5 : A5 := m ((c : Thread nD τ).loc main_arg5)

/-- The head of lane group `r` at a point. -/
def hd (t : Fin cfg0.N) (r : Fin 2) : Fin 16 := ⟨2 * (th t).val + r.val, by have := (th t).isLt; omega⟩

theorem score_blk (t : Fin cfg0.N) (h0 : Real' (g0 m c)) (h1 : Real' (g1 m c)) (h2 : Real' (g2 m c)) (r : Fin 2) (q : Fin 512) (j : Fin 32) (x : Fin 512) :
    scR (iblk m c 1 t) (iblk m c 2 t) (iblk m c 3 t) r j x q
      = (dotR (g0 m c) (g1 m c) (g2 m c) (tb t) (hd t r) ⟨512 * (tq t).val + q.val, by omega⟩ ⟨512 * j.val + x.val, by omega⟩ : EReal) := by
  rw [dotR_coe _ _ _ h0 h1 h2]
  have hr := r.isLt
  have hq := q.isLt
  have hd1 : (hd t r).val = 2 * (th t).val + r.val := rfl
  unfold scR
  congr 1
  · refine Finset.sum_congr rfl fun d _ => ?_
    rw [blk_q, blk_k, mul_comm]
    congr 2
    · congr 1 <;> apply Fin.ext <;> simp only [hd1] <;> omega
    · congr 1; apply Fin.ext; simp only [hd1]; omega
  · refine Finset.sum_congr rfl fun l _ => ?_
    rw [blk_kc]
    congr 2
    apply Fin.ext; simp only [hd1]; omega

theorem off_blk (t : Fin cfg0.N) (h5 : Real' (g5 m c)) (r : Fin 2) (j : Fin 32) :
    offOf (iblk m c 0 t) (pO (grid0.coords t) r j.val) = ((g5 m c (ix3 (tb t) j ⟨(hd t r).val, by omega⟩)).toReal : EReal) := by
  rw [h5]
  refine (off_at (grid0.coords t) r (iblk m c 0 t) j ⟨((tb t).val * 16 + (hd t r).val) * 32 + j.val, by have := (tb t).isLt; have := (hd t r).isLt; omega⟩ ?_).trans (blk_o m c t (hd t r) j)
  show ((grid0.coords t 0).val * 16 + (2 * (grid0.coords t 1).val + r.val)) * 32 + j.val = (16 * (grid0.coords t 0).val + 2 * (grid0.coords t 1).val + r.val) * 32 + j.val
  ring

theorem after_at (t : Fin cfg0.N) (h0 : Real' (g0 m c)) (h1 : Real' (g1 m c)) (h2 : Real' (g2 m c)) (h5 : Real' (g5 m c)) (r : Fin 2) (q : Fin 512) (d : Fin 64) :
    outOf (F := Ideal) (grid0.coords t) (iblk m c 0 t) (iblk m c 1 t) (iblk m c 2 t) (iblk m c 3 t) (iblk m c 4 t) (iblk m c 5 t) (ix3 0 q ⟨64 * r.val + d.val, by omega⟩)
      = attn (g0 m c) (g1 m c) (g2 m c) (g3 m c) (g5 m c) (tb t) ⟨512 * (tq t).val + q.val, by omega⟩ ⟨128 * (th t).val + (64 * r.val + d.val), by omega⟩ := by
  have hd1 : (hd t r).val = 2 * (th t).val + r.val := rfl
  rw [attn_tiles (g0 m c) (g1 m c) (g2 m c) (g3 m c) (g5 m c) (tb t) (hd t r) (tq t) q ⟨128 * (th t).val + (64 * r.val + d.val), by omega⟩
    (by show (128 * (th t).val + (64 * r.val + d.val)) / 64 = _; omega) (fun j => (g5 m c (ix3 (tb t) j ⟨(hd t r).val, by omega⟩)).toReal) (fun _ => rfl)]
  refine (out_elt (grid0.coords t) (iblk m c 0 t) (iblk m c 1 t) (iblk m c 2 t) (iblk m c 3 t) (iblk m c 4 t) (tq t) rfl r q
    (fun j x => dotR (g0 m c) (g1 m c) (g2 m c) (tb t) (hd t r) ⟨512 * (tq t).val + q.val, by omega⟩ ⟨512 * j.val + x.val, by omega⟩)
    (fun j => (g5 m c (ix3 (tb t) j ⟨(hd t r).val, by omega⟩)).toReal)
    (fun j x => score_blk m c t h0 h1 h2 r q j x) (fun j => off_blk m c t h5 r j) (iblk m c 5 t) d).trans ?_
  exact Finset.sum_congr rfl fun p _ => congrArg₂ _ (blk_v m c t p.1 _ p.2) rfl

/-- The attention's array. -/
def G : Vec Ideal S2x16384x1024 .bf16 := fun y => attn (g0 m c) (g1 m c) (g2 m c) (g3 m c) (g5 m c) (y 0) (y 1) (y 2)

theorem emb_out (t : Fin cfg0.N) (q : Fin 512) (e : Fin 128) (g : S2x16384x1024.Idx → EReal) :
    g ((win0_6.blk t).view.emb (ix3 0 q e)) = g (ix3 (tb t) ⟨512 * (tq t).val + q.val, by omega⟩ ⟨128 * (th t).val + e.val, by omega⟩) := by
  blk_ext! [ix_6 t]

theorem out_arr (h0 : Real' (g0 m c)) (h1 : Real' (g1 m c)) (h2 : Real' (g2 m c)) (h5 : Real' (g5 m c)) :
    (dats m 0 c).arrAt 6 cfg0.N = G m c := by
  refine (dats m 0 c).arrAt_eq_of_covers 6 (G m c) ((cfg0.win 6).covers_of_indexMap_surj rfl (by decide) fun β => ?_) fun t hf y => ?_
  · have b0 : (β 0).val < 2 := (β 0).isLt
    have b1 : (β 1).val < 32 := (β 1).isLt
    have b2 : (β 2).val < 8 := (β 2).isLt
    refine ⟨fun a => match a with | ⟨0, _⟩ => ⟨(β 0).val, b0⟩ | ⟨1, _⟩ => ⟨(β 2).val, b2⟩ | ⟨2, _⟩ => ⟨(β 1).val, b1⟩, fun a => ?_⟩
    match a with
    | ⟨0, _⟩ => exact ofNat_val (β 0).val 2 b0 (by decide)
    | ⟨1, _⟩ => exact ofNat_val (β 1).val 32 b1 (by decide)
    | ⟨2, _⟩ => exact ofNat_val (β 2).val 8 b2 (by decide)
  · blk_simp
    have key : ∀ y : S1x512x128.Idx, outOf (F := Ideal) (grid0.coords t) (iblk m c 0 t) (iblk m c 1 t) (iblk m c 2 t) (iblk m c 3 t) (iblk m c 4 t) (iblk m c 5 t) y = G m c ((win0_6.blk t).view.emb y) := fun y => by
      obtain ⟨q, e, rfl⟩ : ∃ (q : Fin 512) (e : Fin 128), y = ix3 0 q e := ⟨y 1, y 2, by
        funext a
        match a with
        | ⟨0, _⟩ => exact Subsingleton.elim (α := Fin 1) _ _
        | ⟨1, _⟩ => rfl
        | ⟨2, _⟩ => rfl⟩
      rw [emb_out t q e (G m c)]
      have h := after_at m c t h0 h1 h2 h5 ⟨e.val / 64, by omega⟩ q ⟨e.val % 64, by omega⟩
      have e1 : (⟨64 * (⟨e.val / 64, by omega⟩ : Fin 2).val + (⟨e.val % 64, by omega⟩ : Fin 64).val, by simp only []; omega⟩ : Fin 128) = e := Fin.ext (by simp only []; omega)
      rw [e1] at h
      refine h.trans ?_
      show attn _ _ _ _ _ _ _ _ = attn _ _ _ _ _ _ _ _
      congr 1
      exact Fin.ext (by simp only [ix3_2]; omega)
    exact key y

/-- The whole program leaves the attention's array, its arguments as they were. -/
theorem run_value (ρ : Dev nD → PrngReg) (h0 : ∀ c, Real' (g0 m c)) (h1 : ∀ c, Real' (g1 m c)) (h2 : ∀ c, Real' (g2 m c)) (h5 : ∀ c, Real' (g5 m c)) :
    θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (out_arr m c (h0 c) (h1 c) (h2 c) (h5 c)), ((h.1 c).1 1).trans (((dats m 0 c).arrAt_in 1 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 4).trans (((dats m 0 c).arrAt_in 4 rfl _).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩) (run_main m ρ)

end Cert.KernelIdeal.Hand

end
-- ==== Proof.RefA.lean ====
module

public import proofs.«01_k».proof.Proof.Gen.ReferenceIdeal.Run
public import proofs.«01_k».proof.Proof.Spec
public import Idealize.ShloMosaic.Lib.Pointwise
public import Idealize.ShloMosaic.PureOps.Ideal

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

/-- The decay's running sum at every position, in natural units. -/
def decay (a2 : FVec Ideal S32768x1024 .bf16) (a5 : FVec Ideal S2x32x128 .f32) : FVec Ideal S2x16x16384 .f32 :=
  mulf (transpose S2x16x16384 [0, 2, 1] (subf (shapeCast _ (broadcastInDim S2x32x512x16 ![0, 1, 2, 3] bcast_S2x32x1x16_S2x32x512x16_0_1_2_3 (broadcastInDim S2x32x1x16 ![0, 1, 3] bcast_S2x32x16_S2x32x1x16_0_1_3 (extractStridedSlice S2x32x16 ![0, 0, 0] a5 slices_S2x32x128_S2x32x16_0_0_0))) shapeCasts_S2x32x512x16_S2x16384x16) (Host.reduceAdd (shapeCast _ (extractStridedSlice S2x16384x8x6 ![0, 0, 0, 0] (shapeCast _ (extf .f32 a2 bitsLt_bf16_f32) shapeCasts_S32768x1024_S2x16384x8x128) slices_S2x16384x8x128_S2x16384x8x6_0_0_0_0) shapeCasts_S2x16384x8x6_S2x16384x16x3) (constant S_ .f32 0x00000000#32) reducesTo_S2x16384x16x3_S2x16384x16_d3 h_S_)) transposes_S2x16384x16_S2x16x16384_0_2_1) (broadcastInDim S2x16x16384 ![] bcast_S_S2x16x16384 (Host.log (constant S_ .f32 0x40000000#32)))

/-- The masked scores. -/
def scores (a0 : FVec Ideal S2x32x1024x512 .bf16) (a1 a2 : FVec Ideal S32768x1024 .bf16) (a5 : FVec Ideal S2x32x128 .f32) : FVec Ideal S2x16x16384x16384 .f32 :=
  select (broadcastInDim S2x16x16384x16384 ![2, 3] bcast_S16384x16384_S2x16x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (subf (addf (mulf (Host.dotGeneral dot_S2x16x16384x64_S2x16x16384x64_S2x16x16384x16384_3_3_2_2_01_01 none (transpose S2x16x16384x64 [0, 2, 1, 3] (shapeCast _ (transpose S2x32x512x1024 [0, 1, 3, 2] a0 transposes_S2x32x1024x512_S2x32x512x1024_0_1_3_2) shapeCasts_S2x32x512x1024_S2x16384x16x64) transposes_S2x16384x16x64_S2x16x16384x64_0_2_1_3) (transpose S2x16x16384x64 [0, 2, 1, 3] (shapeCast _ a1 shapeCasts_S32768x1024_S2x16384x16x64) transposes_S2x16384x16x64_S2x16x16384x64_0_2_1_3)) (broadcastInDim S2x16x16384x16384 ![] bcast_S_S2x16x16384x16384 (Host.log (constant S_ .f32 0x40000000#32)))) (broadcastInDim S2x16x16384x16384 ![0, 1, 2, 3] bcast_S2x16x16384x1_S2x16x16384x16384_0_1_2_3 (broadcastInDim S2x16x16384x1 ![0, 1, 2] bcast_S2x16x16384_S2x16x16384x1_0_1_2 (decay a2 a5)))) (broadcastInDim S2x16x16384x16384 ![0, 1, 2, 3] bcast_S2x16x1x16384_S2x16x16384x16384_0_1_2_3 (broadcastInDim S2x16x1x16384 ![0, 1, 3] bcast_S2x16x16384_S2x16x1x16384_0_1_3 (decay a2 a5)))) (broadcastInDim S2x16x16384x16384 ![] bcast_S_S2x16x16384x16384 (id (constant S_ .f32 0xFF800000#32)))

/-- A row's maximum. -/
def rowMax (s : FVec Ideal S2x16x16384x16384 .f32) : FVec Ideal S2x16x16384 .f32 :=
  Host.reduce FloatOps.maximumf s (constant S_ .f32 0xFF800000#32) reducesTo_S2x16x16384x16384_S2x16x16384_d3 h_S_

/-- Their exponentials, shifted by the row's maximum. -/
def expo (s : FVec Ideal S2x16x16384x16384 .f32) : FVec Ideal S2x16x16384x16384 .f32 :=
  Host.exp (subf s (broadcastInDim S2x16x16384x16384 ![0, 1, 2, 3] bcast_S2x16x16384x1_S2x16x16384x16384_0_1_2_3 (broadcastInDim S2x16x16384x1 ![0, 1, 2] bcast_S2x16x16384_S2x16x16384x1_0_1_2 (maximumf (broadcastInDim S2x16x16384 ![] bcast_S_S2x16x16384 (constant S_ .f32 0xFF800000#32)) (rowMax s)))))

/-- A row's sum. -/
def rowSum (e : FVec Ideal S2x16x16384x16384 .f32) : FVec Ideal S2x16x16384 .f32 :=
  Host.reduceAdd e (constant S_ .f32 0x00000000#32) reducesTo_S2x16x16384x16384_S2x16x16384_d3 h_S_

/-- The softmax's weights. -/
def soft (e : FVec Ideal S2x16x16384x16384 .f32) : FVec Ideal S2x16x16384x16384 .f32 :=
  Host.divf e (broadcastInDim S2x16x16384x16384 ![0, 1, 2, 3] bcast_S2x16x16384x1_S2x16x16384x16384_0_1_2_3 (broadcastInDim S2x16x16384x1 ![0, 1, 2] bcast_S2x16x16384_S2x16x16384x1_0_1_2 (rowSum e)))

/-- The values, weighed. -/
def gather (p : FVec Ideal S2x16x16384x16384 .f32) (a3 : FVec Ideal S2x32x1024x512 .bf16) : FVec Ideal S2x16384x1024 .bf16 :=
  truncf .bf16 (shapeCast _ (transpose S2x16384x16x64 [0, 2, 1, 3] (Host.dotGeneral dot_S2x16x16384x16384_S2x16x16384x64_S2x16x16384x64_3_2_2_3_01_01 none (truncf .bf16 p bitsLt_bf16_f32) (transpose S2x16x16384x64 [0, 2, 1, 3] (shapeCast _ (transpose S2x32x512x1024 [0, 1, 3, 2] a3 transposes_S2x32x1024x512_S2x32x512x1024_0_1_3_2) shapeCasts_S2x32x512x1024_S2x16384x16x64) transposes_S2x16384x16x64_S2x16x16384x64_0_2_1_3)) transposes_S2x16x16384x64_S2x16384x16x64_0_2_1_3) shapeCasts_S2x16384x16x64_S2x16384x1024) bitsLt_bf16_f32

set_option maxHeartbeats 4000000 in
theorem res_eq (m : (ℓ : Loc nD τ sig) → Buf (Elt Ideal) ℓ) (c : Dev nD) : res_main_v53 m c
    = gather (soft (expo (scores (m ((c.tc : Thread nD τ).loc main_arg0)) (m ((c.tc : Thread nD τ).loc main_arg1)) (m ((c.tc : Thread nD τ).loc main_arg2)) (m ((c.tc : Thread nD τ).loc main_arg5)))))
        (m ((c.tc : Thread nD τ).loc main_arg3)) := rfl

theorem decay_at (a2 : FVec Ideal S32768x1024 .bf16) (a5 : FVec Ideal S2x32x128 .f32) (b : Fin 2) (h : Fin 16) (p : Fin 16384) : decay a2 a5 (ix3 b h p)
    = (a5 (ix3 b ⟨p.val / 512, by omega⟩ ⟨h.val, by omega⟩) - ∑ l : Fin 3, a2 (ix2 ⟨b.val * 16384 + p.val, by omega⟩ ⟨h.val / 2 * 128 + (h.val % 2 * 3 + l.val), by omega⟩)) *
      Ideal.log (Ideal.ofBits FTy.f32 1073741824#32) := by
  pointwise [decay]

end Cert.ReferenceIdeal.Hand

end
-- ==== Proof.RefB.lean ====
module

public import proofs.«01_k».proof.Proof.RefA

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

theorem scores_at (a0 : FVec Ideal S2x32x1024x512 .bf16) (a1 a2 : FVec Ideal S32768x1024 .bf16) (a5 : FVec Ideal S2x32x128 .f32) (b : Fin 2) (h : Fin 16) (s p : Fin 16384) : scores a0 a1 a2 a5 (ix4 b h s p)
    = Scalar.select (IntOp.cmpi CmpIPredicate.sle (BitVec.ofNat 32 p.val) (BitVec.ofNat 32 s.val))
      ((∑ x : Fin 64, a0 (ix4 b ⟨s.val / 512, by omega⟩ ⟨h.val * 64 + x.val, by omega⟩ ⟨s.val % 512, by omega⟩) * a1 (ix2 ⟨b.val * 16384 + p.val, by omega⟩ ⟨h.val * 64 + x.val, by omega⟩)) *
            Ideal.log (Ideal.ofBits FTy.f32 1073741824#32) + decay a2 a5 (ix3 b h s) - decay a2 a5 (ix3 b h p))
      (⊥ : EReal) := by
  have h0 : (id (constant S_ FTy.f32 4286578688#32 : FVec Ideal S_ .f32) ix0 : EReal) = ⊥ := ofBits_neg_inf
  pointwise [scores]
  exact congrArg (Scalar.select _ _) h0

end Cert.ReferenceIdeal.Hand

end
-- ==== Proof.RefC.lean ====
module

public import proofs.«01_k».proof.Proof.RefA
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

section
variable {n0 n1 n2 n3 : ℕ}

theorem row_bcast (r : FVec Ideal ⟨3, ![n0, n1, n2]⟩ .f32) (h1 : (⟨3, ![n0, n1, n2]⟩ : Shape).BroadcastsInDim ⟨4, ![n0, n1, n2, 1]⟩ ![0, 1, 2]) (h2 : (⟨4, ![n0, n1, n2, 1]⟩ : Shape).BroadcastsInDim ⟨4, ![n0, n1, n2, n3]⟩ ![0, 1, 2, 3])
    (i : Fin n0) (j : Fin n1) (k : Fin n2) (x : Fin n3) :
    broadcastInDim ⟨4, ![n0, n1, n2, n3]⟩ ![0, 1, 2, 3] h2 (broadcastInDim ⟨4, ![n0, n1, n2, 1]⟩ ![0, 1, 2] h1 r) (ix4 i j k x) = r (ix3 i j k) := by
  have e4 : ∀ a : Fin 4, ((ix4 (n3 := 1) i j k 0) a).val = if (![n0, n1, n2, 1] : Fin 4 → ℕ) a = 1 then 0 else ((ix4 i j k x) ((![0, 1, 2, 3] : Fin 4 → Fin 4) a)).val := by
    have h0 := i.isLt
    have h1 := j.isLt
    have h2 := k.isLt
    intro a
    fin_cases a
    · show i.val = if n0 = 1 then 0 else i.val
      split <;> omega
    · show j.val = if n1 = 1 then 0 else j.val
      split <;> omega
    · show k.val = if n2 = 1 then 0 else k.val
      split <;> omega
    · rfl
  have e3 : ∀ a : Fin 3, ((ix3 i j k) a).val = if (![n0, n1, n2] : Fin 3 → ℕ) a = 1 then 0 else ((ix4 (n3 := 1) i j k 0) ((![0, 1, 2] : Fin 3 → Fin 4) a)).val := by
    have h0 := i.isLt
    have h1 := j.isLt
    have h2 := k.isLt
    intro a
    fin_cases a
    · show i.val = if n0 = 1 then 0 else i.val
      split <;> omega
    · show j.val = if n1 = 1 then 0 else j.val
      split <;> omega
    · show k.val = if n2 = 1 then 0 else k.val
      split <;> omega
  exact (broadcastInDim_apply _ _ _ _ (ix4 (n3 := 1) i j k 0) e4).trans (broadcastInDim_apply _ _ _ _ (ix3 i j k) e3)

theorem exp_sub_gen {s : Shape} (x y : FVec Ideal s .f32) (i : s.Idx) : Host.exp (subf x y) i = Ideal.exp (x i - y i) := rfl
theorem div_gen {s : Shape} (x y : FVec Ideal s .f32) (i : s.Idx) : Host.divf x y i = Ideal.div (x i) (y i) := rfl
theorem max_gen {s : Shape} (h : S_.BroadcastsInDim s ![]) (y : FVec Ideal s .f32) (i : s.Idx) :
    maximumf (broadcastInDim s ![] h (constant S_ .f32 0xFF800000#32 : FVec Ideal S_ .f32)) y i = max ⊥ (y i) := congrArg (max · (y i)) ofBits_neg_inf
end

theorem expo_at (x : FVec Ideal S2x16x16384x16384 .f32) (b : Fin 2) (h : Fin 16) (s p : Fin 16384) : expo x (ix4 b h s p) = Ideal.exp (x (ix4 b h s p) - max ⊥ (rowMax x (ix3 b h s))) := by
  have h1 := row_bcast (n0 := 2) (n1 := 16) (n2 := 16384) (n3 := 16384) (maximumf (broadcastInDim S2x16x16384 ![] bcast_S_S2x16x16384 (constant S_ .f32 0xFF800000#32)) (rowMax x))
    bcast_S2x16x16384_S2x16x16384x1_0_1_2 bcast_S2x16x16384x1_S2x16x16384x16384_0_1_2_3 b h s p
  rw [max_gen] at h1
  unfold expo
  rw [exp_sub_gen]
  exact congrArg (fun t => Ideal.exp (x (ix4 b h s p) - t)) h1

theorem soft_at (x : FVec Ideal S2x16x16384x16384 .f32) (b : Fin 2) (h : Fin 16) (s p : Fin 16384) : soft x (ix4 b h s p) = Ideal.div (x (ix4 b h s p)) (rowSum x (ix3 b h s)) := by
  have h1 := row_bcast (n0 := 2) (n1 := 16) (n2 := 16384) (n3 := 16384) (rowSum x)
    bcast_S2x16x16384_S2x16x16384x1_0_1_2 bcast_S2x16x16384x1_S2x16x16384x16384_0_1_2_3 b h s p
  unfold soft
  rw [div_gen]
  exact congrArg (fun t => Ideal.div (x (ix4 b h s p)) t) h1

end Cert.ReferenceIdeal.Hand

end
-- ==== Proof.RefD.lean ====
module

public import proofs.«01_k».proof.Proof.RefA

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

theorem gather_at (x : FVec Ideal S2x16x16384x16384 .f32) (a3 : FVec Ideal S2x32x1024x512 .bf16) (b : Fin 2) (s : Fin 16384) (e : Fin 1024) : gather x a3 (ix3 b s e)
    = ∑ p : Fin 16384, x (ix4 b ⟨e.val / 64, by omega⟩ s p) * a3 (ix4 b ⟨p.val / 512, by omega⟩ e ⟨p.val % 512, by omega⟩) := by
  pointwise [gather]

end Cert.ReferenceIdeal.Hand

end
-- ==== Proof.RefE.lean ====
module

public import proofs.«01_k».proof.Proof.RefA

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

section
variable {n0 n1 n2 n3 : ℕ}

theorem row_sum (e : FVec Ideal ⟨4, ![n0, n1, n2, n3]⟩ .f32) (h : (⟨4, ![n0, n1, n2, n3]⟩ : Shape).ReducesTo [3] ⟨3, ![n0, n1, n2]⟩) (hu : 0 < S_.numel) (i : Fin n0) (j : Fin n1) (k : Fin n2) :
    Host.reduceAdd e (constant S_ .f32 0x00000000#32) h hu (ix3 i j k) = ∑ x, e (ix4 i j k x) := by
  pointwise

theorem row_max (e : FVec Ideal ⟨4, ![n0, n1, n2, n3]⟩ .f32) (h : (⟨4, ![n0, n1, n2, n3]⟩ : Shape).ReducesTo [3] ⟨3, ![n0, n1, n2]⟩) (hu : 0 < S_.numel) (i : Fin n0) (j : Fin n1) (k : Fin n2) :
    Host.reduce FloatOps.maximumf e (constant S_ .f32 0xFF800000#32) h hu (ix3 i j k) = Finset.univ.fold max (⊥ : EReal) fun x => e (ix4 i j k x) := by
  pointwise
  rw [ofBits_neg_inf]
end

theorem rowSum_at (x : FVec Ideal S2x16x16384x16384 .f32) (b : Fin 2) (h : Fin 16) (s : Fin 16384) : rowSum x (ix3 b h s) = ∑ p : Fin 16384, x (ix4 b h s p) := row_sum _ _ _ _ _ _

theorem rowMax_at (x : FVec Ideal S2x16x16384x16384 .f32) (b : Fin 2) (h : Fin 16) (s : Fin 16384) : rowMax x (ix3 b h s) = Finset.univ.fold max (⊥ : EReal) fun p : Fin 16384 => x (ix4 b h s p) := row_max _ _ _ _ _ _

end Cert.ReferenceIdeal.Hand

end
-- ==== Proof.RefF.lean ====
module

public import proofs.«01_k».proof.Proof.RefB
public import proofs.«01_k».proof.Proof.RefC
public import proofs.«01_k».proof.Proof.RefD
public import proofs.«01_k».proof.Proof.RefE
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Attn

theorem log_two : Ideal.log (Ideal.ofBits FTy.f32 1073741824#32) = (Real.log 2 : EReal) := by
  have h : Ideal.ofBits FTy.f32 1073741824#32 = ((2 : ℝ) : EReal) := by
    simp [Ideal.ofBits, Ideal.ieee]
    rw [← EReal.coe_mul]
    norm_num
  rw [h, Ideal.log_coe, if_neg (by norm_num)]

theorem sel_pos (p s : Fin 16384) (x y : EReal) :
    Scalar.select (IntOp.cmpi CmpIPredicate.sle (BitVec.ofNat 32 p.val) (BitVec.ofNat 32 s.val)) x y = if p.val ≤ s.val then x else y := by
  have h := WordCmp.cmpi_sle_ofNat_eq_one_iff (w := 32) (a := p.val) (b := s.val) (by omega) (by omega)
  by_cases hp : p.val ≤ s.val
  · rw [if_pos hp]; exact if_pos (h.mpr hp)
  · rw [if_neg hp]; exact if_neg fun e => hp (h.mp e)

section
variable (a0 : FVec Ideal S2x32x1024x512 .bf16) (a1 a2 : FVec Ideal S32768x1024 .bf16) (a5 : FVec Ideal S2x32x128 .f32)
  (h0 : Real' (a0 : A0)) (h1 : Real' (a1 : A1)) (h2 : Real' (a2 : A1)) (h5 : Real' (a5 : A5)) (b : Fin 2) (h : Fin 16)

/-- The product of query and key, and the decay inside a position's tile. -/
def qk (s p : Fin 16384) : ℝ :=
  ∑ x : Fin 64, (a0 (ix4 b ⟨s.val / 512, by omega⟩ ⟨h.val * 64 + x.val, by omega⟩ ⟨s.val % 512, by omega⟩) : EReal).toReal * (a1 (ix2 ⟨b.val * 16384 + p.val, by omega⟩ ⟨h.val * 64 + x.val, by omega⟩) : EReal).toReal
def within (p : Fin 16384) : ℝ := ∑ l : Fin 3, (a2 (ix2 ⟨b.val * 16384 + p.val, by omega⟩ ⟨h.val / 2 * 128 + (h.val % 2 * 3 + l.val), by omega⟩) : EReal).toReal

theorem dot_split (s p : Fin 16384) : dotR a0 a1 a2 b h s p = qk a0 a1 b h s p + within a2 b h p := rfl

include h2 h5 in
theorem decay_real (p : Fin 16384) : decay a2 a5 (ix3 b h p) = ((offR a5 b h p - within a2 b h p) * Real.log 2 : ℝ) := by
  rw [decay_at, log_two, EReal.coe_mul, EReal.coe_sub]
  unfold offR within
  rw [coe_sum, h5]
  congr 2
  exact Finset.sum_congr rfl fun l _ => (h2 _).symm

/-- The score of key `p` for query `s`, in natural units. -/
def uR (s p : Fin 16384) : ℝ := qk a0 a1 b h s p * Real.log 2 + (offR a5 b h s - within a2 b h s) * Real.log 2 - (offR a5 b h p - within a2 b h p) * Real.log 2

include h0 h1 h2 h5 in
theorem scores_real (s p : Fin 16384) : scores a0 a1 a2 a5 (ix4 b h s p) = if p.val ≤ s.val then (uR a0 a1 a2 a5 b h s p : EReal) else ⊥ := by
  rw [scores_at, sel_pos, decay_real a2 a5 h2 h5, decay_real a2 a5 h2 h5, log_two]
  have hk : ∑ x : Fin 64, a0 (ix4 b ⟨s.val / 512, by omega⟩ ⟨h.val * 64 + x.val, by omega⟩ ⟨s.val % 512, by omega⟩) * a1 (ix2 ⟨b.val * 16384 + p.val, by omega⟩ ⟨h.val * 64 + x.val, by omega⟩)
      = (qk a0 a1 b h s p : EReal) := by
    unfold qk
    rw [coe_sum]
    exact Finset.sum_congr rfl fun x _ => by rw [EReal.coe_mul, h0, h1]
  unfold uR
  rw [EReal.coe_sub, EReal.coe_add, hk]
  simp only [EReal.coe_mul]

theorem uR_eq (s p : Fin 16384) : uR a0 a1 a2 a5 b h s p = Real.log 2 * (tR a0 a1 a2 a5 b h s p - within a2 b h s) := by
  unfold uR tR
  rw [dot_split]
  ring

include h0 h1 h2 h5 in
/-- A row of the exponentials: the weights up to a positive factor. -/
theorem expo_real (s : Fin 16384) : ∃ C : ℝ, 0 < C ∧ ∀ p, expo (scores a0 a1 a2 a5) (ix4 b h s p) = ((wt (p.val ≤ s.val) (tR a0 a1 a2 a5 b h s p) 0 * C : ℝ) : EReal) := by
  have hs := scores_real a0 a1 a2 a5 h0 h1 h2 h5 b h s
  obtain ⟨T, hT⟩ := fold_max_real Finset.univ (fun p : Fin 16384 => scores a0 a1 a2 a5 (ix4 b h s p))
    (fun p _ => by rw [hs]; split; exacts [EReal.coe_ne_top _, bot_ne_top]) s (Finset.mem_univ _) (by rw [hs, if_pos le_rfl]; exact EReal.coe_ne_bot _)
  refine ⟨Real.exp (-(Real.log 2 * within a2 b h s) - T), Real.exp_pos _, fun p => ?_⟩
  rw [expo_at, rowMax_at, hT, hs, max_eq_right bot_le]
  have hr : Real.exp (uR a0 a1 a2 a5 b h s p - T) = 2 ^ (tR a0 a1 a2 a5 b h s p - 0) * Real.exp (-(Real.log 2 * within a2 b h s) - T) := by
    rw [uR_eq, sub_zero, Real.rpow_def_of_pos (by norm_num : (0 : ℝ) < 2), ← Real.exp_add]
    exact congrArg Real.exp (by ring)
  unfold wt
  by_cases hp : p.val ≤ s.val
  · rw [if_pos hp, if_pos hp, ← EReal.coe_sub, Ideal.exp_coe, hr]
  · rw [if_neg hp, if_neg hp, zero_mul]
    exact Ideal.exp_bot

include h0 h1 h2 h5 in
theorem soft_real (s p : Fin 16384) : soft (expo (scores a0 a1 a2 a5)) (ix4 b h s p) = (wR a0 a1 a2 a5 b h s p : EReal) := by
  obtain ⟨C, hC, he⟩ := expo_real a0 a1 a2 a5 h0 h1 h2 h5 b h s
  have hp := wt_sum_pos (Finset.univ : Finset (Fin 16384)) (fun p => p.val ≤ s.val) (fun p => tR a0 a1 a2 a5 b h s p) 0 s (Finset.mem_univ _) le_rfl
  rw [soft_at, rowSum_at, he]
  simp only [he]
  rw [← coe_sum, ← Finset.sum_mul]
  unfold Ideal.div
  rw [if_neg (by rw [EReal.coe_eq_zero]; exact (mul_pos hp hC).ne'), ← EReal.coe_inv, ← EReal.coe_mul]
  congr 1
  unfold wR
  field_simp
end

/-- The reference's array at an index. -/
theorem ref_at (a0 : FVec Ideal S2x32x1024x512 .bf16) (a1 a2 : FVec Ideal S32768x1024 .bf16) (a3 : FVec Ideal S2x32x1024x512 .bf16) (a5 : FVec Ideal S2x32x128 .f32)
    (h0 : Real' (a0 : A0)) (h1 : Real' (a1 : A1)) (h2 : Real' (a2 : A1)) (h5 : Real' (a5 : A5)) (b : Fin 2) (s : Fin 16384) (e : Fin 1024) :
    gather (soft (expo (scores a0 a1 a2 a5))) a3 (ix3 b s e) = attn a0 a1 a2 a3 a5 b s e := by
  rw [gather_at]
  unfold attn
  exact Finset.sum_congr rfl fun p _ => by rw [soft_real a0 a1 a2 a5 h0 h1 h2 h5, mul_comm]

end Cert.ReferenceIdeal.Hand

end
-- ==== Proof.Entries.lean ====
module

public import proofs.«01_k».proof.Defs
public import proofs.«01_k».proof.Proof.Gen.Pre_finite
public import proofs.«01_k».proof.Proof.Spec
public import Idealize.ShloMosaic.Lib.ReduceAll

@[expose] public section

noncomputable section

namespace Cert.Pre_finite.Hand

open Cert.Pre_finite Cert.Pre_finite.Gen
open Idealize.ShloMosaic
open Cert.Attn

/-! ## What the precondition says of an entry -/

theorem ofBits_inf : Ideal.ofBits FTy.f32 0x7F800000#32 = ⊤ := by
  simp [Ideal.ofBits, Ideal.ieee]

/-- An extended real whose absolute value is below the infinity is real. -/
theorem real_of_abs (x : EReal) (h : Ideal.cmp .olt (max x (-x)) (Ideal.ofBits FTy.f32 0x7F800000#32) = 1#1) : ((x.toReal : ℝ) : EReal) = x := by
  rw [ofBits_inf] at h
  have h2 : max x (-x) < ⊤ := by
    by_contra hc
    simp [Ideal.cmp, hc] at h
  refine EReal.coe_toReal (fun e => ?_) fun e => ?_
  · rw [e] at h2; simp at h2
  · rw [e] at h2; simp at h2

theorem and_one (a b : BitVec 1) (h : a &&& b = 1#1) : a = 1#1 ∧ b = 1#1 := by
  revert h; revert a b; decide

theorem entries (a0 : FVec Ideal S2x32x1024x512 .bf16) (a1 a2 : FVec Ideal S32768x1024 .bf16) (a3 : FVec Ideal S2x32x1024x512 .bf16) (a4 : FVec Ideal S64x1x1024 .f32) (a5 : FVec Ideal S2x32x128 .f32)
    (h : Cert.Pre_finite.fn (F := Ideal) a0 a1 a2 a3 a4 a5 = fun _ => 1#1) : Real' (a0 : A0) ∧ Real' (a1 : A1) ∧ Real' (a2 : A1) ∧ Real' (a5 : A5) := by
  haveI : Subsingleton S_.Idx := ⟨fun x y => funext fun a => a.elim0⟩
  have h1 := congrFun h ix0
  dsimp only [fn, fn_part1] at h1
  obtain ⟨h1, e5⟩ := and_one _ _ h1
  obtain ⟨h1, e2⟩ := and_one _ _ h1
  obtain ⟨e0, e1⟩ := and_one _ _ h1
  exact ⟨fun j => real_of_abs _ (Host.reduce_andi_all _ _ _ _ _ e0 j), fun j => real_of_abs _ (Host.reduce_andi_all _ _ _ _ _ e1 j),
    fun j => real_of_abs _ (Host.reduce_andi_all _ _ _ _ _ e2 j), fun j => real_of_abs _ (Host.reduce_andi_all _ _ _ _ _ e5 j)⟩

end Cert.Pre_finite.Hand

end
-- ==== Proof.FfnLd.lean ====
module

public import Idealize.ShloMosaic.Lib.Pipeline.ValueKit

@[expose] public section

set_option maxRecDepth 16384

noncomputable section

namespace Cert.Ffn

open Idealize.ShloMosaic Idealize.ShloMosaic.TcCoe

/-! ## What the kernel's loads read -/

variable {F : FTy → Type} [FloatOps F] {sig : RefSig}

abbrev S1024x1024 : Shape := ⟨2, ![1024, 1024]⟩
abbrev S1024x256 : Shape := ⟨2, ![1024, 256]⟩
abbrev S256x1024 : Shape := ⟨2, ![256, 1024]⟩
abbrev S1024x5632 : Shape := ⟨2, ![1024, 5632]⟩
abbrev S2816x1024 : Shape := ⟨2, ![2816, 1024]⟩

theorem readAt_unread {κ : Kind} {sp : Space} {s : Shape} {e : EltTy} {M : Memref sig κ sp s e} (h : M.IsWhole) (X : s.Idx → Elt F e) (r : Rect s) :
    View.readAt (Elt F) M.view r.toLoadRect (h.unread X) = View.ld X r := by
  show View.ld (M.view.read (Elt F) (h.unread X)) r = _
  rw [h.read_unread]

/-- 256 columns of the first weights, from column `o`. -/
def wcol (x : Vec F S1024x5632 .bf16) (o : ℕ) (ho : o + 256 ≤ 5632) : Vec F S1024x256 .bf16 := fun y => x (ix2 (y 0) ⟨o + (y 1).val, by have h : (y 1).val < 256 := (y 1).isLt; omega⟩)
/-- 256 rows of the second weights, from row `o`. -/
def wrow (x : Vec F S2816x1024 .bf16) (o : ℕ) (ho : o + 256 ≤ 2816) : Vec F S256x1024 .bf16 := fun y => x (ix2 ⟨o + (y 0).val, by have h : (y 0).val < 256 := (y 0).isLt; omega⟩ (y 1))

theorem ld_wcol (x : Vec F S1024x5632 .bf16) (o : ℕ) (ho : o + 256 ≤ 5632) (inb : ∀ a, (![0, o] : Fin 2 → ℕ) a + S1024x256.size a ≤ S1024x5632.size a) :
    View.ld (Val := Elt F) (e' := .bf16) x (Rect.unit (s := S1024x5632) ![0, o] (no_index S1024x256.size) inb) = wcol x o ho := by
  funext y
  refine congrArg x (funext fun a => Fin.ext ?_)
  rw [Rect.idx_unit_val]
  match a with
  | ⟨0, _⟩ => exact Nat.zero_add _
  | ⟨1, _⟩ => rfl

theorem ld_wrow (x : Vec F S2816x1024 .bf16) (o : ℕ) (ho : o + 256 ≤ 2816) (inb : ∀ a, (![o, 0] : Fin 2 → ℕ) a + S256x1024.size a ≤ S2816x1024.size a) :
    View.ld (Val := Elt F) (e' := .bf16) x (Rect.unit (s := S2816x1024) ![o, 0] (no_index S256x1024.size) inb) = wrow x o ho := by
  funext y
  refine congrArg x (funext fun a => Fin.ext ?_)
  rw [Rect.idx_unit_val]
  match a with
  | ⟨0, _⟩ => rfl
  | ⟨1, _⟩ => exact Nat.zero_add _

theorem last_read (v : View sig .tc .vmem S1024x1024 .f32) (inb inb' : ∀ a, (![0, 0] : Fin 2 → ℕ) a + S1024x1024.size a ≤ S1024x1024.size a) (w : Vec F S1024x1024 .f32) (L : List (View.Piece (Elt F) S1024x1024 .f32)) :
    v.readCov ((⟨Rect.unit ![0, 0] S1024x1024.size inb, w⟩ : View.Piece (Elt F) S1024x1024 .f32) :: L) (Rect.unit ![0, 0] S1024x1024.size inb').toLoadRect = w :=
  View.readCov_cons_unit_lit' v inb inb' w L (by decide) (by decide)

end Cert.Ffn

end
-- ==== Proof.FfnOut.lean ====
module

public import proofs.«01_k».proof.Proof.Gen.Kernel2Ideal.Value
public import proofs.«01_k».proof.Proof.FfnLd

@[expose] public section

set_option maxRecDepth 16384

noncomputable section

namespace Cert.Kernel2Ideal.Hand

open Cert.Kernel2Ideal Cert.Kernel2Ideal.Gen
open Idealize.ShloMosaic Idealize.ShloMosaic.TcCoe
open Cert.Ffn (readAt_unread wcol wrow ld_wcol ld_wrow last_read)

/-! ## What one grid point writes, as a composition of the chunks' updates -/

variable {F : FTy → Type} [FloatOps F]

/-- One chunk's update of the rows: chunk `k` of the hidden columns, added in. -/
def stepAt (h : FVec F S1024x1024 .bf16) (x4 : Vec F S1024x5632 .bf16) (x5 : Vec F S2816x1024 .bf16) (k : Fin 11) (acc : Vec F S1024x1024 .f32) : FVec F S1024x1024 .f32 :=
  k0_pay8 h (wcol x4 (256 * k.val) (by omega)) (wcol x4 (2816 + 256 * k.val) (by omega)) acc (wrow x5 (256 * k.val) (by omega))

/-- All chunks, one after another. -/
def foldAt (h : FVec F S1024x1024 .bf16) (x4 : Vec F S1024x5632 .bf16) (x5 : Vec F S2816x1024 .bf16) (acc : Vec F S1024x1024 .f32) : FVec F S1024x1024 .f32 :=
  let u := stepAt h x4 x5
  u 10 (u 9 (u 8 (u 7 (u 6 (u 5 (u 4 (u 3 (u 2 (u 1 (u 0 acc))))))))))

section
variable (c : Dev nD) (arg1 : Memref sig .tc .vmem S1024x1024 .f32) (harg1 : arg1.IsWhole) (arg2 : Memref sig .tc .vmem S1024x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole)
    (x0 : Vec F S1024x1024 .f32) (x1 : Vec F S1024x2048 .bf16) (x2 : Vec F S2048x1024 .bf16) (x3 : Vec F S1x1024 .f32) (x4 : Vec F S1024x5632 .bf16) (x5 : Vec F S2816x1024 .bf16) (x6 : Vec F S1x1024 .f32)

/-- What the body leaves in the output's block. -/
def outB (x0 : Vec F S1024x1024 .f32) (x1 : Vec F S1024x2048 .bf16) (x2 : Vec F S2048x1024 .bf16) (x3 : Vec F S1x1024 .f32) (x4 : Vec F S1024x5632 .bf16) (x5 : Vec F S2816x1024 .bf16) (x6 : Vec F S1x1024 .f32) : FVec F S1024x1024 .f32 :=
  k0_pay1 (foldAt (k0_pay3 x0 x1 x2 x3) x4 x5 (k0_pay2 x0 x1 x2)) x6

theorem v275_eq : kernelRun0_A.sl.v275 c arg1 harg1 arg2 harg2 arg3 harg3 arg4 harg4 arg5 harg5 arg6 harg6 arg8 x0 x1 x2 x3 x4 x5
    = foldAt (k0_pay3 x0 x1 x2 x3) x4 x5 (k0_pay2 x0 x1 x2) := by
  rw [kernelRun0_A.sl.v275, kernelRun0_A.sl.H7_12, last_read,
    kernelRun0_A.sl.v268, kernelRun0_A.sl.H7_11, last_read,
    kernelRun0_A.sl.v245, kernelRun0_A.sl.H7_10, last_read,
    kernelRun0_A.sl.v222, kernelRun0_A.sl.H7_9, last_read,
    kernelRun0_A.sl.v199, kernelRun0_A.sl.H7_8, last_read,
    kernelRun0_A.sl.v176, kernelRun0_A.sl.H7_7, last_read,
    kernelRun0_A.sl.v153, kernelRun0_A.sl.H7_6, last_read,
    kernelRun0_A.sl.v130, kernelRun0_A.sl.H7_5, last_read,
    kernelRun0_A.sl.v107, kernelRun0_A.sl.H7_4, last_read,
    kernelRun0_A.sl.v84, kernelRun0_A.sl.H7_3, last_read,
    kernelRun0_A.sl.v61, kernelRun0_A.sl.H7_2, last_read,
    kernelRun0_A.sl.v38, kernelRun0_A.sl.H7_1, last_read]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [readAt_unread harg1, readAt_unread harg2, readAt_unread harg3, readAt_unread harg4, readAt_unread harg5, readAt_unread harg6]
  simp only [ld_wcol, ld_wrow, Nat.reduceAdd, Nat.reduceLeDiff]
  rw [View.ld_unit_lit _ x0 (by decide), View.ld_unit_lit _ x1 (by decide), View.ld_unit_lit _ x2 (by decide), View.ld_unit_lit _ x3 (by decide)]
  rfl

/-- One grid point writes `outB` of its blocks. -/
theorem out_eq (i : grid0.Coords) : out0_A_7 c i arg1 harg1 arg2 harg2 arg3 harg3 arg4 harg4 arg5 harg5 arg6 harg6 arg7 harg7 arg8 harg8 x0 x1 x2 x3 x4 x5 x6 = outB x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  refine (View.canon_cons_unit_lit (S := S1024x1024) _ _ _ (by decide)).trans ?_
  rw [v275_eq, readAt_unread harg7]
  refine congrArg (k0_pay1 _) (View.ld_unit_lit (S := S1x1024) _ x6 (by decide))
end
end Cert.Kernel2Ideal.Hand
end
-- ==== Proof.FfnSpec.lean ====
module

public import Idealize.ShloMosaic.Lib.Pointwise
public import Idealize.ShloMosaic.PureOps.Ideal

@[expose] public section

set_option maxRecDepth 16384

noncomputable section

namespace Cert.Ffn

open Idealize.ShloMosaic

/-! ## The projection, the gated layer and the norms, on one row -/

/-- A row with its projection added. -/
def mix {n : ℕ} (x : Fin 1024 → EReal) (a : Fin n → EReal) (wa : Fin n → Fin 1024 → EReal) (q : Fin 1024) : EReal := x q + ∑ k, a k * wa k q

/-- A row divided by the root of its mean square, scaled. -/
def nrm (v w : Fin 1024 → EReal) (q : Fin 1024) : EReal :=
  v q * Ideal.rsqrt (Ideal.div (∑ k, v k * v k) (Ideal.ofBits .f32 0x44800000#32) + Ideal.ofBits .f32 0x358637BD#32) * w q

/-- A gate `g` and what it gates. -/
def gateOf (g u : EReal) : EReal := g * Ideal.div 1 (1 + Ideal.exp (-g)) * u

/-- Hidden column `j`, gated. -/
def act (h : Fin 1024 → EReal) (wi : Fin 1024 → Fin 5632 → EReal) (j : Fin 2816) : EReal :=
  gateOf (∑ k, h k * wi k ⟨j.val, by omega⟩) (∑ k, h k * wi k ⟨2816 + j.val, by omega⟩)

/-- The row with the gated layer added. -/
def fedRow {n : ℕ} (x : Fin 1024 → EReal) (a : Fin n → EReal) (wa : Fin n → Fin 1024 → EReal) (nw : Fin 1024 → EReal) (wi : Fin 1024 → Fin 5632 → EReal) (wo : Fin 2816 → Fin 1024 → EReal)
    (q : Fin 1024) : EReal := mix x a wa q + ∑ j, act (nrm (mix x a wa) nw) wi j * wo j q

/-- That row, normalized at last. -/
def rowOut {n : ℕ} (x : Fin 1024 → EReal) (a : Fin n → EReal) (wa : Fin n → Fin 1024 → EReal) (nw : Fin 1024 → EReal) (wi : Fin 1024 → Fin 5632 → EReal) (wo : Fin 2816 → Fin 1024 → EReal)
    (fw : Fin 1024 → EReal) (q : Fin 1024) : EReal := nrm (fedRow x a wa nw wi wo) fw q

/-- A sum over the hidden columns, chunk by chunk. -/
theorem sum_chunks (f : Fin 2816 → EReal) : ∑ j, f j = ∑ k : Fin 11, ∑ x : Fin 256, f ⟨256 * k.val + x.val, by omega⟩ := by
  rw [← Fintype.sum_prod_type' (f := fun (k : Fin 11) (x : Fin 256) => f ⟨256 * k.val + x.val, by omega⟩)]
  refine (Fintype.sum_equiv (finProdFinEquiv (m := 11) (n := 256)) (fun p => f ⟨256 * p.1.val + p.2.val, by omega⟩) f (fun p => ?_)).symm
  congr 1
  exact Fin.ext (by simp [finProdFinEquiv]; omega)

theorem chunk_fold (z : EReal) (s : Fin 11 → EReal) : z + s 0 + s 1 + s 2 + s 3 + s 4 + s 5 + s 6 + s 7 + s 8 + s 9 + s 10 = z + ∑ k, s k := by
  rw [Fin.sum_univ_castSucc, Fin.sum_univ_castSucc, Fin.sum_univ_castSucc, Fin.sum_univ_eight]
  simp only [← add_assoc]
  rfl

end Cert.Ffn

end
-- ==== Proof.FfnElt.lean ====
module

public import proofs.«01_k».proof.Proof.FfnOut
public import proofs.«01_k».proof.Proof.FfnSpec
public import Idealize.ShloMosaic.Lib.Pointwise
public import Idealize.ShloMosaic.PureOps.Ideal

@[expose] public section

set_option maxRecDepth 16384

noncomputable section

namespace Cert.Kernel2Ideal.Hand

open Cert.Kernel2Ideal Cert.Kernel2Ideal.Gen
open Idealize.ShloMosaic Idealize.ShloMosaic.TcCoe

open Cert.Ffn

/-! ## What one grid point writes, at an index -/

theorem mix_at (x0 : Vec Ideal S1024x1024 .f32) (x1 : Vec Ideal S1024x2048 .bf16) (x2 : Vec Ideal S2048x1024 .bf16) (p q : Fin 1024) :
    k0_pay2 x0 x1 x2 (ix2 p q) = mix (fun q => x0 (ix2 p q)) (fun k => x1 (ix2 p k)) (fun k q => x2 (ix2 k q)) q := by
  unfold mix
  pointwise [k0_pay2]

theorem nrm_last (v : Vec Ideal S1024x1024 .f32) (w : Vec Ideal S1x1024 .f32) (p q : Fin 1024) :
    k0_pay1 v w (ix2 p q) = nrm (fun q => v (ix2 p q)) (fun q => w (ix2 0 q)) q := by
  unfold nrm
  pointwise [k0_pay1]

theorem nrm_first (x0 : Vec Ideal S1024x1024 .f32) (x1 : Vec Ideal S1024x2048 .bf16) (x2 : Vec Ideal S2048x1024 .bf16) (w : Vec Ideal S1x1024 .f32) (p q : Fin 1024) :
    k0_pay3 x0 x1 x2 w (ix2 p q) = nrm (fun q => k0_pay2 x0 x1 x2 (ix2 p q)) (fun q => w (ix2 0 q)) q := by
  unfold nrm
  generalize hv : k0_pay2 x0 x1 x2 = v
  unfold k0_pay3
  rw [hv]
  pointwise

theorem step_at (h : FVec Ideal S1024x1024 .bf16) (x4 : Vec Ideal S1024x5632 .bf16) (x5 : Vec Ideal S2816x1024 .bf16) (k : Fin 11) (acc : Vec Ideal S1024x1024 .f32) (p q : Fin 1024) :
    stepAt h x4 x5 k acc (ix2 p q) = acc (ix2 p q) + ∑ x : Fin 256, act (fun q => h (ix2 p q)) (fun k q => x4 (ix2 k q)) ⟨256 * k.val + x.val, by omega⟩ * x5 (ix2 ⟨256 * k.val + x.val, by omega⟩ q) := by
  have key : ∀ (w1 w2 : Vec Ideal S1024x256 .bf16) (w3 : Vec Ideal S256x1024 .bf16), k0_pay8 h w1 w2 acc w3 (ix2 p q)
      = acc (ix2 p q) + ∑ x : Fin 256, gateOf (∑ k, h (ix2 p k) * w1 (ix2 k x)) (∑ k, h (ix2 p k) * w2 (ix2 k x)) * w3 (ix2 x q) := fun w1 w2 w3 => by
    unfold gateOf
    pointwise [k0_pay8]
    simp only [zero_sub]
  unfold stepAt
  rw [key]
  refine congrArg _ (Finset.sum_congr rfl fun x _ => ?_)
  unfold act
  refine congrArg₂ _ (congrArg₂ _ (Finset.sum_congr rfl fun k' _ => ?_) (Finset.sum_congr rfl fun k' _ => ?_)) rfl
  · rfl
  · refine congrArg (fun t => _ * x4 (ix2 k' t)) (Fin.ext ?_)
    show 2816 + 256 * k.val + x.val = 2816 + (256 * k.val + x.val)
    omega

theorem fold_at (h : FVec Ideal S1024x1024 .bf16) (x4 : Vec Ideal S1024x5632 .bf16) (x5 : Vec Ideal S2816x1024 .bf16) (acc : Vec Ideal S1024x1024 .f32) (p q : Fin 1024) :
    foldAt h x4 x5 acc (ix2 p q) = acc (ix2 p q) + ∑ j, act (fun q => h (ix2 p q)) (fun k q => x4 (ix2 k q)) j * x5 (ix2 j q) := by
  unfold foldAt
  rw [step_at, step_at, step_at, step_at, step_at, step_at, step_at, step_at, step_at, step_at, step_at, sum_chunks]
  exact chunk_fold _ (fun k => ∑ x : Fin 256, act (fun q => h (ix2 p q)) (fun k q => x4 (ix2 k q)) ⟨256 * k.val + x.val, by omega⟩ * x5 (ix2 ⟨256 * k.val + x.val, by omega⟩ q))

/-- The rows before the last norm. -/
theorem fed_at (x0 : Vec Ideal S1024x1024 .f32) (x1 : Vec Ideal S1024x2048 .bf16) (x2 : Vec Ideal S2048x1024 .bf16) (x3 : Vec Ideal S1x1024 .f32) (x4 : Vec Ideal S1024x5632 .bf16) (x5 : Vec Ideal S2816x1024 .bf16) (p q : Fin 1024) :
    foldAt (k0_pay3 x0 x1 x2 x3) x4 x5 (k0_pay2 x0 x1 x2) (ix2 p q) = fedRow (fun q => x0 (ix2 p q)) (fun k => x1 (ix2 p k)) (fun k q => x2 (ix2 k q)) (fun q => x3 (ix2 0 q)) (fun k q => x4 (ix2 k q)) (fun k q => x5 (ix2 k q)) q := by
  have hm : (fun q => k0_pay2 x0 x1 x2 (ix2 p q)) = mix (fun q => x0 (ix2 p q)) (fun k => x1 (ix2 p k)) (fun k q => x2 (ix2 k q)) := funext fun q => mix_at x0 x1 x2 p q
  have hn : (fun q => k0_pay3 x0 x1 x2 x3 (ix2 p q)) = nrm (mix (fun q => x0 (ix2 p q)) (fun k => x1 (ix2 p k)) (fun k q => x2 (ix2 k q))) (fun q => x3 (ix2 0 q)) := by
    funext q
    rw [nrm_first, hm]
  rw [fold_at, hn, mix_at]
  rfl

theorem outB_at (x0 : Vec Ideal S1024x1024 .f32) (x1 : Vec Ideal S1024x2048 .bf16) (x2 : Vec Ideal S2048x1024 .bf16) (x3 : Vec Ideal S1x1024 .f32) (x4 : Vec Ideal S1024x5632 .bf16) (x5 : Vec Ideal S2816x1024 .bf16) (x6 : Vec Ideal S1x1024 .f32) (p q : Fin 1024) :
    outB x0 x1 x2 x3 x4 x5 x6 (ix2 p q) = rowOut (fun q => x0 (ix2 p q)) (fun k => x1 (ix2 p k)) (fun k q => x2 (ix2 k q)) (fun q => x3 (ix2 0 q)) (fun k q => x4 (ix2 k q)) (fun k q => x5 (ix2 k q)) (fun q => x6 (ix2 0 q)) q := by
  unfold outB rowOut
  rw [nrm_last]
  exact congrArg (fun v => nrm v _ q) (funext fun q => fed_at x0 x1 x2 x3 x4 x5 p q)

end Cert.Kernel2Ideal.Hand

end
-- ==== Proof.FfnArr.lean ====
module

public import proofs.«01_k».proof.Proof.FfnElt
public import Idealize.ShloMosaic.Lib.Claim
public import Idealize.ShloMosaic.Lib.Pipeline.Covers

@[expose] public section

set_option maxRecDepth 16384

noncomputable section

namespace Cert.Kernel2Ideal.Hand

open Cert.Kernel2Ideal Cert.Kernel2Ideal.Gen
open Idealize.ShloMosaic Idealize.ShloMosaic.TcCoe
open Idealize.SL.Sem
open Cert.Ffn

/-! ## The blocks at a grid point, and the array they leave -/

/-- The tile of rows of a grid point. -/
def tr (t : Fin cfg0.N) : Fin 32 := grid0.coords t 0

theorem nr (t : Fin cfg0.N) : (BitVec.ofNat 32 (grid0.coords t 0).val).toNat = (tr t).val := by
  have h : (grid0.coords t 0).val < 32 := (tr t).isLt
  rw [BitVec.toNat_ofNat]
  show (tr t).val % 2 ^ 32 = (tr t).val
  have := (tr t).isLt
  omega

theorem ix_0 (t : Fin cfg0.N) : win0_0.index t = ![(tr t).val, 0] := by rw [← nr]; rfl
theorem ix_1 (t : Fin cfg0.N) : win0_1.index t = ![(tr t).val, 0] := by rw [← nr]; rfl
theorem ix_2 (t : Fin cfg0.N) : win0_2.index t = ![0, 0] := rfl
theorem ix_3 (t : Fin cfg0.N) : win0_3.index t = ![0, 0] := rfl
theorem ix_4 (t : Fin cfg0.N) : win0_4.index t = ![0, 0] := rfl
theorem ix_5 (t : Fin cfg0.N) : win0_5.index t = ![0, 0] := rfl
theorem ix_6 (t : Fin cfg0.N) : win0_6.index t = ![0, 0] := rfl
theorem ix_7 (t : Fin cfg0.N) : win0_7.index t = ![(tr t).val, 0] := by rw [← nr]; rfl

variable (m : (ℓ : Loc nD τ sig) → Buf (Elt Ideal) ℓ) (c : Dev nD) (t : Fin cfg0.N)

theorem blk_x (p q : Fin 1024) : iblk m c 0 t (ix2 p q) = m ((c : Thread nD τ).loc main_arg0) (ix2 ⟨1024 * (tr t).val + p.val, by omega⟩ q) := by
  blk_ext! [iblk, V, ix_0 t]

theorem blk_a (p : Fin 1024) (k : Fin 2048) : iblk m c 1 t (ix2 p k) = m ((c : Thread nD τ).loc main_arg1) (ix2 ⟨1024 * (tr t).val + p.val, by omega⟩ k) := by
  blk_ext! [iblk, V, ix_1 t]

theorem blk_wa (k : Fin 2048) (q : Fin 1024) : iblk m c 2 t (ix2 k q) = m ((c : Thread nD τ).loc main_arg2) (ix2 k q) := by
  blk_ext! [iblk, V, ix_2 t]

theorem blk_nw (q : Fin 1024) : iblk m c 3 t (ix2 0 q) = m ((c : Thread nD τ).loc main_arg3) (ix1 q) := by
  blk_ext! [iblk, V, ix_3 t]

theorem blk_wi (k : Fin 1024) (q : Fin 5632) : iblk m c 4 t (ix2 k q) = m ((c : Thread nD τ).loc main_arg4) (ix2 k q) := by
  blk_ext! [iblk, V, ix_4 t]

theorem blk_wo (k : Fin 2816) (q : Fin 1024) : iblk m c 5 t (ix2 k q) = m ((c : Thread nD τ).loc main_arg5) (ix2 k q) := by
  blk_ext! [iblk, V, ix_5 t]

theorem blk_fw (q : Fin 1024) : iblk m c 6 t (ix2 0 q) = m ((c : Thread nD τ).loc main_arg6) (ix1 q) := by
  blk_ext! [iblk, V, ix_6 t]

/-- The array of rows the program leaves. -/
def G : Vec Ideal S32768x1024 .f32 := fun y =>
  rowOut (fun q => m ((c : Thread nD τ).loc main_arg0) (ix2 (y 0) q)) (fun k => m ((c : Thread nD τ).loc main_arg1) (ix2 (y 0) k)) (fun k q => m ((c : Thread nD τ).loc main_arg2) (ix2 k q))
    (fun q => m ((c : Thread nD τ).loc main_arg3) (ix1 q)) (fun k q => m ((c : Thread nD τ).loc main_arg4) (ix2 k q)) (fun k q => m ((c : Thread nD τ).loc main_arg5) (ix2 k q))
    (fun q => m ((c : Thread nD τ).loc main_arg6) (ix1 q)) (y 1)

theorem emb_out (p q : Fin 1024) (g : S32768x1024.Idx → EReal) : g ((win0_7.blk t).view.emb (ix2 p q)) = g (ix2 ⟨1024 * (tr t).val + p.val, by omega⟩ q) := by
  blk_ext! [ix_7 t]

theorem block_at (p q : Fin 1024) : outB (F := Ideal) (iblk m c 0 t) (iblk m c 1 t) (iblk m c 2 t) (iblk m c 3 t) (iblk m c 4 t) (iblk m c 5 t) (iblk m c 6 t) (ix2 p q)
    = G m c (ix2 ⟨1024 * (tr t).val + p.val, by omega⟩ q) := by
  refine (outB_at _ _ _ _ _ _ _ p q).trans ?_
  unfold G
  simp only [blk_x, blk_a, blk_wa, blk_nw, blk_wi, blk_wo, blk_fw]
  rfl

theorem after_eq : (dats m 0 c).after 7 t = outB (F := Ideal) (iblk m c 0 t) (iblk m c 1 t) (iblk m c 2 t) (iblk m c 3 t) (iblk m c 4 t) (iblk m c 5 t) (iblk m c 6 t) := by
  rw [after0_7]
  unfold outsAt0
  exact out_eq c _ _ _ _ _ _ _ _ _ _ _ _ _ _ _ _ _ _ _ _ _ _ _ _

theorem out_arr : (dats m 0 c).arrAt 7 cfg0.N = G m c := by
  refine (dats m 0 c).arrAt_eq_of_covers 7 (G m c) ((cfg0.win 7).covers_of_indexMap_surj rfl (by decide) fun β => ?_) fun t hf y => ?_
  · have b0 : (β 0).val < 32 := (β 0).isLt
    have b1 : (β 1).val < 1 := (β 1).isLt
    refine ⟨fun a => match a with | ⟨0, _⟩ => ⟨(β 0).val, b0⟩, fun a => ?_⟩
    match a with
    | ⟨0, _⟩ =>
      show (BitVec.ofNat 32 (β 0).val).toNat = (β 0).val
      rw [BitVec.toNat_ofNat]
      omega
    | ⟨1, _⟩ =>
      show 0 = (β 1).val
      omega
  · rw [after_eq]
    blk_simp
    have key : ∀ y : S1024x1024.Idx, outB (F := Ideal) (iblk m c 0 t) (iblk m c 1 t) (iblk m c 2 t) (iblk m c 3 t) (iblk m c 4 t) (iblk m c 5 t) (iblk m c 6 t) y = G m c ((win0_7.blk t).view.emb y) := fun y => by
      obtain ⟨p, q, rfl⟩ : ∃ (p q : Fin 1024), y = ix2 p q := ⟨y 0, y 1, by
        funext a
        match a with
        | ⟨0, _⟩ => rfl
        | ⟨1, _⟩ => rfl⟩
      rw [emb_out t p q (G m c)]
      exact block_at m c t p q
    exact key y

end Cert.Kernel2Ideal.Hand

end
-- ==== Proof.FfnRef.lean ====
module

public import proofs.«01_k».proof.Proof.Gen.Reference2Ideal.Run
public import proofs.«01_k».proof.Proof.FfnSpec
public import Idealize.ShloMosaic.Lib.Pointwise
public import Idealize.ShloMosaic.PureOps.Ideal

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe
open Cert.Ffn

/-! ## The reference, part by part -/

/-- The input with the projection added. -/
def mixed (x : FVec Ideal S32768x1024 .f32) (a : FVec Ideal S32768x2048 .bf16) (wa : FVec Ideal S2048x1024 .f32) : FVec Ideal S32768x1024 .f32 :=
  addf x (Host.dotGeneral dot_S32768x2048_S2048x1024_S32768x1024_1_0_0_1_n_n none (extf .f32 a bitsLt_bf16_f32) wa)

/-- The rows, normalized and scaled. -/
def normed (x : FVec Ideal S32768x1024 .f32) (w : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The gates and what they gate. -/
def hidden (h : FVec Ideal S32768x1024 .f32) (wi : FVec Ideal S1024x5632 .f32) : FVec Ideal S32768x5632 .f32 :=
  Host.dotGeneral dot_S32768x1024_S1024x5632_S32768x5632_1_0_0_1_n_n none h wi

/-- The hidden columns, gated. -/
def gated (y : FVec Ideal S32768x5632 .f32) : FVec Ideal S32768x2816 .f32 :=
  let g := extractStridedSlice S32768x2816 ![0, 0] y slices_S32768x5632_S32768x2816_0_0
  mulf (mulf g (Host.divf (broadcastInDim S32768x2816 ![] bcast_S_S32768x2816 (constant S_ .f32 0x3F800000#32)) (addf (broadcastInDim S32768x2816 ![] bcast_S_S32768x2816 (constant S_ .f32 0x3F800000#32)) (Host.exp (Host.negf g)))))
    (extractStridedSlice S32768x2816 ![0, 2816] y slices_S32768x5632_S32768x2816_0_2816)

/-- The rows with the gated columns' product added. -/
def fed (x : FVec Ideal S32768x1024 .f32) (y : FVec Ideal S32768x2816 .f32) (wo : FVec Ideal S2816x1024 .f32) : FVec Ideal S32768x1024 .f32 :=
  addf x (Host.dotGeneral dot_S32768x2816_S2816x1024_S32768x1024_1_0_0_1_n_n none y wo)

set_option maxHeartbeats 4000000 in
theorem res_eq (m : (ℓ : Loc nD τ sig) → Buf (Elt Ideal) ℓ) (c : Dev nD) : res_main_v35 m c
    = (let x := mixed (m ((c.tc : Thread nD τ).loc main_arg0)) (m ((c.tc : Thread nD τ).loc main_arg1)) (m ((c.tc : Thread nD τ).loc main_arg2))
      normed (fed x (gated (hidden (normed x (m ((c.tc : Thread nD τ).loc main_arg3))) (m ((c.tc : Thread nD τ).loc main_arg4)))) (m ((c.tc : Thread nD τ).loc main_arg5))) (m ((c.tc : Thread nD τ).loc main_arg6))) := rfl

theorem mixed_at (x : FVec Ideal S32768x1024 .f32) (a : FVec Ideal S32768x2048 .bf16) (wa : FVec Ideal S2048x1024 .f32) (r : Fin 32768) (q : Fin 1024) :
    mixed x a wa (ix2 r q) = mix (fun q => x (ix2 r q)) (fun k => a (ix2 r k)) (fun k q => wa (ix2 k q)) q := by
  unfold mix
  pointwise [mixed]

theorem normed_at (x : FVec Ideal S32768x1024 .f32) (w : FVec Ideal S1024 .f32) (r : Fin 32768) (q : Fin 1024) :
    normed x w (ix2 r q) = nrm (fun q => x (ix2 r q)) (fun q => w (ix1 q)) q := by
  unfold nrm
  pointwise [normed]

theorem gated_at (y : FVec Ideal S32768x5632 .f32) (r : Fin 32768) (q : Fin 2816) :
    gated y (ix2 r q) = gateOf (y (ix2 r ⟨q.val, by omega⟩)) (y (ix2 r ⟨2816 + q.val, by omega⟩)) := by
  unfold gateOf
  pointwise [gated]

theorem hidden_at (h : FVec Ideal S32768x1024 .f32) (wi : FVec Ideal S1024x5632 .f32) (r : Fin 32768) (q : Fin 5632) : hidden h wi (ix2 r q) = ∑ k, h (ix2 r k) * wi (ix2 k q) := by
  pointwise [hidden]

theorem fed_at (x : FVec Ideal S32768x1024 .f32) (y : FVec Ideal S32768x2816 .f32) (wo : FVec Ideal S2816x1024 .f32) (r : Fin 32768) (q : Fin 1024) :
    fed x y wo (ix2 r q) = x (ix2 r q) + ∑ j, y (ix2 r j) * wo (ix2 j q) := by
  pointwise [fed]

/-- The reference's result, at an index. -/
theorem ref_at (x : FVec Ideal S32768x1024 .f32) (a : FVec Ideal S32768x2048 .bf16) (wa : FVec Ideal S2048x1024 .f32) (nw : FVec Ideal S1024 .f32) (wi : FVec Ideal S1024x5632 .f32) (wo : FVec Ideal S2816x1024 .f32) (fw : FVec Ideal S1024 .f32) (r : Fin 32768) (q : Fin 1024) :
    normed (fed (mixed x a wa) (gated (hidden (normed (mixed x a wa) nw) wi)) wo) fw (ix2 r q)
      = rowOut (fun q => x (ix2 r q)) (fun k => a (ix2 r k)) (fun k q => wa (ix2 k q)) (fun q => nw (ix1 q)) (fun k q => wi (ix2 k q)) (fun k q => wo (ix2 k q)) (fun q => fw (ix1 q)) q := by
  unfold rowOut fedRow act
  simp only [normed_at, fed_at, gated_at, hidden_at, mixed_at]

end Cert.Reference2Ideal.Hand

end
-- ==== Proof.FfnOut3.lean ====
module

public import proofs.«01_k».proof.Proof.Gen.Kernel3Ideal.Value
public import proofs.«01_k».proof.Proof.FfnElt

@[expose] public section

set_option maxRecDepth 16384

noncomputable section

namespace Cert.Kernel3Ideal.Hand

open Cert.Kernel3Ideal Cert.Kernel3Ideal.Gen
open Idealize.ShloMosaic Idealize.ShloMosaic.TcCoe
open Cert.Ffn (readAt_unread ld_wcol ld_wrow last_read)
open Cert.Kernel2Ideal.Hand (foldAt)

/-! ## What one grid point writes: the rows with the projection, then the chunks added in -/

variable {F : FTy → Type} [FloatOps F]
variable (c : Dev nD) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole)
    (x0 : Vec F S1024x1024 .f32) (x1 : Vec F S1024x1024 .bf16) (x2 : Vec F S1024x1024 .bf16) (x3 : Vec F S1x1024 .f32) (x4 : Vec F S1024x5632 .bf16) (x5 : Vec F S2816x1024 .bf16) (x6 : Vec F S1x1024 .f32)

/-- What the body leaves in the output's block. -/
def outB (x0 : Vec F S1024x1024 .f32) (x1 : Vec F S1024x1024 .bf16) (x2 : Vec F S1024x1024 .bf16) (x3 : Vec F S1x1024 .f32) (x4 : Vec F S1024x5632 .bf16) (x5 : Vec F S2816x1024 .bf16) : FVec F S1024x1024 .f32 :=
  foldAt (k0_pay3 x0 x1 x2 x3) x4 x5 (k0_pay2 x0 x1 x2)

/-- One grid point writes `outB` of its blocks. -/
theorem out_eq (i : grid0.Coords) : out0_A_7 c i arg1 harg1 arg2 harg2 arg3 harg3 arg4 harg4 arg5 harg5 arg6 harg6 arg7 harg7 arg8 harg8 x0 x1 x2 x3 x4 x5 x6 = outB x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  refine (View.canon_cons_unit_lit (S := S1024x1024) _ _ _ (by decide)).trans ?_
  rw [kernelRun0_A.sl.r_13, kernelRun0_A.sl.r_14, kernelRun0_A.sl.v268, kernelRun0_A.sl.H7_11, last_read,
    kernelRun0_A.sl.v245, kernelRun0_A.sl.H7_10, last_read,
    kernelRun0_A.sl.v222, kernelRun0_A.sl.H7_9, last_read,
    kernelRun0_A.sl.v199, kernelRun0_A.sl.H7_8, last_read,
    kernelRun0_A.sl.v176, kernelRun0_A.sl.H7_7, last_read,
    kernelRun0_A.sl.v153, kernelRun0_A.sl.H7_6, last_read,
    kernelRun0_A.sl.v130, kernelRun0_A.sl.H7_5, last_read,
    kernelRun0_A.sl.v107, kernelRun0_A.sl.H7_4, last_read,
    kernelRun0_A.sl.v84, kernelRun0_A.sl.H7_3, last_read,
    kernelRun0_A.sl.v61, kernelRun0_A.sl.H7_2, last_read,
    kernelRun0_A.sl.v38, kernelRun0_A.sl.H7_1, last_read]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [readAt_unread harg1, readAt_unread harg2, readAt_unread harg3, readAt_unread harg4, readAt_unread harg5, readAt_unread harg6]
  simp only [ld_wcol, ld_wrow, Nat.reduceAdd, Nat.reduceLeDiff]
  rw [View.ld_unit_lit _ x0 (by decide), View.ld_unit_lit _ x1 (by decide), View.ld_unit_lit _ x2 (by decide), View.ld_unit_lit _ x3 (by decide)]
  rfl

end Cert.Kernel3Ideal.Hand

end
-- ==== Proof.FfnElt3.lean ====
module

public import proofs.«01_k».proof.Proof.FfnOut3
public import proofs.«01_k».proof.Proof.FfnSpec
public import Idealize.ShloMosaic.Lib.Pointwise
public import Idealize.ShloMosaic.PureOps.Ideal

@[expose] public section

set_option maxRecDepth 16384

noncomputable section

namespace Cert.Kernel3Ideal.Hand

open Cert.Kernel3Ideal Cert.Kernel3Ideal.Gen
open Idealize.ShloMosaic Idealize.ShloMosaic.TcCoe

open Cert.Ffn

/-! ## What one grid point writes, at an index -/

theorem mix_at (x0 : Vec Ideal S1024x1024 .f32) (x1 : Vec Ideal S1024x1024 .bf16) (x2 : Vec Ideal S1024x1024 .bf16) (p q : Fin 1024) :
    k0_pay2 x0 x1 x2 (ix2 p q) = mix (fun q => x0 (ix2 p q)) (fun k => x1 (ix2 p k)) (fun k q => x2 (ix2 k q)) q := by
  unfold mix
  pointwise [k0_pay2]

theorem nrm_first (x0 : Vec Ideal S1024x1024 .f32) (x1 : Vec Ideal S1024x1024 .bf16) (x2 : Vec Ideal S1024x1024 .bf16) (w : Vec Ideal S1x1024 .f32) (p q : Fin 1024) :
    k0_pay3 x0 x1 x2 w (ix2 p q) = nrm (fun q => k0_pay2 x0 x1 x2 (ix2 p q)) (fun q => w (ix2 0 q)) q := by
  unfold nrm
  generalize hv : k0_pay2 x0 x1 x2 = v
  unfold k0_pay3
  rw [hv]
  pointwise

theorem outB_at (x0 : Vec Ideal S1024x1024 .f32) (x1 : Vec Ideal S1024x1024 .bf16) (x2 : Vec Ideal S1024x1024 .bf16) (x3 : Vec Ideal S1x1024 .f32) (x4 : Vec Ideal S1024x5632 .bf16) (x5 : Vec Ideal S2816x1024 .bf16) (p q : Fin 1024) :
    outB x0 x1 x2 x3 x4 x5 (ix2 p q) = fedRow (fun q => x0 (ix2 p q)) (fun k => x1 (ix2 p k)) (fun k q => x2 (ix2 k q)) (fun q => x3 (ix2 0 q)) (fun k q => x4 (ix2 k q)) (fun k q => x5 (ix2 k q)) q := by
  have hm : (fun q => k0_pay2 x0 x1 x2 (ix2 p q)) = mix (fun q => x0 (ix2 p q)) (fun k => x1 (ix2 p k)) (fun k q => x2 (ix2 k q)) := funext fun q => mix_at x0 x1 x2 p q
  have hn : (fun q => k0_pay3 x0 x1 x2 x3 (ix2 p q)) = nrm (mix (fun q => x0 (ix2 p q)) (fun k => x1 (ix2 p k)) (fun k q => x2 (ix2 k q))) (fun q => x3 (ix2 0 q)) := by
    funext q
    rw [nrm_first, hm]
  unfold outB
  rw [Cert.Kernel2Ideal.Hand.fold_at, hn, mix_at]
  rfl

end Cert.Kernel3Ideal.Hand

end
-- ==== Proof.FfnOut4.lean ====
module

public import proofs.«01_k».proof.Proof.Gen.Kernel4Ideal.Value
public import proofs.«01_k».proof.Proof.FfnElt

@[expose] public section

set_option maxRecDepth 16384

noncomputable section

namespace Cert.Kernel4Ideal.Hand

open Cert.Kernel4Ideal Cert.Kernel4Ideal.Gen
open Idealize.ShloMosaic Idealize.ShloMosaic.TcCoe
open Cert.Ffn (readAt_unread ld_wcol ld_wrow last_read)
open Cert.Kernel2Ideal.Hand (foldAt)

/-! ## What one grid point writes: the rows with the projection, then the chunks added in -/

variable {F : FTy → Type} [FloatOps F]
variable (c : Dev nD) (arg1 : Memref sig .tc .vmem S1024x1024 .f32) (harg1 : arg1.IsWhole) (arg2 : Memref sig .tc .vmem S1024x2048 .bf16) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1024 .f32) (harg8 : arg8.IsWhole)
    (x0 : Vec F S1024x1024 .f32) (x1 : Vec F S1024x2048 .bf16) (x2 : Vec F S2048x1024 .bf16) (x3 : Vec F S1x1024 .f32) (x4 : Vec F S1024x5632 .bf16) (x5 : Vec F S2816x1024 .bf16) (x6 : Vec F S1x1024 .f32)

/-- What the body leaves in the output's block. -/
def outB (x0 : Vec F S1024x1024 .f32) (x1 : Vec F S1024x2048 .bf16) (x2 : Vec F S2048x1024 .bf16) (x3 : Vec F S1x1024 .f32) (x4 : Vec F S1024x5632 .bf16) (x5 : Vec F S2816x1024 .bf16) : FVec F S1024x1024 .f32 :=
  foldAt (k0_pay3 x0 x1 x2 x3) x4 x5 (k0_pay2 x0 x1 x2)

/-- One grid point writes `outB` of its blocks. -/
theorem out_eq (i : grid0.Coords) : out0_A_7 c i arg1 harg1 arg2 harg2 arg3 harg3 arg4 harg4 arg5 harg5 arg6 harg6 arg7 harg7 arg8 harg8 x0 x1 x2 x3 x4 x5 x6 = outB x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  refine (View.canon_cons_unit_lit (S := S1024x1024) _ _ _ (by decide)).trans ?_
  rw [kernelRun0_A.sl.r_13, kernelRun0_A.sl.r_14, kernelRun0_A.sl.v268, kernelRun0_A.sl.H7_11, last_read,
    kernelRun0_A.sl.v245, kernelRun0_A.sl.H7_10, last_read,
    kernelRun0_A.sl.v222, kernelRun0_A.sl.H7_9, last_read,
    kernelRun0_A.sl.v199, kernelRun0_A.sl.H7_8, last_read,
    kernelRun0_A.sl.v176, kernelRun0_A.sl.H7_7, last_read,
    kernelRun0_A.sl.v153, kernelRun0_A.sl.H7_6, last_read,
    kernelRun0_A.sl.v130, kernelRun0_A.sl.H7_5, last_read,
    kernelRun0_A.sl.v107, kernelRun0_A.sl.H7_4, last_read,
    kernelRun0_A.sl.v84, kernelRun0_A.sl.H7_3, last_read,
    kernelRun0_A.sl.v61, kernelRun0_A.sl.H7_2, last_read,
    kernelRun0_A.sl.v38, kernelRun0_A.sl.H7_1, last_read]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [readAt_unread harg1, readAt_unread harg2, readAt_unread harg3, readAt_unread harg4, readAt_unread harg5, readAt_unread harg6]
  simp only [ld_wcol, ld_wrow, Nat.reduceAdd, Nat.reduceLeDiff]
  rw [View.ld_unit_lit _ x0 (by decide), View.ld_unit_lit _ x1 (by decide), View.ld_unit_lit _ x2 (by decide), View.ld_unit_lit _ x3 (by decide)]
  rfl

end Cert.Kernel4Ideal.Hand

end
-- ==== Proof.FfnArr4.lean ====
module

public import proofs.«01_k».proof.Proof.FfnOut4
public import Idealize.ShloMosaic.Lib.Claim
public import Idealize.ShloMosaic.Lib.Pipeline.Covers

@[expose] public section

set_option maxRecDepth 16384

noncomputable section

namespace Cert.Kernel4Ideal.Hand

open Cert.Kernel4Ideal Cert.Kernel4Ideal.Gen
open Idealize.ShloMosaic Idealize.ShloMosaic.TcCoe
open Idealize.SL.Sem
open Cert.Ffn

/-! ## The blocks at a grid point, and the array they leave -/

/-- The tile of rows of a grid point. -/
def tr (t : Fin cfg0.N) : Fin 32 := grid0.coords t 0

theorem nr (t : Fin cfg0.N) : (BitVec.ofNat 32 (grid0.coords t 0).val).toNat = (tr t).val := by
  have h : (grid0.coords t 0).val < 32 := (tr t).isLt
  rw [BitVec.toNat_ofNat]
  show (tr t).val % 2 ^ 32 = (tr t).val
  have := (tr t).isLt
  omega

theorem ix_0 (t : Fin cfg0.N) : win0_0.index t = ![(tr t).val, 0] := by rw [← nr]; rfl
theorem ix_1 (t : Fin cfg0.N) : win0_1.index t = ![(tr t).val, 0] := by rw [← nr]; rfl
theorem ix_2 (t : Fin cfg0.N) : win0_2.index t = ![0, 0] := rfl
theorem ix_3 (t : Fin cfg0.N) : win0_3.index t = ![0, 0] := rfl
theorem ix_4 (t : Fin cfg0.N) : win0_4.index t = ![0, 0] := rfl
theorem ix_5 (t : Fin cfg0.N) : win0_5.index t = ![0, 0] := rfl
theorem ix_7 (t : Fin cfg0.N) : win0_7.index t = ![(tr t).val, 0] := by rw [← nr]; rfl

variable (m : (ℓ : Loc nD τ sig) → Buf (Elt Ideal) ℓ) (c : Dev nD) (t : Fin cfg0.N)

theorem blk_x (p q : Fin 1024) : iblk m c 0 t (ix2 p q) = m ((c : Thread nD τ).loc main_arg0) (ix2 ⟨1024 * (tr t).val + p.val, by omega⟩ q) := by
  blk_ext! [iblk, V, ix_0 t]

theorem blk_a (p : Fin 1024) (k : Fin 2048) : iblk m c 1 t (ix2 p k) = m ((c : Thread nD τ).loc main_arg1) (ix2 ⟨1024 * (tr t).val + p.val, by omega⟩ k) := by
  blk_ext! [iblk, V, ix_1 t]

theorem blk_wa (k : Fin 2048) (q : Fin 1024) : iblk m c 2 t (ix2 k q) = m ((c : Thread nD τ).loc main_arg2) (ix2 k q) := by
  blk_ext! [iblk, V, ix_2 t]

theorem blk_nw (q : Fin 1024) : iblk m c 3 t (ix2 0 q) = m ((c : Thread nD τ).loc main_arg3) (ix1 q) := by
  blk_ext! [iblk, V, ix_3 t]

theorem blk_wi (k : Fin 1024) (q : Fin 5632) : iblk m c 4 t (ix2 k q) = m ((c : Thread nD τ).loc main_arg4) (ix2 k q) := by
  blk_ext! [iblk, V, ix_4 t]

theorem blk_wo (k : Fin 2816) (q : Fin 1024) : iblk m c 5 t (ix2 k q) = m ((c : Thread nD τ).loc main_arg5) (ix2 k q) := by
  blk_ext! [iblk, V, ix_5 t]

theorem outB_at (x0 : Vec Ideal S1024x1024 .f32) (x1 : Vec Ideal S1024x2048 .bf16) (x2 : Vec Ideal S2048x1024 .bf16) (x3 : Vec Ideal S1x1024 .f32) (x4 : Vec Ideal S1024x5632 .bf16) (x5 : Vec Ideal S2816x1024 .bf16) (p q : Fin 1024) :
    outB x0 x1 x2 x3 x4 x5 (ix2 p q) = fedRow (fun q => x0 (ix2 p q)) (fun k => x1 (ix2 p k)) (fun k q => x2 (ix2 k q)) (fun q => x3 (ix2 0 q)) (fun k q => x4 (ix2 k q)) (fun k q => x5 (ix2 k q)) q :=
  Cert.Kernel2Ideal.Hand.fed_at x0 x1 x2 x3 x4 x5 p q

/-- The array of rows the program leaves. -/
def G : Vec Ideal S32768x1024 .f32 := fun y =>
  fedRow (fun q => m ((c : Thread nD τ).loc main_arg0) (ix2 (y 0) q)) (fun k => m ((c : Thread nD τ).loc main_arg1) (ix2 (y 0) k)) (fun k q => m ((c : Thread nD τ).loc main_arg2) (ix2 k q))
    (fun q => m ((c : Thread nD τ).loc main_arg3) (ix1 q)) (fun k q => m ((c : Thread nD τ).loc main_arg4) (ix2 k q)) (fun k q => m ((c : Thread nD τ).loc main_arg5) (ix2 k q)) (y 1)

theorem emb_out (p q : Fin 1024) (g : S32768x1024.Idx → EReal) : g ((win0_7.blk t).view.emb (ix2 p q)) = g (ix2 ⟨1024 * (tr t).val + p.val, by omega⟩ q) := by
  blk_ext! [ix_7 t]

theorem block_at (p q : Fin 1024) : outB (F := Ideal) (iblk m c 0 t) (iblk m c 1 t) (iblk m c 2 t) (iblk m c 3 t) (iblk m c 4 t) (iblk m c 5 t) (ix2 p q)
    = G m c (ix2 ⟨1024 * (tr t).val + p.val, by omega⟩ q) := by
  refine (outB_at _ _ _ _ _ _ p q).trans ?_
  unfold G
  simp only [blk_x, blk_a, blk_wa, blk_nw, blk_wi, blk_wo]
  rfl

theorem after_eq : (dats m 0 c).after 7 t = outB (F := Ideal) (iblk m c 0 t) (iblk m c 1 t) (iblk m c 2 t) (iblk m c 3 t) (iblk m c 4 t) (iblk m c 5 t) := by
  rw [after0_7]
  unfold outsAt0
  exact out_eq c _ _ _ _ _ _ _ _ _ _ _ _ _ _ _ _ _ _ _ _ _ _ _ _

theorem out_arr : (dats m 0 c).arrAt 7 cfg0.N = G m c := by
  refine (dats m 0 c).arrAt_eq_of_covers 7 (G m c) ((cfg0.win 7).covers_of_indexMap_surj rfl (by decide) fun β => ?_) fun t hf y => ?_
  · have b0 : (β 0).val < 32 := (β 0).isLt
    have b1 : (β 1).val < 1 := (β 1).isLt
    refine ⟨fun a => match a with | ⟨0, _⟩ => ⟨(β 0).val, b0⟩, fun a => ?_⟩
    match a with
    | ⟨0, _⟩ =>
      show (BitVec.ofNat 32 (β 0).val).toNat = (β 0).val
      rw [BitVec.toNat_ofNat]
      omega
    | ⟨1, _⟩ =>
      show 0 = (β 1).val
      omega
  · rw [after_eq]
    blk_simp
    have key : ∀ y : S1024x1024.Idx, outB (F := Ideal) (iblk m c 0 t) (iblk m c 1 t) (iblk m c 2 t) (iblk m c 3 t) (iblk m c 4 t) (iblk m c 5 t) y = G m c ((win0_7.blk t).view.emb y) := fun y => by
      obtain ⟨p, q, rfl⟩ : ∃ (p q : Fin 1024), y = ix2 p q := ⟨y 0, y 1, by
        funext a
        match a with
        | ⟨0, _⟩ => rfl
        | ⟨1, _⟩ => rfl⟩
      rw [emb_out t p q (G m c)]
      exact block_at m c t p q
    exact key y

end Cert.Kernel4Ideal.Hand

end
-- ==== Proof.FfnRef3.lean ====
module

public import proofs.«01_k».proof.Proof.Gen.Reference3Ideal.Run
public import proofs.«01_k».proof.Proof.Gen.Reference4Ideal.Run
public import proofs.«01_k».proof.Proof.FfnRef

@[expose] public section

set_option maxRecDepth 16384

noncomputable section

open Idealize.ShloMosaic Idealize.ShloMosaic.TcCoe
open Cert.Ffn Cert.Reference2Ideal.Hand

namespace Cert.Reference3Ideal.Hand

open Cert.Reference3Ideal Cert.Reference3Ideal.Gen Cert.Reference3Ideal.Value

/-! ## The reference of a layer that is not the last, after the attention -/

/-- The input with the projection added. -/
def mixed1 (x : FVec Ideal S32768x1024 .f32) (a : FVec Ideal S32768x1024 .bf16) (wa : FVec Ideal S1024x1024 .f32) : FVec Ideal S32768x1024 .f32 :=
  addf x (Host.dotGeneral dot_S32768x1024_S1024x1024_S32768x1024_1_0_0_1_n_n none (extf .f32 a bitsLt_bf16_f32) wa)

theorem mixed1_at (x : FVec Ideal S32768x1024 .f32) (a : FVec Ideal S32768x1024 .bf16) (wa : FVec Ideal S1024x1024 .f32) (r : Fin 32768) (q : Fin 1024) :
    mixed1 x a wa (ix2 r q) = mix (fun q => x (ix2 r q)) (fun k => a (ix2 r k)) (fun k q => wa (ix2 k q)) q := by
  unfold mix
  pointwise [mixed1]

set_option maxHeartbeats 4000000 in
theorem res_eq (m : (ℓ : Loc nD τ sig) → Buf (Elt Ideal) ℓ) (c : Dev nD) : res_main_v22 m c
    = (let x := mixed1 (m ((c.tc : Thread nD τ).loc main_arg0)) (m ((c.tc : Thread nD τ).loc main_arg1)) (m ((c.tc : Thread nD τ).loc main_arg2))
      fed x (gated (hidden (normed x (m ((c.tc : Thread nD τ).loc main_arg3))) (m ((c.tc : Thread nD τ).loc main_arg4)))) (m ((c.tc : Thread nD τ).loc main_arg5))) := rfl

/-- The reference's result, at an index. -/
theorem ref_at (x : FVec Ideal S32768x1024 .f32) (a : FVec Ideal S32768x1024 .bf16) (wa : FVec Ideal S1024x1024 .f32) (nw : FVec Ideal S1024 .f32) (wi : FVec Ideal S1024x5632 .f32) (wo : FVec Ideal S2816x1024 .f32) (r : Fin 32768) (q : Fin 1024) :
    fed (mixed1 x a wa) (gated (hidden (normed (mixed1 x a wa) nw) wi)) wo (ix2 r q)
      = fedRow (fun q => x (ix2 r q)) (fun k => a (ix2 r k)) (fun k q => wa (ix2 k q)) (fun q => nw (ix1 q)) (fun k q => wi (ix2 k q)) (fun k q => wo (ix2 k q)) q := by
  unfold fedRow act
  simp only [normed_at, fed_at, gated_at, hidden_at, mixed1_at]

end Cert.Reference3Ideal.Hand

namespace Cert.Reference4Ideal.Hand

open Cert.Reference4Ideal Cert.Reference4Ideal.Gen Cert.Reference4Ideal.Value

/-! ## The same after the spatial gating unit -/

set_option maxHeartbeats 4000000 in
theorem res_eq (m : (ℓ : Loc nD τ sig) → Buf (Elt Ideal) ℓ) (c : Dev nD) : res_main_v22 m c
    = (let x := mixed (m ((c.tc : Thread nD τ).loc main_arg0)) (m ((c.tc : Thread nD τ).loc main_arg1)) (m ((c.tc : Thread nD τ).loc main_arg2))
      fed x (gated (hidden (normed x (m ((c.tc : Thread nD τ).loc main_arg3))) (m ((c.tc : Thread nD τ).loc main_arg4)))) (m ((c.tc : Thread nD τ).loc main_arg5))) := rfl

/-- The reference's result, at an index. -/
theorem ref_at (x : FVec Ideal S32768x1024 .f32) (a : FVec Ideal S32768x2048 .bf16) (wa : FVec Ideal S2048x1024 .f32) (nw : FVec Ideal S1024 .f32) (wi : FVec Ideal S1024x5632 .f32) (wo : FVec Ideal S2816x1024 .f32) (r : Fin 32768) (q : Fin 1024) :
    fed (mixed x a wa) (gated (hidden (normed (mixed x a wa) nw) wi)) wo (ix2 r q)
      = fedRow (fun q => x (ix2 r q)) (fun k => a (ix2 r k)) (fun k q => wa (ix2 k q)) (fun q => nw (ix1 q)) (fun k q => wi (ix2 k q)) (fun k q => wo (ix2 k q)) q := by
  unfold fedRow act
  simp only [normed_at, fed_at, gated_at, hidden_at, mixed_at]

end Cert.Reference4Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_finite
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Value
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Value
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Value
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Run
public import proofs.«01_k».proof.Proof.KRun
public import proofs.«01_k».proof.Proof.Arr
public import proofs.«01_k».proof.Proof.RefF
public import proofs.«01_k».proof.Proof.Entries
public import proofs.«01_k».proof.Proof.FfnArr
public import proofs.«01_k».proof.Proof.FfnRef
public import proofs.«01_k».proof.Proof.FfnArr3
public import proofs.«01_k».proof.Proof.FfnArr4
public import proofs.«01_k».proof.Proof.FfnRef3
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Hand.quiescent (F := Bits) m ρ
theorem frame_ideal : Cert.quiescent_KernelIdeal := fun m ρ _ => Cert.KernelIdeal.Hand.quiescent (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem preserves : Cert.preserves_Kernel_KernelIdeal := IdealRules.named_const.statement _ _ _ _ _ rfl

theorem frame_ideal_finite : Cert.quiescent_KernelIdeal_pre_finite := fun m ρ _ => Cert.KernelIdeal.Hand.quiescent (F := Ideal) m ρ
theorem frame_reference_finite : Cert.quiescent_ReferenceIdeal_pre_finite := fun m ρ _ => frame_reference m ρ trivial

/-- Both leave the attention's array. -/
theorem algebraic : Cert.algebraic_KernelIdeal_ReferenceIdeal_pre_finite := fun m g m' g' hp hm => by
  have he := fun c => Cert.Pre_finite.Hand.entries _ _ _ _ _ _ (hp c)
  refine ⟨fun c => Cert.KernelIdeal.Hand.G m c,
    Cert.KernelIdeal.Hand.run_value m g (fun c => (he c).1) (fun c => (he c).2.1) (fun c => (he c).2.2.1) (fun c => (he c).2.2.2), ?_⟩
  refine (θ_run Cert.ReferenceIdeal.defs _ _).mono (fun r h c => ⟨(h c).1.trans ?_, (h c).2⟩) (Cert.ReferenceIdeal.Value.run (F := Ideal) m' g')
  rw [Cert.ReferenceIdeal.Hand.res_eq]
  obtain ⟨e0, e1, e2, e3, -, e5⟩ := hm c
  funext y
  obtain ⟨b, s, e, rfl⟩ : ∃ (b : Fin 2) (s : Fin 16384) (e : Fin 1024), y = ix3 b s e := ⟨y 0, y 1, y 2, by
    funext a
    match a with
    | ⟨0, _⟩ => rfl
    | ⟨1, _⟩ => rfl
    | ⟨2, _⟩ => rfl⟩
  rw [e0, e1, e2, e3, e5]
  exact Cert.ReferenceIdeal.Hand.ref_at _ _ _ _ _ (he c).1 (he c).2.1 (he c).2.2.1 (he c).2.2.2 b s e

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves2 : Cert.preserves_Kernel2_Kernel2Ideal := trivial

/-- Both leave the array of the last layer's rows. -/
theorem algebraic2 : Cert.algebraic_Kernel2Ideal_Reference2Ideal := fun m g m' g' _ hm => by
  refine ⟨fun c => Cert.Kernel2Ideal.Hand.G m c, ?_, ?_⟩
  · exact (θ_run Cert.Kernel2Ideal.defs _ _).mono (fun r h c => ⟨(h c).1.trans (Cert.Kernel2Ideal.Hand.out_arr m c), (h c).2⟩) (Cert.Kernel2Ideal.Value.run_blocks (F := Ideal) m g)
  refine (θ_run Cert.Reference2Ideal.defs _ _).mono (fun r h c => ⟨(h c).1.trans ?_, (h c).2⟩) (Cert.Reference2Ideal.Value.run (F := Ideal) m' g')
  rw [Cert.Reference2Ideal.Hand.res_eq]
  obtain ⟨e0, e1, e2, e3, e4, e5, e6⟩ := hm c
  funext y
  obtain ⟨r, q, rfl⟩ : ∃ (r : Fin 32768) (q : Fin 1024), y = ix2 r q := ⟨y 0, y 1, by
    funext a
    match a with
    | ⟨0, _⟩ => rfl
    | ⟨1, _⟩ => rfl⟩
  rw [e0, e1, e2, e3, e4, e5, e6]
  exact Cert.Reference2Ideal.Hand.ref_at _ _ _ _ _ _ _ r q

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves3 : Cert.preserves_Kernel3_Kernel3Ideal := trivial

/-- Both leave the rows after an attention layer. -/
theorem algebraic3 : Cert.algebraic_Kernel3Ideal_Reference3Ideal := fun m g m' g' _ hm => by
  refine ⟨fun c => Cert.Kernel3Ideal.Hand.G m c, ?_, ?_⟩
  · exact (θ_run Cert.Kernel3Ideal.defs _ _).mono (fun r h c => ⟨(h c).1.trans (Cert.Kernel3Ideal.Hand.out_arr m c), (h c).2⟩) (Cert.Kernel3Ideal.Value.run_blocks (F := Ideal) m g)
  refine (θ_run Cert.Reference3Ideal.defs _ _).mono (fun r h c => ⟨(h c).1.trans ?_, (h c).2⟩) (Cert.Reference3Ideal.Value.run (F := Ideal) m' g')
  rw [Cert.Reference3Ideal.Hand.res_eq]
  obtain ⟨e0, e1, e2, e3, e4, e5, -⟩ := hm c
  funext y
  obtain ⟨r, q, rfl⟩ : ∃ (r : Fin 32768) (q : Fin 1024), y = ix2 r q := ⟨y 0, y 1, by
    funext a
    match a with
    | ⟨0, _⟩ => rfl
    | ⟨1, _⟩ => rfl⟩
  rw [e0, e1, e2, e3, e4, e5]
  exact Cert.Reference3Ideal.Hand.ref_at _ _ _ _ _ _ r q

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
theorem preserves4 : Cert.preserves_Kernel4_Kernel4Ideal := trivial

/-- Both leave the rows after a layer of the spatial gating unit. -/
theorem algebraic4 : Cert.algebraic_Kernel4Ideal_Reference4Ideal := fun m g m' g' _ hm => by
  refine ⟨fun c => Cert.Kernel4Ideal.Hand.G m c, ?_, ?_⟩
  · exact (θ_run Cert.Kernel4Ideal.defs _ _).mono (fun r h c => ⟨(h c).1.trans (Cert.Kernel4Ideal.Hand.out_arr m c), (h c).2⟩) (Cert.Kernel4Ideal.Value.run_blocks (F := Ideal) m g)
  refine (θ_run Cert.Reference4Ideal.defs _ _).mono (fun r h c => ⟨(h c).1.trans ?_, (h c).2⟩) (Cert.Reference4Ideal.Value.run (F := Ideal) m' g')
  rw [Cert.Reference4Ideal.Hand.res_eq]
  obtain ⟨e0, e1, e2, e3, e4, e5, -⟩ := hm c
  funext y
  obtain ⟨r, q, rfl⟩ : ∃ (r : Fin 32768) (q : Fin 1024), y = ix2 r q := ⟨y 0, y 1, by
    funext a
    match a with
    | ⟨0, _⟩ => rfl
    | ⟨1, _⟩ => rfl⟩
  rw [e0, e1, e2, e3, e4, e5]
  exact Cert.Reference4Ideal.Hand.ref_at _ _ _ _ _ _ r q

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
    frame_kernel, frame_ideal, frame_ideal_finite, frame_reference, frame_reference_finite, frame_kernel2, frame_ideal2, frame_reference2, frame_kernel3, frame_ideal3, frame_reference3,
    frame_kernel4, frame_ideal4, frame_reference4, preserves, algebraic, preserves2, algebraic2, preserves3, algebraic3, preserves4, algebraic4⟩

end Cert.Proof

end
